-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_blocks_in_range [hPre_blocks_in_range : Cert.Pre_blocks_in_range.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_blocks_in_range.fn (F := Ideal) (m ((c.tc : Thread Cert.QuantiseIdeal.nD Cert.QuantiseIdeal.τ).loc Cert.QuantiseIdeal.main_arg0))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_blocks_in_range [hPre_blocks_in_range : Cert.Pre_blocks_in_range.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_blocks_in_range.fn (F := Ideal) (m ((c.tc : Thread Cert.QuantiseReferenceIdeal.nD Cert.QuantiseReferenceIdeal.τ).loc Cert.QuantiseReferenceIdeal.main_arg0))) = (fun _ => 1#1)

def Pre_QuantiseT (m : (ℓ : Loc Cert.QuantiseT.nD Cert.QuantiseT.τ Cert.QuantiseT.sig) → Buf (Elt Bits) ℓ) : Prop :=
  True

def Pre_QuantiseTIdeal (m : (ℓ : Loc Cert.QuantiseTIdeal.nD Cert.QuantiseTIdeal.τ Cert.QuantiseTIdeal.sig) → Buf (Elt Ideal) ℓ) : Prop :=
  True

def Pre_QuantiseTIdeal_blocks_in_range [hPre_blocks_in_range : Cert.Pre_blocks_in_range.Facts] (m : (ℓ : Loc Cert.QuantiseTIdeal.nD Cert.QuantiseTIdeal.τ Cert.QuantiseTIdeal.sig) → Buf (Elt Ideal) ℓ) : Prop :=
  ∀ c : Dev Cert.QuantiseTIdeal.nD,
    (Cert.Pre_blocks_in_range.fn (F := Ideal) (m ((c.tc : Thread Cert.QuantiseTIdeal.nD Cert.QuantiseTIdeal.τ).loc Cert.QuantiseTIdeal.main_arg0))) = (fun _ => 1#1)

def Pre_QuantiseTReferenceIdeal (m : (ℓ : Loc Cert.QuantiseTReferenceIdeal.nD Cert.QuantiseTReferenceIdeal.τ Cert.QuantiseTReferenceIdeal.sig) → Buf (Elt Ideal) ℓ) : Prop :=
  True

def Pre_QuantiseTReferenceIdeal_blocks_in_range [hPre_blocks_in_range : Cert.Pre_blocks_in_range.Facts] (m : (ℓ : Loc Cert.QuantiseTReferenceIdeal.nD Cert.QuantiseTReferenceIdeal.τ Cert.QuantiseTReferenceIdeal.sig) → Buf (Elt Ideal) ℓ) : Prop :=
  ∀ c : Dev Cert.QuantiseTReferenceIdeal.nD,
    (Cert.Pre_blocks_in_range.fn (F := Ideal) (m ((c.tc : Thread Cert.QuantiseTReferenceIdeal.nD Cert.QuantiseTReferenceIdeal.τ).loc Cert.QuantiseTReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseIdeal_pre_blocks_in_range [hQuantiseIdeal : Cert.QuantiseIdeal.Facts] [hPre_blocks_in_range : Cert.Pre_blocks_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_blocks_in_range m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def quiescent_QuantiseReferenceIdeal_pre_blocks_in_range [hQuantiseReferenceIdeal : Cert.QuantiseReferenceIdeal.Facts] [hPre_blocks_in_range : Cert.Pre_blocks_in_range.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_blocks_in_range m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def quiescent_QuantiseT [hQuantiseT : Cert.QuantiseT.Facts] : Prop :=
  ∀ (m : (ℓ : Loc Cert.QuantiseT.nD Cert.QuantiseT.τ Cert.QuantiseT.sig) → Buf (Elt Bits) ℓ) (g : Dev Cert.QuantiseT.nD → PrngReg), Pre_QuantiseT m →
    θ_run (Cert.QuantiseT.defs (F := Bits)) (onTc (τ := Cert.QuantiseT.τ) (Cert.QuantiseT.main (F := Bits))) ⟨m, fun _ => 0, g⟩ (fun r => (∀ c : Dev Cert.QuantiseT.nD,
      r.2.mem ((c.tc : Thread Cert.QuantiseT.nD Cert.QuantiseT.τ).loc Cert.QuantiseT.main_arg0) = m ((c.tc : Thread Cert.QuantiseT.nD Cert.QuantiseT.τ).loc Cert.QuantiseT.main_arg0))
      ∧ r.2.sem = fun _ => 0)

def quiescent_QuantiseTIdeal [hQuantiseTIdeal : Cert.QuantiseTIdeal.Facts] : Prop :=
  ∀ (m : (ℓ : Loc Cert.QuantiseTIdeal.nD Cert.QuantiseTIdeal.τ Cert.QuantiseTIdeal.sig) → Buf (Elt Ideal) ℓ) (g : Dev Cert.QuantiseTIdeal.nD → PrngReg), Pre_QuantiseTIdeal m →
    θ_run (Cert.QuantiseTIdeal.defs (F := Ideal)) (onTc (τ := Cert.QuantiseTIdeal.τ) (Cert.QuantiseTIdeal.main (F := Ideal))) ⟨m, fun _ => 0, g⟩ (fun r => (∀ c : Dev Cert.QuantiseTIdeal.nD,
      r.2.mem ((c.tc : Thread Cert.QuantiseTIdeal.nD Cert.QuantiseTIdeal.τ).loc Cert.QuantiseTIdeal.main_arg0) = m ((c.tc : Thread Cert.QuantiseTIdeal.nD Cert.QuantiseTIdeal.τ).loc Cert.QuantiseTIdeal.main_arg0))
      ∧ r.2.sem = fun _ => 0)

def quiescent_QuantiseTIdeal_pre_blocks_in_range [hQuantiseTIdeal : Cert.QuantiseTIdeal.Facts] [hPre_blocks_in_range : Cert.Pre_blocks_in_range.Facts] : Prop :=
  ∀ (m : (ℓ : Loc Cert.QuantiseTIdeal.nD Cert.QuantiseTIdeal.τ Cert.QuantiseTIdeal.sig) → Buf (Elt Ideal) ℓ) (g : Dev Cert.QuantiseTIdeal.nD → PrngReg), Pre_QuantiseTIdeal_blocks_in_range m →
    θ_run (Cert.QuantiseTIdeal.defs (F := Ideal)) (onTc (τ := Cert.QuantiseTIdeal.τ) (Cert.QuantiseTIdeal.main (F := Ideal))) ⟨m, fun _ => 0, g⟩ (fun r => (∀ c : Dev Cert.QuantiseTIdeal.nD,
      r.2.mem ((c.tc : Thread Cert.QuantiseTIdeal.nD Cert.QuantiseTIdeal.τ).loc Cert.QuantiseTIdeal.main_arg0) = m ((c.tc : Thread Cert.QuantiseTIdeal.nD Cert.QuantiseTIdeal.τ).loc Cert.QuantiseTIdeal.main_arg0))
      ∧ r.2.sem = fun _ => 0)

def quiescent_QuantiseTReferenceIdeal [hQuantiseTReferenceIdeal : Cert.QuantiseTReferenceIdeal.Facts] : Prop :=
  ∀ (m : (ℓ : Loc Cert.QuantiseTReferenceIdeal.nD Cert.QuantiseTReferenceIdeal.τ Cert.QuantiseTReferenceIdeal.sig) → Buf (Elt Ideal) ℓ) (g : Dev Cert.QuantiseTReferenceIdeal.nD → PrngReg), Pre_QuantiseTReferenceIdeal m →
    θ_run (Cert.QuantiseTReferenceIdeal.defs (F := Ideal)) (onTc (τ := Cert.QuantiseTReferenceIdeal.τ) (Cert.QuantiseTReferenceIdeal.main (F := Ideal))) ⟨m, fun _ => 0, g⟩ (fun r => (∀ c : Dev Cert.QuantiseTReferenceIdeal.nD,
      r.2.mem ((c.tc : Thread Cert.QuantiseTReferenceIdeal.nD Cert.QuantiseTReferenceIdeal.τ).loc Cert.QuantiseTReferenceIdeal.main_arg0) = m ((c.tc : Thread Cert.QuantiseTReferenceIdeal.nD Cert.QuantiseTReferenceIdeal.τ).loc Cert.QuantiseTReferenceIdeal.main_arg0))
      ∧ r.2.sem = fun _ => 0)

def quiescent_QuantiseTReferenceIdeal_pre_blocks_in_range [hQuantiseTReferenceIdeal : Cert.QuantiseTReferenceIdeal.Facts] [hPre_blocks_in_range : Cert.Pre_blocks_in_range.Facts] : Prop :=
  ∀ (m : (ℓ : Loc Cert.QuantiseTReferenceIdeal.nD Cert.QuantiseTReferenceIdeal.τ Cert.QuantiseTReferenceIdeal.sig) → Buf (Elt Ideal) ℓ) (g : Dev Cert.QuantiseTReferenceIdeal.nD → PrngReg), Pre_QuantiseTReferenceIdeal_blocks_in_range m →
    θ_run (Cert.QuantiseTReferenceIdeal.defs (F := Ideal)) (onTc (τ := Cert.QuantiseTReferenceIdeal.τ) (Cert.QuantiseTReferenceIdeal.main (F := Ideal))) ⟨m, fun _ => 0, g⟩ (fun r => (∀ c : Dev Cert.QuantiseTReferenceIdeal.nD,
      r.2.mem ((c.tc : Thread Cert.QuantiseTReferenceIdeal.nD Cert.QuantiseTReferenceIdeal.τ).loc Cert.QuantiseTReferenceIdeal.main_arg0) = m ((c.tc : Thread Cert.QuantiseTReferenceIdeal.nD Cert.QuantiseTReferenceIdeal.τ).loc Cert.QuantiseTReferenceIdeal.main_arg0))
      ∧ r.2.sem = fun _ => 0)

def preserves_Kernel_KernelIdeal : Prop :=
  IdealRules.named_const.Statement Cert.KernelIdeal.κ "cap_log2e" .f32 0x429044FE#32 ((50 * (Real.log 2)⁻¹ : ℝ) : EReal)

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseReferenceIdeal_pre_blocks_in_range [hQuantiseIdeal : Cert.QuantiseIdeal.Facts] [hQuantiseReferenceIdeal : Cert.QuantiseReferenceIdeal.Facts] [hPre_blocks_in_range : Cert.Pre_blocks_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal_blocks_in_range m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v28) = v0 c
          ∧ r.2.mem ((c.tc : Thread Cert.QuantiseReferenceIdeal.nD Cert.QuantiseReferenceIdeal.τ).loc Cert.QuantiseReferenceIdeal.main_v29) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def preserves_QuantiseT_QuantiseTIdeal : Prop :=
  True

def algebraic_QuantiseTIdeal_QuantiseTReferenceIdeal_pre_blocks_in_range [hQuantiseTIdeal : Cert.QuantiseTIdeal.Facts] [hQuantiseTReferenceIdeal : Cert.QuantiseTReferenceIdeal.Facts] [hPre_blocks_in_range : Cert.Pre_blocks_in_range.Facts] : Prop :=
  ∀ (m : (ℓ : Loc Cert.QuantiseTIdeal.nD Cert.QuantiseTIdeal.τ Cert.QuantiseTIdeal.sig) → Buf (Elt Ideal) ℓ) (g : Dev Cert.QuantiseTIdeal.nD → PrngReg)
    (m' : (ℓ : Loc Cert.QuantiseTReferenceIdeal.nD Cert.QuantiseTReferenceIdeal.τ Cert.QuantiseTReferenceIdeal.sig) → Buf (Elt Ideal) ℓ) (g' : Dev Cert.QuantiseTReferenceIdeal.nD → PrngReg), Pre_QuantiseTIdeal_blocks_in_range m →
    (∀ c : Dev Cert.QuantiseTIdeal.nD,
      m' ((c.tc : Thread Cert.QuantiseTReferenceIdeal.nD Cert.QuantiseTReferenceIdeal.τ).loc Cert.QuantiseTReferenceIdeal.main_arg0) = m ((c.tc : Thread Cert.QuantiseTIdeal.nD Cert.QuantiseTIdeal.τ).loc Cert.QuantiseTIdeal.main_arg0)) →
    ∃ (v0 : (c : Dev Cert.QuantiseTIdeal.nD) → Buf (Elt Ideal) ((c.tc : Thread Cert.QuantiseTIdeal.nD Cert.QuantiseTIdeal.τ).loc Cert.QuantiseTIdeal.main_v0_0)) (v1 : (c : Dev Cert.QuantiseTIdeal.nD) → Buf (Elt Ideal) ((c.tc : Thread Cert.QuantiseTIdeal.nD Cert.QuantiseTIdeal.τ).loc Cert.QuantiseTIdeal.main_v0_1)) (v2 : (c : Dev Cert.QuantiseTIdeal.nD) → Buf (Elt Ideal) ((c.tc : Thread Cert.QuantiseTIdeal.nD Cert.QuantiseTIdeal.τ).loc Cert.QuantiseTIdeal.main_v0_2)),
      θ_run (Cert.QuantiseTIdeal.defs (F := Ideal)) (onTc (τ := Cert.QuantiseTIdeal.τ) (Cert.QuantiseTIdeal.main (F := Ideal))) ⟨m, fun _ => 0, g⟩ (fun r => ∀ c : Dev Cert.QuantiseTIdeal.nD,
          r.2.mem ((c.tc : Thread Cert.QuantiseTIdeal.nD Cert.QuantiseTIdeal.τ).loc Cert.QuantiseTIdeal.main_v0_0) = v0 c
          ∧ r.2.mem ((c.tc : Thread Cert.QuantiseTIdeal.nD Cert.QuantiseTIdeal.τ).loc Cert.QuantiseTIdeal.main_v0_1) = v1 c
          ∧ r.2.mem ((c.tc : Thread Cert.QuantiseTIdeal.nD Cert.QuantiseTIdeal.τ).loc Cert.QuantiseTIdeal.main_v0_2) = v2 c
          ∧ r.2.mem ((c.tc : Thread Cert.QuantiseTIdeal.nD Cert.QuantiseTIdeal.τ).loc Cert.QuantiseTIdeal.main_arg0) = m ((c.tc : Thread Cert.QuantiseTIdeal.nD Cert.QuantiseTIdeal.τ).loc Cert.QuantiseTIdeal.main_arg0))
      ∧ θ_run (Cert.QuantiseTReferenceIdeal.defs (F := Ideal)) (onTc (τ := Cert.QuantiseTReferenceIdeal.τ) (Cert.QuantiseTReferenceIdeal.main (F := Ideal))) ⟨m', fun _ => 0, g'⟩ (fun r => ∀ c : Dev Cert.QuantiseTReferenceIdeal.nD,
          r.2.mem ((c.tc : Thread Cert.QuantiseTReferenceIdeal.nD Cert.QuantiseTReferenceIdeal.τ).loc Cert.QuantiseTReferenceIdeal.main_v28) = v0 c
          ∧ r.2.mem ((c.tc : Thread Cert.QuantiseTReferenceIdeal.nD Cert.QuantiseTReferenceIdeal.τ).loc Cert.QuantiseTReferenceIdeal.main_v29) = v1 c
          ∧ r.2.mem ((c.tc : Thread Cert.QuantiseTReferenceIdeal.nD Cert.QuantiseTReferenceIdeal.τ).loc Cert.QuantiseTReferenceIdeal.main_v30) = v2 c
          ∧ r.2.mem ((c.tc : Thread Cert.QuantiseTReferenceIdeal.nD Cert.QuantiseTReferenceIdeal.τ).loc Cert.QuantiseTReferenceIdeal.main_arg0) = m' ((c.tc : Thread Cert.QuantiseTReferenceIdeal.nD Cert.QuantiseTReferenceIdeal.τ).loc Cert.QuantiseTReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hQuantiseT : Cert.QuantiseT.Facts) (hQuantiseTIdeal : Cert.QuantiseTIdeal.Facts) (hQuantiseTReferenceIdeal : Cert.QuantiseTReferenceIdeal.Facts) (hPre_scales_in_range : Cert.Pre_scales_in_range.Facts) (hPre_blocks_in_range : Cert.Pre_blocks_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ quiescent_Quantise (hQuantise := hQuantise)
    ∧ quiescent_QuantiseIdeal (hQuantiseIdeal := hQuantiseIdeal)
    ∧ quiescent_QuantiseIdeal_pre_blocks_in_range (hQuantiseIdeal := hQuantiseIdeal) (hPre_blocks_in_range := hPre_blocks_in_range)
    ∧ quiescent_QuantiseReferenceIdeal (hQuantiseReferenceIdeal := hQuantiseReferenceIdeal)
    ∧ quiescent_QuantiseReferenceIdeal_pre_blocks_in_range (hQuantiseReferenceIdeal := hQuantiseReferenceIdeal) (hPre_blocks_in_range := hPre_blocks_in_range)
    ∧ quiescent_QuantiseT (hQuantiseT := hQuantiseT)
    ∧ quiescent_QuantiseTIdeal (hQuantiseTIdeal := hQuantiseTIdeal)
    ∧ quiescent_QuantiseTIdeal_pre_blocks_in_range (hQuantiseTIdeal := hQuantiseTIdeal) (hPre_blocks_in_range := hPre_blocks_in_range)
    ∧ quiescent_QuantiseTReferenceIdeal (hQuantiseTReferenceIdeal := hQuantiseTReferenceIdeal)
    ∧ quiescent_QuantiseTReferenceIdeal_pre_blocks_in_range (hQuantiseTReferenceIdeal := hQuantiseTReferenceIdeal) (hPre_blocks_in_range := hPre_blocks_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
    ∧ preserves_Quantise_QuantiseIdeal
    ∧ algebraic_QuantiseIdeal_QuantiseReferenceIdeal_pre_blocks_in_range (hQuantiseIdeal := hQuantiseIdeal) (hQuantiseReferenceIdeal := hQuantiseReferenceIdeal) (hPre_blocks_in_range := hPre_blocks_in_range)
    ∧ preserves_QuantiseT_QuantiseTIdeal
    ∧ algebraic_QuantiseTIdeal_QuantiseTReferenceIdeal_pre_blocks_in_range (hQuantiseTIdeal := hQuantiseTIdeal) (hQuantiseTReferenceIdeal := hQuantiseTReferenceIdeal) (hPre_blocks_in_range := hPre_blocks_in_range)
-- ==== Pre_blocks_in_range.lean ====
abbrev S2x16384x8192 : Shape := ⟨3, ![2, 16384, 8192]⟩
abbrev S2x128x128x32x256 : Shape := ⟨5, ![2, 128, 128, 32, 256]⟩
abbrev S_ : Shape := ⟨0, ![]⟩
abbrev S2x128x32 : Shape := ⟨3, ![2, 128, 32]⟩

class Facts : Prop where
  bitsLt_bf16_f32 : FTy.bits .bf16 < FTy.bits .f32
  shapeCasts_S2x16384x8192_S2x128x128x32x256 : S2x16384x8192.ShapeCasts S2x128x128x32x256
  reducesTo_S2x128x128x32x256_S2x128x32_d2_4 : S2x128x128x32x256.ReducesTo [2, 4] S2x128x32
  h_S_ : 0 < S_.numel
  bcast_S_S2x128x32 : S_.BroadcastsInDim S2x128x32 (![] : Fin 0 → Fin S2x128x32.rank)
  reducesTo_S2x128x32_S_d0_1_2 : S2x128x32.ReducesTo [0, 1, 2] S_

variable [Facts]

def fn {F : FTy → Type} [FloatOps F] (main_arg0 : FVec F S2x16384x8192 .bf16) : IVec S_ 1 :=
  let main_v0 : FVec F S2x16384x8192 .f32 := (extf .f32 · bitsLt_bf16_f32) main_arg0
  let main_v1 : FVec F S2x128x128x32x256 .f32 := shapeCast S2x128x128x32x256 main_v0 shapeCasts_S2x16384x8192_S2x128x128x32x256
  let main_v2 : FVec F S2x128x128x32x256 .f32 := Host.absf main_v1
  let main_cst : FVec F S_ .f32 := constant S_ .f32 0xFF800000#32
  let main_v3 : FVec F S2x128x32 .f32 := (fun x v => Host.reduce FloatOps.maximumf x v reducesTo_S2x128x128x32x256_S2x128x32_d2_4 h_S_) main_v2 main_cst
  let main_cst_0 : FVec F S_ .f32 := constant S_ .f32 0x3B124925#32
  let main_v4 : FVec F S2x128x32 .f32 := broadcastInDim S2x128x32 ![] bcast_S_S2x128x32 main_cst_0
  let main_v5 : FVec F S2x128x32 .f32 := mulf main_v3 main_v4
  let main_cst_1 : FVec F S_ .f32 := constant S_ .f32 0x00000000#32
  let main_v6 : FVec F S2x128x32 .f32 := broadcastInDim S2x128x32 ![] bcast_S_S2x128x32 main_cst_1
  let main_v7 : IVec S2x128x32 1 := cmpf .oeq main_v5 main_v6
  let main_cst_2 : FVec F S_ .f32 := constant S_ .f32 0x00800000#32
  let main_v8 : FVec F S2x128x32 .f32 := broadcastInDim S2x128x32 ![] bcast_S_S2x128x32 main_cst_2
  let main_v9 : IVec S2x128x32 1 := cmpf .oge main_v5 main_v8
  let main_cst_3 : FVec F S_ .f32 := constant S_ .f32 0x7E800000#32
  let main_v10 : FVec F S2x128x32 .f32 := broadcastInDim S2x128x32 ![] bcast_S_S2x128x32 main_cst_3
  let main_v11 : IVec S2x128x32 1 := cmpf .olt main_v5 main_v10
  let main_v12 : IVec S2x128x32 1 := andi main_v9 main_v11
  let main_v13 : IVec S2x128x32 1 := ori main_v7 main_v12
  let main_c : IVec S_ 1 := constantI S_ 1 1#1
  let main_v14 : IVec S_ 1 := (fun x v => Host.reduce IntOp.andi x v reducesTo_S2x128x32_S_d0_1_2 h_S_) main_v13 main_c
  main_v14
-- ==== Pre_scales_in_range.lean ====
abbrev S2x16384x8192 : Shape := ⟨3, ![2, 16384, 8192]⟩
abbrev S2x128x32 : Shape := ⟨3, ![2, 128, 32]⟩
abbrev S2x32x128x256x128 : Shape := ⟨5, ![2, 32, 128, 256, 128]⟩
abbrev S_ : Shape := ⟨0, ![]⟩
abbrev S2x128x1x32 : Shape := ⟨4, ![2, 128, 1, 32]⟩
abbrev S2x1x128x32 : Shape := ⟨4, ![2, 1, 128, 32]⟩
abbrev S2x128x128x32 : Shape := ⟨4, ![2, 128, 128, 32]⟩

class Facts : Prop where
  bcast_S_S2x128x32 : S_.BroadcastsInDim S2x128x32 (![] : Fin 0 → Fin S2x128x32.rank)
  bcast_S2x128x32_S2x128x1x32_0_1_3 : S2x128x32.BroadcastsInDim S2x128x1x32 (![0, 1, 3] : Fin 3 → Fin S2x128x1x32.rank)
  bcast_S2x128x32_S2x1x128x32_0_2_3 : S2x128x32.BroadcastsInDim S2x1x128x32 (![0, 2, 3] : Fin 3 → Fin S2x1x128x32.rank)
  bcast_S2x128x1x32_S2x128x128x32_0_1_2_3 : S2x128x1x32.BroadcastsInDim S2x128x128x32 (![0, 1, 2, 3] : Fin 4 → Fin S2x128x128x32.rank)
  bcast_S2x1x128x32_S2x128x128x32_0_1_2_3 : S2x1x128x32.BroadcastsInDim S2x128x128x32 (![0, 1, 2, 3] : Fin 4 → Fin S2x128x128x32.rank)
  bcast_S_S2x128x128x32 : S_.BroadcastsInDim S2x128x128x32 (![] : Fin 0 → Fin S2x128x128x32.rank)
  reducesTo_S2x128x128x32_S_d0_1_2_3 : S2x128x128x32.ReducesTo [0, 1, 2, 3] S_
  h_S_ : 0 < S_.numel

variable [Facts]

def fn {F : FTy → Type} [FloatOps F] (main_arg0 : FVec F S2x16384x8192 .fp8e4m3) (main_arg1 : FVec F S2x128x32 .f32) (main_arg2 : FVec F S2x16384x8192 .fp8e4m3) (main_arg3 : FVec F S2x128x32 .f32) (main_arg4 : FVec F S2x32x128x256x128 .fp8e4m3) (main_arg5 : FVec F S2x128x32 .f32) : IVec S_ 1 :=
  let main_cst : FVec F S_ .f32 := constant S_ .f32 0x3D800000#32
  let main_v0 : FVec F S2x128x32 .f32 := broadcastInDim S2x128x32 ![] bcast_S_S2x128x32 main_cst
  let main_v1 : FVec F S2x128x32 .f32 := mulf main_arg1 main_v0
  let main_v2 : FVec F S2x128x1x32 .f32 := broadcastInDim S2x128x1x32 ![0, 1, 3] bcast_S2x128x32_S2x128x1x32_0_1_3 main_v1
  let main_v3 : FVec F S2x1x128x32 .f32 := broadcastInDim S2x1x128x32 ![0, 2, 3] bcast_S2x128x32_S2x1x128x32_0_2_3 main_arg3
  let main_v4 : FVec F S2x128x128x32 .f32 := broadcastInDim S2x128x128x32 ![0, 1, 2, 3] bcast_S2x128x1x32_S2x128x128x32_0_1_2_3 main_v2
  let main_v5 : FVec F S2x128x128x32 .f32 := broadcastInDim S2x128x128x32 ![0, 1, 2, 3] bcast_S2x1x128x32_S2x128x128x32_0_1_2_3 main_v3
  let main_v6 : FVec F S2x128x128x32 .f32 := mulf main_v4 main_v5
  let main_cst_0 : FVec F S_ .f32 := constant S_ .f32 0x7F7FFFFF#32
  let main_v7 : FVec F S2x128x128x32 .f32 := broadcastInDim S2x128x128x32 ![] bcast_S_S2x128x128x32 main_cst_0
  let main_v8 : IVec S2x128x128x32 1 := cmpf .ole main_v6 main_v7
  let main_c : IVec S_ 1 := constantI S_ 1 1#1
  let main_v9 : IVec S_ 1 := (fun x v => Host.reduce IntOp.andi x v reducesTo_S2x128x128x32_S_d0_1_2_3 h_S_) main_v8 main_c
  main_v9
-- ==== Kernel.lean ====
abbrev S2x16384x8192 : Shape := ⟨3, ![2, 16384, 8192]⟩
abbrev S2x128x32 : Shape := ⟨3, ![2, 128, 32]⟩
abbrev S2x32x128x256x128 : Shape := ⟨5, ![2, 32, 128, 256, 128]⟩
abbrev S2x32x128 : Shape := ⟨3, ![2, 32, 128]⟩
abbrev S2x32x1x128 : Shape := ⟨4, ![2, 32, 1, 128]⟩
abbrev S1x1x1x128 : Shape := ⟨4, ![1, 1, 1, 128]⟩
abbrev S1x256x256 : Shape := ⟨3, ![1, 256, 256]⟩
abbrev S1x16384x256 : Shape := ⟨3, ![1, 16384, 256]⟩
abbrev S1x1x128x256x128 : Shape := ⟨5, ![1, 1, 128, 256, 128]⟩
abbrev S16384x256 : Shape := ⟨2, ![16384, 256]⟩
abbrev S128x256 : Shape := ⟨2, ![128, 256]⟩
abbrev S256x256 : Shape := ⟨2, ![256, 256]⟩
abbrev S1x256 : Shape := ⟨2, ![1, 256]⟩
abbrev S1x1x1x1 : Shape := ⟨4, ![1, 1, 1, 1]⟩
abbrev S1x128x256 : Shape := ⟨3, ![1, 128, 256]⟩
abbrev S256 : Shape := ⟨1, ![256]⟩
abbrev S1x1x1x256x128 : Shape := ⟨5, ![1, 1, 1, 256, 128]⟩
abbrev S256x128 : Shape := ⟨2, ![256, 128]⟩

abbrev nBuf : Space → Nat
  | .hbm => 13
  | .vmem => 14
  | .smem => 6
  | _ => 0

abbrev bufTy : (tb : Table) → Fin (tcTables nBuf tb) → BufTy
  | .hbm, ⟨0, _⟩ => ⟨S2x16384x8192, .fp8e4m3⟩
  | .hbm, ⟨1, _⟩ => ⟨S2x128x32, .f32⟩
  | .hbm, ⟨2, _⟩ => ⟨S2x16384x8192, .fp8e4m3⟩
  | .hbm, ⟨3, _⟩ => ⟨S2x128x32, .f32⟩
  | .hbm, ⟨4, _⟩ => ⟨S2x32x128x256x128, .fp8e4m3⟩
  | .hbm, ⟨5, _⟩ => ⟨S2x128x32, .f32⟩
  | .hbm, ⟨6, _⟩ => ⟨S2x32x128, .f32⟩
  | .hbm, ⟨7, _⟩ => ⟨S2x32x1x128, .f32⟩
  | .hbm, ⟨8, _⟩ => ⟨S2x32x128, .f32⟩
  | .hbm, ⟨9, _⟩ => ⟨S2x32x1x128, .f32⟩
  | .hbm, ⟨10, _⟩ => ⟨S2x32x128, .f32⟩
  | .hbm, ⟨11, _⟩ => ⟨S2x32x1x128, .f32⟩
  | .hbm, ⟨12, _⟩ => ⟨S2x16384x8192, .bf16⟩
  | .local _ .vmem, ⟨0, _⟩ => ⟨S1x256x256, .fp8e4m3⟩
  | .local _ .vmem, ⟨1, _⟩ => ⟨S1x256x256, .fp8e4m3⟩
  | .local _ .vmem, ⟨2, _⟩ => ⟨S1x16384x256, .fp8e4m3⟩
  | .local _ .vmem, ⟨3, _⟩ => ⟨S1x16384x256, .fp8e4m3⟩
  | .local _ .vmem, ⟨4, _⟩ => ⟨S1x1x128x256x128, .fp8e4m3⟩
  | .local _ .vmem, ⟨5, _⟩ => ⟨S1x1x128x256x128, .fp8e4m3⟩
  | .local _ .vmem, ⟨6, _⟩ => ⟨S1x256x256, .bf16⟩
  | .local _ .vmem, ⟨7, _⟩ => ⟨S1x256x256, .bf16⟩
  | .local _ .vmem, ⟨8, _⟩ => ⟨S16384x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S256x256, .f32⟩
  | .local _ .vmem, ⟨13, _⟩ => ⟨S1x256, .f32⟩
  | .local _ .smem, ⟨0, _⟩ => ⟨S1x1x1x128, .f32⟩
  | .local _ .smem, ⟨1, _⟩ => ⟨S1x1x1x128, .f32⟩
  | .local _ .smem, ⟨2, _⟩ => ⟨S1x1x1x128, .f32⟩
  | .local _ .smem, ⟨3, _⟩ => ⟨S1x1x1x128, .f32⟩
  | .local _ .smem, ⟨4, _⟩ => ⟨S1x1x1x128, .f32⟩
  | .local _ .smem, ⟨5, _⟩ => ⟨S1x1x1x128, .f32⟩
  | _, _ => ⟨S2x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 32, 64], ![false, false, false]⟩

def k0_off1 (i : grid0.Coords) : Fin 4 → Nat :=
  let c0_6 : Index := 0#32
  let c0_7 : Index := 0#32
  let c0_8 : Index := 0#32
  let c2_i32_5 : BitVec 32 := 2#32
  let arg2 : BitVec 32 := BitVec.ofNat 32 (i 2).val
  let v14 : BitVec 32 := Scalar.muli c2_i32_5 arg2
  let v15 : Index := Scalar.indexCast v14
  ![0, 0, 0, v15.toNat]
def k0_off2 (i : grid0.Coords) : Fin 4 → Nat :=
  let c0_11 : Index := 0#32
  let c0_12 : Index := 0#32
  let c0_13 : Index := 0#32
  let c2_i32_9 : BitVec 32 := 2#32
  let arg2 : BitVec 32 := BitVec.ofNat 32 (i 2).val
  let v17 : BitVec 32 := Scalar.muli c2_i32_9 arg2
  let c1_i32_10 : BitVec 32 := 1#32
  let v18 : BitVec 32 := Scalar.addi v17 c1_i32_10
  let v19 : Index := Scalar.indexCast v18
  ![0, 0, 0, v19.toNat]
@[reducible] def k0_t1_loop (i : grid0.Coords) : Scf.Loop 32 :=
  let c0_i32_21 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_14 : BitVec 32 := 2#32
  let v26 : BitVec 32 := Scalar.subi v1 c2_i32_14
  let c0_i32_15 : BitVec 32 := 0#32
  let v27 : BitVec 32 := Scalar.subi v26 c0_i32_15
  let c1_i32_16 : BitVec 32 := 1#32
  let c1_i32_17 : BitVec 32 := 1#32
  let v28 : BitVec 32 := Scalar.subi c1_i32_16 c1_i32_17
  let v29 : BitVec 32 := Scalar.addi v27 v28
  let c1_i32_18 : BitVec 32 := 1#32
  let v30 : BitVec 32 := Scalar.divsi v29 c1_i32_18
  let v31 : BitVec 32 := Scalar.subi v30 c0_i32_21
  let c1_i32_22 : BitVec 32 := 1#32
  let v33 : BitVec 32 := Scalar.divsi v31 c1_i32_22
  let v34 : BitVec 32 := Scalar.muli v33 c1_i32_22
  let v35 : BitVec 32 := Scalar.addi c0_i32_21 v34
  let c1_i32_23 : BitVec 32 := 1#32
  ⟨c0_i32_21, v35, c1_i32_23⟩
def k0_off3 (i : grid0.Coords) (k0_t1 : Fin (k0_t1_loop i).trips) : Fin 3 → Nat :=
  let c0_110 : Index := 0#32
  let c0_i32_20 : BitVec 32 := 0#32
  let c0_i32_21 : BitVec 32 := 0#32
  let c1_i32_23 : BitVec 32 := 1#32
  let arg16 : BitVec 32 := Scf.iv c0_i32_21 c1_i32_23 k0_t1
  let c1_i32_19 : BitVec 32 := 1#32
  let v241 : BitVec 32 := Scalar.muli arg16 c1_i32_19
  let v242 : BitVec 32 := Scalar.addi c0_i32_20 v241
  let c128_i32_109 : BitVec 32 := 128#32
  let v243 : BitVec 32 := Scalar.muli v242 c128_i32_109
  let v244 : Index := Scalar.indexCast v243
  let c0_111 : Index := 0#32
  ![0, v244.toNat, 0]
def k0_off4 (i : grid0.Coords) (k0_t1 : Fin (k0_t1_loop i).trips) : Fin 4 → Nat :=
  let c0_113 : Index := 0#32
  let c0_114 : Index := 0#32
  let c0_115 : Index := 0#32
  let c0_i32_20 : BitVec 32 := 0#32
  let c0_i32_21 : BitVec 32 := 0#32
  let c1_i32_23 : BitVec 32 := 1#32
  let arg16 : BitVec 32 := Scf.iv c0_i32_21 c1_i32_23 k0_t1
  let c1_i32_19 : BitVec 32 := 1#32
  let v241 : BitVec 32 := Scalar.muli arg16 c1_i32_19
  let v242 : BitVec 32 := Scalar.addi c0_i32_20 v241
  let v248 : Index := Scalar.indexCast v242
  ![0, 0, 0, v248.toNat]
def k0_off5 (i : grid0.Coords) (k0_t1 : Fin (k0_t1_loop i).trips) : Fin 2 → Nat :=
  let c0_i32_20 : BitVec 32 := 0#32
  let c0_i32_21 : BitVec 32 := 0#32
  let c1_i32_23 : BitVec 32 := 1#32
  let arg16 : BitVec 32 := Scf.iv c0_i32_21 c1_i32_23 k0_t1
  let c1_i32_19 : BitVec 32 := 1#32
  let v241 : BitVec 32 := Scalar.muli arg16 c1_i32_19
  let v242 : BitVec 32 := Scalar.addi c0_i32_20 v241
  let c128_i32_118 : BitVec 32 := 128#32
  let v259 : BitVec 32 := Scalar.muli v242 c128_i32_118
  let v260 : Index := Scalar.indexCast v259
  let c0_119 : Index := 0#32
  ![v260.toNat, 0]
def k0_off6 (i : grid0.Coords) (k0_t1 : Fin (k0_t1_loop i).trips) : Fin 2 → Nat :=
  let c0_i32_20 : BitVec 32 := 0#32
  let c0_i32_21 : BitVec 32 := 0#32
  let c1_i32_23 : BitVec 32 := 1#32
  let arg16 : BitVec 32 := Scf.iv c0_i32_21 c1_i32_23 k0_t1
  let c1_i32_19 : BitVec 32 := 1#32
  let v241 : BitVec 32 := Scalar.muli arg16 c1_i32_19
  let v242 : BitVec 32 := Scalar.addi c0_i32_20 v241
  let v266 : Index := Scalar.indexCast v242
  let c0_121 : Index := 0#32
  ![v266.toNat, 0]
@[reducible] def k0_t2_loop (i : grid0.Coords) : Scf.Loop 32 :=
  let c0_i32_21 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_14 : BitVec 32 := 2#32
  let v26 : BitVec 32 := Scalar.subi v1 c2_i32_14
  let c0_i32_15 : BitVec 32 := 0#32
  let v27 : BitVec 32 := Scalar.subi v26 c0_i32_15
  let c1_i32_16 : BitVec 32 := 1#32
  let c1_i32_17 : BitVec 32 := 1#32
  let v28 : BitVec 32 := Scalar.subi c1_i32_16 c1_i32_17
  let v29 : BitVec 32 := Scalar.addi v27 v28
  let c1_i32_18 : BitVec 32 := 1#32
  let v30 : BitVec 32 := Scalar.divsi v29 c1_i32_18
  let v31 : BitVec 32 := Scalar.subi v30 c0_i32_21
  let c1_i32_22 : BitVec 32 := 1#32
  let v33 : BitVec 32 := Scalar.divsi v31 c1_i32_22
  let v34 : BitVec 32 := Scalar.muli v33 c1_i32_22
  let v35 : BitVec 32 := Scalar.addi c0_i32_21 v34
  let v32 : BitVec 32 := Scalar.addi c0_i32_21 v31
  let c1_i32_24 : BitVec 32 := 1#32
  ⟨v35, v32, c1_i32_24⟩
def k0_off7 (i : grid0.Coords) (k0_t2 : Fin (k0_t2_loop i).trips) : Fin 3 → Nat :=
  let c0_110 : Index := 0#32
  let c0_i32_20 : BitVec 32 := 0#32
  let c0_i32_21 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_14 : BitVec 32 := 2#32
  let v26 : BitVec 32 := Scalar.subi v1 c2_i32_14
  let c0_i32_15 : BitVec 32 := 0#32
  let v27 : BitVec 32 := Scalar.subi v26 c0_i32_15
  let c1_i32_16 : BitVec 32 := 1#32
  let c1_i32_17 : BitVec 32 := 1#32
  let v28 : BitVec 32 := Scalar.subi c1_i32_16 c1_i32_17
  let v29 : BitVec 32 := Scalar.addi v27 v28
  let c1_i32_18 : BitVec 32 := 1#32
  let v30 : BitVec 32 := Scalar.divsi v29 c1_i32_18
  let v31 : BitVec 32 := Scalar.subi v30 c0_i32_21
  let c1_i32_22 : BitVec 32 := 1#32
  let v33 : BitVec 32 := Scalar.divsi v31 c1_i32_22
  let v34 : BitVec 32 := Scalar.muli v33 c1_i32_22
  let v35 : BitVec 32 := Scalar.addi c0_i32_21 v34
  let c1_i32_24 : BitVec 32 := 1#32
  let arg16 : BitVec 32 := Scf.iv v35 c1_i32_24 k0_t2
  let c1_i32_19 : BitVec 32 := 1#32
  let v241 : BitVec 32 := Scalar.muli arg16 c1_i32_19
  let v242 : BitVec 32 := Scalar.addi c0_i32_20 v241
  let c128_i32_109 : BitVec 32 := 128#32
  let v243 : BitVec 32 := Scalar.muli v242 c128_i32_109
  let v244 : Index := Scalar.indexCast v243
  let c0_111 : Index := 0#32
  ![0, v244.toNat, 0]
def k0_off8 (i : grid0.Coords) (k0_t2 : Fin (k0_t2_loop i).trips) : Fin 4 → Nat :=
  let c0_113 : Index := 0#32
  let c0_114 : Index := 0#32
  let c0_115 : Index := 0#32
  let c0_i32_20 : BitVec 32 := 0#32
  let c0_i32_21 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_14 : BitVec 32 := 2#32
  let v26 : BitVec 32 := Scalar.subi v1 c2_i32_14
  let c0_i32_15 : BitVec 32 := 0#32
  let v27 : BitVec 32 := Scalar.subi v26 c0_i32_15
  let c1_i32_16 : BitVec 32 := 1#32
  let c1_i32_17 : BitVec 32 := 1#32
  let v28 : BitVec 32 := Scalar.subi c1_i32_16 c1_i32_17
  let v29 : BitVec 32 := Scalar.addi v27 v28
  let c1_i32_18 : BitVec 32 := 1#32
  let v30 : BitVec 32 := Scalar.divsi v29 c1_i32_18
  let v31 : BitVec 32 := Scalar.subi v30 c0_i32_21
  let c1_i32_22 : BitVec 32 := 1#32
  let v33 : BitVec 32 := Scalar.divsi v31 c1_i32_22
  let v34 : BitVec 32 := Scalar.muli v33 c1_i32_22
  let v35 : BitVec 32 := Scalar.addi c0_i32_21 v34
  let c1_i32_24 : BitVec 32 := 1#32
  let arg16 : BitVec 32 := Scf.iv v35 c1_i32_24 k0_t2
  let c1_i32_19 : BitVec 32 := 1#32
  let v241 : BitVec 32 := Scalar.muli arg16 c1_i32_19
  let v242 : BitVec 32 := Scalar.addi c0_i32_20 v241
  let v248 : Index := Scalar.indexCast v242
  ![0, 0, 0, v248.toNat]
def k0_off9 (i : grid0.Coords) (k0_t2 : Fin (k0_t2_loop i).trips) : Fin 2 → Nat :=
  let c0_i32_20 : BitVec 32 := 0#32
  let c0_i32_21 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_14 : BitVec 32 := 2#32
  let v26 : BitVec 32 := Scalar.subi v1 c2_i32_14
  let c0_i32_15 : BitVec 32 := 0#32
  let v27 : BitVec 32 := Scalar.subi v26 c0_i32_15
  let c1_i32_16 : BitVec 32 := 1#32
  let c1_i32_17 : BitVec 32 := 1#32
  let v28 : BitVec 32 := Scalar.subi c1_i32_16 c1_i32_17
  let v29 : BitVec 32 := Scalar.addi v27 v28
  let c1_i32_18 : BitVec 32 := 1#32
  let v30 : BitVec 32 := Scalar.divsi v29 c1_i32_18
  let v31 : BitVec 32 := Scalar.subi v30 c0_i32_21
  let c1_i32_22 : BitVec 32 := 1#32
  let v33 : BitVec 32 := Scalar.divsi v31 c1_i32_22
  let v34 : BitVec 32 := Scalar.muli v33 c1_i32_22
  let v35 : BitVec 32 := Scalar.addi c0_i32_21 v34
  let c1_i32_24 : BitVec 32 := 1#32
  let arg16 : BitVec 32 := Scf.iv v35 c1_i32_24 k0_t2
  let c1_i32_19 : BitVec 32 := 1#32
  let v241 : BitVec 32 := Scalar.muli arg16 c1_i32_19
  let v242 : BitVec 32 := Scalar.addi c0_i32_20 v241
  let c128_i32_118 : BitVec 32 := 128#32
  let v259 : BitVec 32 := Scalar.muli v242 c128_i32_118
  let v260 : Index := Scalar.indexCast v259
  let c0_119 : Index := 0#32
  ![v260.toNat, 0]
def k0_off10 (i : grid0.Coords) (k0_t2 : Fin (k0_t2_loop i).trips) : Fin 2 → Nat :=
  let c0_i32_20 : BitVec 32 := 0#32
  let c0_i32_21 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_14 : BitVec 32 := 2#32
  let v26 : BitVec 32 := Scalar.subi v1 c2_i32_14
  let c0_i32_15 : BitVec 32 := 0#32
  let v27 : BitVec 32 := Scalar.subi v26 c0_i32_15
  let c1_i32_16 : BitVec 32 := 1#32
  let c1_i32_17 : BitVec 32 := 1#32
  let v28 : BitVec 32 := Scalar.subi c1_i32_16 c1_i32_17
  let v29 : BitVec 32 := Scalar.addi v27 v28
  let c1_i32_18 : BitVec 32 := 1#32
  let v30 : BitVec 32 := Scalar.divsi v29 c1_i32_18
  let v31 : BitVec 32 := Scalar.subi v30 c0_i32_21
  let c1_i32_22 : BitVec 32 := 1#32
  let v33 : BitVec 32 := Scalar.divsi v31 c1_i32_22
  let v34 : BitVec 32 := Scalar.muli v33 c1_i32_22
  let v35 : BitVec 32 := Scalar.addi c0_i32_21 v34
  let c1_i32_24 : BitVec 32 := 1#32
  let arg16 : BitVec 32 := Scf.iv v35 c1_i32_24 k0_t2
  let c1_i32_19 : BitVec 32 := 1#32
  let v241 : BitVec 32 := Scalar.muli arg16 c1_i32_19
  let v242 : BitVec 32 := Scalar.addi c0_i32_20 v241
  let v266 : Index := Scalar.indexCast v242
  let c0_121 : Index := 0#32
  ![v266.toNat, 0]
def k0_off11 (i : grid0.Coords) (c0_i32_26 : BitVec 32) : Fin 3 → Nat :=
  let c0_28 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_25 : BitVec 32 := 2#32
  let v36 : BitVec 32 := Scalar.subi v1 c2_i32_25
  let v37 : BitVec 32 := Scalar.addi v36 c0_i32_26
  let c128_i32_27 : BitVec 32 := 128#32
  let v38 : BitVec 32 := Scalar.muli v37 c128_i32_27
  let v39 : Index := Scalar.indexCast v38
  let c0_29 : Index := 0#32
  ![0, v39.toNat, 0]
def k0_off12 (i : grid0.Coords) (c0_i32_26 : BitVec 32) : Fin 4 → Nat :=
  let c0_31 : Index := 0#32
  let c0_32 : Index := 0#32
  let c0_33 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_25 : BitVec 32 := 2#32
  let v36 : BitVec 32 := Scalar.subi v1 c2_i32_25
  let v37 : BitVec 32 := Scalar.addi v36 c0_i32_26
  let v43 : Index := Scalar.indexCast v37
  ![0, 0, 0, v43.toNat]
def k0_off13 (i : grid0.Coords) (c0_i32_26 : BitVec 32) : Fin 2 → Nat :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_25 : BitVec 32 := 2#32
  let v36 : BitVec 32 := Scalar.subi v1 c2_i32_25
  let v37 : BitVec 32 := Scalar.addi v36 c0_i32_26
  let c128_i32_38 : BitVec 32 := 128#32
  let v65 : BitVec 32 := Scalar.muli v37 c128_i32_38
  let v66 : Index := Scalar.indexCast v65
  let c0_39 : Index := 0#32
  ![v66.toNat, 0]
def k0_off14 (i : grid0.Coords) (c0_i32_26 : BitVec 32) : Fin 2 → Nat :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c2_i32_25 : BitVec 32 := 2#32
  let v36 : BitVec 32 := Scalar.subi v1 c2_i32_25
  let v37 : BitVec 32 := Scalar.addi v36 c0_i32_26
  let v72 : Index := Scalar.indexCast v37
  let c0_41 : Index := 0#32
  ![v72.toNat, 0]
@[reducible] def k0_t3_loop (i : grid0.Coords) : Scf.Loop 32 :=
  let c0_i32_98 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32_92 : BitVec 32 := 0#32
  let v223 : BitVec 32 := Scalar.subi v1 c0_i32_92
  let c1_i32_93 : BitVec 32 := 1#32
  let c1_i32_94 : BitVec 32 := 1#32
  let v224 : BitVec 32 := Scalar.subi c1_i32_93 c1_i32_94
  let v225 : BitVec 32 := Scalar.addi v223 v224
  let c1_i32_95 : BitVec 32 := 1#32
  let v226 : BitVec 32 := Scalar.divsi v225 c1_i32_95
  let v227 : BitVec 32 := Scalar.subi v226 c0_i32_98
  let c1_i32_99 : BitVec 32 := 1#32
  let v229 : BitVec 32 := Scalar.divsi v227 c1_i32_99
  let v230 : BitVec 32 := Scalar.muli v229 c1_i32_99
  let v231 : BitVec 32 := Scalar.addi c0_i32_98 v230
  let c1_i32_100 : BitVec 32 := 1#32
  ⟨c0_i32_98, v231, c1_i32_100⟩
def k0_off15 (i : grid0.Coords) (k0_t3 : Fin (k0_t3_loop i).trips) : Fin 2 → Nat :=
  let c0_i32_97 : BitVec 32 := 0#32
  let c0_i32_98 : BitVec 32 := 0#32
  let c1_i32_100 : BitVec 32 := 1#32
  let arg16 : BitVec 32 := Scf.iv c0_i32_98 c1_i32_100 k0_t3
  let c1_i32_96 : BitVec 32 := 1#32
  let v241 : BitVec 32 := Scalar.muli arg16 c1_i32_96
  let v242 : BitVec 32 := Scalar.addi c0_i32_97 v241
  let v243 : Index := Scalar.indexCast v242
  let c0_109 : Index := 0#32
  ![v243.toNat, 0]
def k0_off16 (i : grid0.Coords) (k0_t3 : Fin (k0_t3_loop i).trips) : Fin 2 → Nat :=
  let c0_i32_97 : BitVec 32 := 0#32
  let c0_i32_98 : BitVec 32 := 0#32
  let c1_i32_100 : BitVec 32 := 1#32
  let arg16 : BitVec 32 := Scf.iv c0_i32_98 c1_i32_100 k0_t3
  let c1_i32_96 : BitVec 32 := 1#32
  let v241 : BitVec 32 := Scalar.muli arg16 c1_i32_96
  let v242 : BitVec 32 := Scalar.addi c0_i32_97 v241
  let c128_i32_110 : BitVec 32 := 128#32
  let v245 : BitVec 32 := Scalar.muli v242 c128_i32_110
  let v246 : Index := Scalar.indexCast v245
  let c0_111 : Index := 0#32
  ![v246.toNat, 0]
def k0_off17 (i : grid0.Coords) (k0_t3 : Fin (k0_t3_loop i).trips) : Fin 5 → Nat :=
  let c0_121 : Index := 0#32
  let c0_122 : Index := 0#32
  let c0_i32_97 : BitVec 32 := 0#32
  let c0_i32_98 : BitVec 32 := 0#32
  let c1_i32_100 : BitVec 32 := 1#32
  let arg16 : BitVec 32 := Scf.iv c0_i32_98 c1_i32_100 k0_t3
  let c1_i32_96 : BitVec 32 := 1#32
  let v241 : BitVec 32 := Scalar.muli arg16 c1_i32_96
  let v242 : BitVec 32 := Scalar.addi c0_i32_97 v241
  let v268 : Index := Scalar.indexCast v242
  let c0_123 : Index := 0#32
  let c0_124 : Index := 0#32
  ![0, 0, v268.toNat, 0, 0]
def k0_off18 (i : grid0.Coords) (k0_t3 : Fin (k0_t3_loop i).trips) : Fin 4 → Nat :=
  let c0_128 : Index := 0#32
  let c0_129 : Index := 0#32
  let c0_130 : Index := 0#32
  let c0_i32_97 : BitVec 32 := 0#32
  let c0_i32_98 : BitVec 32 := 0#32
  let c1_i32_100 : BitVec 32 := 1#32
  let arg16 : BitVec 32 := Scf.iv c0_i32_98 c1_i32_100 k0_t3
  let c1_i32_96 : BitVec 32 := 1#32
  let v241 : BitVec 32 := Scalar.muli arg16 c1_i32_96
  let v242 : BitVec 32 := Scalar.addi c0_i32_97 v241
  let v273 : Index := Scalar.indexCast v242
  ![0, 0, 0, v273.toNat]
@[reducible] def k0_t4_loop (i : grid0.Coords) : Scf.Loop 32 :=
  let c0_i32_98 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32_92 : BitVec 32 := 0#32
  let v223 : BitVec 32 := Scalar.subi v1 c0_i32_92
  let c1_i32_93 : BitVec 32 := 1#32
  let c1_i32_94 : BitVec 32 := 1#32
  let v224 : BitVec 32 := Scalar.subi c1_i32_93 c1_i32_94
  let v225 : BitVec 32 := Scalar.addi v223 v224
  let c1_i32_95 : BitVec 32 := 1#32
  let v226 : BitVec 32 := Scalar.divsi v225 c1_i32_95
  let v227 : BitVec 32 := Scalar.subi v226 c0_i32_98
  let c1_i32_99 : BitVec 32 := 1#32
  let v229 : BitVec 32 := Scalar.divsi v227 c1_i32_99
  let v230 : BitVec 32 := Scalar.muli v229 c1_i32_99
  let v231 : BitVec 32 := Scalar.addi c0_i32_98 v230
  let v228 : BitVec 32 := Scalar.addi c0_i32_98 v227
  let c1_i32_101 : BitVec 32 := 1#32
  ⟨v231, v228, c1_i32_101⟩
def k0_off19 (i : grid0.Coords) (k0_t4 : Fin (k0_t4_loop i).trips) : Fin 2 → Nat :=
  let c0_i32_97 : BitVec 32 := 0#32
  let c0_i32_98 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32_92 : BitVec 32 := 0#32
  let v223 : BitVec 32 := Scalar.subi v1 c0_i32_92
  let c1_i32_93 : BitVec 32 := 1#32
  let c1_i32_94 : BitVec 32 := 1#32
  let v224 : BitVec 32 := Scalar.subi c1_i32_93 c1_i32_94
  let v225 : BitVec 32 := Scalar.addi v223 v224
  let c1_i32_95 : BitVec 32 := 1#32
  let v226 : BitVec 32 := Scalar.divsi v225 c1_i32_95
  let v227 : BitVec 32 := Scalar.subi v226 c0_i32_98
  let c1_i32_99 : BitVec 32 := 1#32
  let v229 : BitVec 32 := Scalar.divsi v227 c1_i32_99
  let v230 : BitVec 32 := Scalar.muli v229 c1_i32_99
  let v231 : BitVec 32 := Scalar.addi c0_i32_98 v230
  let c1_i32_101 : BitVec 32 := 1#32
  let arg16 : BitVec 32 := Scf.iv v231 c1_i32_101 k0_t4
  let c1_i32_96 : BitVec 32 := 1#32
  let v241 : BitVec 32 := Scalar.muli arg16 c1_i32_96
  let v242 : BitVec 32 := Scalar.addi c0_i32_97 v241
  let v243 : Index := Scalar.indexCast v242
  let c0_109 : Index := 0#32
  ![v243.toNat, 0]
def k0_off20 (i : grid0.Coords) (k0_t4 : Fin (k0_t4_loop i).trips) : Fin 2 → Nat :=
  let c0_i32_97 : BitVec 32 := 0#32
  let c0_i32_98 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32_92 : BitVec 32 := 0#32
  let v223 : BitVec 32 := Scalar.subi v1 c0_i32_92
  let c1_i32_93 : BitVec 32 := 1#32
  let c1_i32_94 : BitVec 32 := 1#32
  let v224 : BitVec 32 := Scalar.subi c1_i32_93 c1_i32_94
  let v225 : BitVec 32 := Scalar.addi v223 v224
  let c1_i32_95 : BitVec 32 := 1#32
  let v226 : BitVec 32 := Scalar.divsi v225 c1_i32_95
  let v227 : BitVec 32 := Scalar.subi v226 c0_i32_98
  let c1_i32_99 : BitVec 32 := 1#32
  let v229 : BitVec 32 := Scalar.divsi v227 c1_i32_99
  let v230 : BitVec 32 := Scalar.muli v229 c1_i32_99
  let v231 : BitVec 32 := Scalar.addi c0_i32_98 v230
  let c1_i32_101 : BitVec 32 := 1#32
  let arg16 : BitVec 32 := Scf.iv v231 c1_i32_101 k0_t4
  let c1_i32_96 : BitVec 32 := 1#32
  let v241 : BitVec 32 := Scalar.muli arg16 c1_i32_96
  let v242 : BitVec 32 := Scalar.addi c0_i32_97 v241
  let c128_i32_110 : BitVec 32 := 128#32
  let v245 : BitVec 32 := Scalar.muli v242 c128_i32_110
  let v246 : Index := Scalar.indexCast v245
  let c0_111 : Index := 0#32
  ![v246.toNat, 0]
def k0_off21 (i : grid0.Coords) (k0_t4 : Fin (k0_t4_loop i).trips) : Fin 5 → Nat :=
  let c0_121 : Index := 0#32
  let c0_122 : Index := 0#32
  let c0_i32_97 : BitVec 32 := 0#32
  let c0_i32_98 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32_92 : BitVec 32 := 0#32
  let v223 : BitVec 32 := Scalar.subi v1 c0_i32_92
  let c1_i32_93 : BitVec 32 := 1#32
  let c1_i32_94 : BitVec 32 := 1#32
  let v224 : BitVec 32 := Scalar.subi c1_i32_93 c1_i32_94
  let v225 : BitVec 32 := Scalar.addi v223 v224
  let c1_i32_95 : BitVec 32 := 1#32
  let v226 : BitVec 32 := Scalar.divsi v225 c1_i32_95
  let v227 : BitVec 32 := Scalar.subi v226 c0_i32_98
  let c1_i32_99 : BitVec 32 := 1#32
  let v229 : BitVec 32 := Scalar.divsi v227 c1_i32_99
  let v230 : BitVec 32 := Scalar.muli v229 c1_i32_99
  let v231 : BitVec 32 := Scalar.addi c0_i32_98 v230
  let c1_i32_101 : BitVec 32 := 1#32
  let arg16 : BitVec 32 := Scf.iv v231 c1_i32_101 k0_t4
  let c1_i32_96 : BitVec 32 := 1#32
  let v241 : BitVec 32 := Scalar.muli arg16 c1_i32_96
  let v242 : BitVec 32 := Scalar.addi c0_i32_97 v241
  let v268 : Index := Scalar.indexCast v242
  let c0_123 : Index := 0#32
  let c0_124 : Index := 0#32
  ![0, 0, v268.toNat, 0, 0]
def k0_off22 (i : grid0.Coords) (k0_t4 : Fin (k0_t4_loop i).trips) : Fin 4 → Nat :=
  let c0_128 : Index := 0#32
  let c0_129 : Index := 0#32
  let c0_130 : Index := 0#32
  let c0_i32_97 : BitVec 32 := 0#32
  let c0_i32_98 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32_92 : BitVec 32 := 0#32
  let v223 : BitVec 32 := Scalar.subi v1 c0_i32_92
  let c1_i32_93 : BitVec 32 := 1#32
  let c1_i32_94 : BitVec 32 := 1#32
  let v224 : BitVec 32 := Scalar.subi c1_i32_93 c1_i32_94
  let v225 : BitVec 32 := Scalar.addi v223 v224
  let c1_i32_95 : BitVec 32 := 1#32
  let v226 : BitVec 32 := Scalar.divsi v225 c1_i32_95
  let v227 : BitVec 32 := Scalar.subi v226 c0_i32_98
  let c1_i32_99 : BitVec 32 := 1#32
  let v229 : BitVec 32 := Scalar.divsi v227 c1_i32_99
  let v230 : BitVec 32 := Scalar.muli v229 c1_i32_99
  let v231 : BitVec 32 := Scalar.addi c0_i32_98 v230
  let c1_i32_101 : BitVec 32 := 1#32
  let arg16 : BitVec 32 := Scf.iv v231 c1_i32_101 k0_t4
  let c1_i32_96 : BitVec 32 := 1#32
  let v241 : BitVec 32 := Scalar.muli arg16 c1_i32_96
  let v242 : BitVec 32 := Scalar.addi c0_i32_97 v241
  let v273 : Index := Scalar.indexCast v242
  ![0, 0, 0, v273.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .smem S1x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .smem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .smem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16384x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x256x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "cap_log2e" => some ((50 * (Real.log 2)⁻¹ : ℝ) : EReal)
  | _ => none
-- ==== ReferenceIdeal.lean ====
abbrev S2x16384x8192 : Shape := ⟨3, ![2, 16384, 8192]⟩
abbrev S2x128x32 : Shape := ⟨3, ![2, 128, 32]⟩
abbrev S2x32x128x256x128 : Shape := ⟨5, ![2, 32, 128, 256, 128]⟩
abbrev S2x32x128x128x256 : Shape := ⟨5, ![2, 32, 128, 128, 256]⟩
abbrev S2x32x128 : Shape := ⟨3, ![2, 32, 128]⟩
abbrev S2x32x128x1x1x1 : Shape := ⟨6, ![2, 32, 128, 1, 1, 1]⟩
abbrev S2x32x1x1x128x1 : Shape := ⟨6, ![2, 32, 1, 1, 128, 1]⟩
abbrev S2x128x128x32x256 : Shape := ⟨5, ![2, 128, 128, 32, 256]⟩
abbrev S2x32x128x128x128x128 : Shape := ⟨6, ![2, 32, 128, 128, 128, 128]⟩
abbrev S2x32x128x128 : Shape := ⟨4, ![2, 32, 128, 128]⟩
abbrev S2x32x128x128x1x1 : Shape := ⟨6, ![2, 32, 128, 128, 1, 1]⟩
abbrev S2x32x128x128x128 : Shape := ⟨5, ![2, 32, 128, 128, 128]⟩
abbrev S2x32x128x128x128x1 : Shape := ⟨6, ![2, 32, 128, 128, 128, 1]⟩
abbrev S2x32x128x256x128x128 : Shape := ⟨6, ![2, 32, 128, 256, 128, 128]⟩
abbrev S2x32x128x128x128x256 : Shape := ⟨6, ![2, 32, 128, 128, 128, 256]⟩
abbrev S2x32x128x128x1 : Shape := ⟨5, ![2, 32, 128, 128, 1]⟩

abbrev nBuf : Space → Nat
  | .hbm => 18
  | .vmem => 7
  | .smem => 0
  | _ => 0

abbrev bufTy : (tb : Table) → Fin (tcTables nBuf tb) → BufTy
  | .hbm, ⟨0, _⟩ => ⟨S2x16384x8192, .fp8e4m3⟩
  | .hbm, ⟨1, _⟩ => ⟨S2x128x32, .f32⟩
  | .hbm, ⟨2, _⟩ => ⟨S2x16384x8192, .fp8e4m3⟩
  | .hbm, ⟨3, _⟩ => ⟨S2x128x32, .f32⟩
  | .hbm, ⟨4, _⟩ => ⟨S2x32x128x256x128, .fp8e4m3⟩
  | .hbm, ⟨5, _⟩ => ⟨S2x128x32, .f32⟩
  | .hbm, ⟨6, _⟩ => ⟨S2x32x128x128x256, .fp8e4m3⟩
  | .hbm, ⟨7, _⟩ => ⟨S2x32x128, .f32⟩
  | .hbm, ⟨8, _⟩ => ⟨S2x32x128x1x1x1, .f32⟩
  | .hbm, ⟨9, _⟩ => ⟨S2x32x128, .f32⟩
  | .hbm, ⟨10, _⟩ => ⟨S2x32x1x1x128x1, .f32⟩
  | .hbm, ⟨11, _⟩ => ⟨S2x32x128, .f32⟩
  | .hbm, ⟨12, _⟩ => ⟨S2x32x1x1x128x1, .f32⟩
  | .hbm, ⟨13, _⟩ => ⟨S2x128x128x32x256, .fp8e4m3⟩
  | .hbm, ⟨14, _⟩ => ⟨S2x32x128x128x256, .fp8e4m3⟩
  | .hbm, ⟨15, _⟩ => ⟨S2x128x128x32x256, .fp8e4m3⟩
  | .hbm, ⟨16, _⟩ => ⟨S2x32x128x128x256, .fp8e4m3⟩
  | .hbm, ⟨17, _⟩ => ⟨S2x16384x8192, .bf16⟩
  | .local _ .vmem, ⟨0, _⟩ => ⟨S2x32x128x128x256, .fp8e4m3⟩
  | .local _ .vmem, ⟨1, _⟩ => ⟨S2x32x128x128x256, .fp8e4m3⟩
  | .local _ .vmem, ⟨2, _⟩ => ⟨S2x32x128x128x256, .fp8e4m3⟩
  | .local _ .vmem, ⟨3, _⟩ => ⟨S2x32x128x1x1x1, .f32⟩
  | .local _ .vmem, ⟨4, _⟩ => ⟨S2x32x1x1x128x1, .f32⟩
  | .local _ .vmem, ⟨5, _⟩ => ⟨S2x32x1x1x128x1, .f32⟩
  | .local _ .vmem, ⟨6, _⟩ => ⟨S2x16384x8192, .bf16⟩
  | _, _ => ⟨S2x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x32x128x128x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x128x128x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x128x128x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x128x1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x1x1x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x1x1x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quantise.lean ====
abbrev S2x16384x8192 : Shape := ⟨3, ![2, 16384, 8192]⟩
abbrev S2x128x1x32 : Shape := ⟨4, ![2, 128, 1, 32]⟩
abbrev S1x128x8192 : Shape := ⟨3, ![1, 128, 8192]⟩
abbrev S1x1x1x32 : Shape := ⟨4, ![1, 1, 1, 32]⟩
abbrev S1x32 : Shape := ⟨2, ![1, 32]⟩
abbrev S1x128x256 : Shape := ⟨3, ![1, 128, 256]⟩
abbrev S128x256 : Shape := ⟨2, ![128, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x16384x8192, .bf16⟩
  | .hbm, ⟨1, _⟩ => ⟨S2x16384x8192, .fp8e4m3⟩
  | .hbm, ⟨2, _⟩ => ⟨S2x128x1x32, .f32⟩
  | .local _ .vmem, ⟨0, _⟩ => ⟨S1x128x8192, .bf16⟩
  | .local _ .vmem, ⟨1, _⟩ => ⟨S1x128x8192, .bf16⟩
  | .local _ .vmem, ⟨2, _⟩ => ⟨S1x128x8192, .fp8e4m3⟩
  | .local _ .vmem, ⟨3, _⟩ => ⟨S1x128x8192, .fp8e4m3⟩
  | .local _ .vmem, ⟨4, _⟩ => ⟨S1x1x1x32, .f32⟩
  | .local _ .vmem, ⟨5, _⟩ => ⟨S1x1x1x32, .f32⟩
  | _, _ => ⟨S2x16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QuantiseReferenceIdeal.lean ====
abbrev S2x16384x8192 : Shape := ⟨3, ![2, 16384, 8192]⟩
abbrev S2x128x128x32x256 : Shape := ⟨5, ![2, 128, 128, 32, 256]⟩
abbrev S_ : Shape := ⟨0, ![]⟩
abbrev S2x128x32 : Shape := ⟨3, ![2, 128, 32]⟩
abbrev S2x128x1x32x1 : Shape := ⟨5, ![2, 128, 1, 32, 1]⟩
abbrev S2x128x1x32 : Shape := ⟨4, ![2, 128, 1, 32]⟩

abbrev nBuf : Space → Nat
  | .hbm => 46
  | .vmem => 0
  | .smem => 0
  | _ => 0

abbrev bufTy : (tb : Table) → Fin (tcTables nBuf tb) → BufTy
  | .hbm, ⟨0, _⟩ => ⟨S2x16384x8192, .bf16⟩
  | .hbm, ⟨1, _⟩ => ⟨S2x16384x8192, .f32⟩
  | .hbm, ⟨2, _⟩ => ⟨S2x128x128x32x256, .f32⟩
  | .hbm, ⟨3, _⟩ => ⟨S2x128x128x32x256, .f32⟩
  | .hbm, ⟨4, _⟩ => ⟨S_, .f32⟩
  | .hbm, ⟨5, _⟩ => ⟨S2x128x32, .f32⟩
  | .hbm, ⟨6, _⟩ => ⟨S2x128x1x32x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x128x1x32x1, .f32⟩
  | .hbm, ⟨11, _⟩ => ⟨S2x128x1x32x1, .i1⟩
  | .hbm, ⟨12, _⟩ => ⟨S_, .f32⟩
  | .hbm, ⟨13, _⟩ => ⟨S2x128x1x32x1, .f32⟩
  | .hbm, ⟨14, _⟩ => ⟨S2x128x1x32x1, .f32⟩
  | .hbm, ⟨15, _⟩ => ⟨S2x128x1x32x1, .f32⟩
  | .hbm, ⟨16, _⟩ => ⟨S2x128x1x32x1, .f32⟩
  | .hbm, ⟨17, _⟩ => ⟨S2x128x1x32x1, .f32⟩
  | .hbm, ⟨18, _⟩ => ⟨S2x128x1x32x1, .f32⟩
  | .hbm, ⟨19, _⟩ => ⟨S_, .f32⟩
  | .hbm, ⟨20, _⟩ => ⟨S2x128x1x32x1, .f32⟩
  | .hbm, ⟨21, _⟩ => ⟨S2x128x1x32x1, .f32⟩
  | .hbm, ⟨22, _⟩ => ⟨S_, .f32⟩
  | .hbm, ⟨23, _⟩ => ⟨S_, .f32⟩
  | .hbm, ⟨24, _⟩ => ⟨S2x128x1x32x1, .f32⟩
  | .hbm, ⟨25, _⟩ => ⟨S2x128x1x32x1, .f32⟩
  | .hbm, ⟨26, _⟩ => ⟨S2x128x1x32x1, .f32⟩
  | .hbm, ⟨27, _⟩ => ⟨S2x128x1x32x1, .f32⟩
  | .hbm, ⟨28, _⟩ => ⟨S2x128x1x32x1, .f32⟩
  | .hbm, ⟨29, _⟩ => ⟨S2x128x1x32x1, .f32⟩
  | .hbm, ⟨30, _⟩ => ⟨S2x128x128x32x256, .f32⟩
  | .hbm, ⟨31, _⟩ => ⟨S2x128x128x32x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x128x128x32x256, .f32⟩
  | .hbm, ⟨36, _⟩ => ⟨S2x128x128x32x256, .f32⟩
  | .hbm, ⟨37, _⟩ => ⟨S_, .f32⟩
  | .hbm, ⟨38, _⟩ => ⟨S2x128x128x32x256, .f32⟩
  | .hbm, ⟨39, _⟩ => ⟨S2x128x128x32x256, .f32⟩
  | .hbm, ⟨40, _⟩ => ⟨S2x128x128x32x256, .fp8e4m3⟩
  | .hbm, ⟨41, _⟩ => ⟨S2x128x1x32x1, .f32⟩
  | .hbm, ⟨42, _⟩ => ⟨S2x128x1x32x1, .f32⟩
  | .hbm, ⟨43, _⟩ => ⟨S2x128x1x32x1, .f32⟩
  | .hbm, ⟨44, _⟩ => ⟨S2x16384x8192, .fp8e4m3⟩
  | .hbm, ⟨45, _⟩ => ⟨S2x128x1x32, .f32⟩
  | _, _ => ⟨S2x16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== QuantiseT.lean ====
abbrev S2x16384x8192 : Shape := ⟨3, ![2, 16384, 8192]⟩
abbrev S2x128x1x32 : Shape := ⟨4, ![2, 128, 1, 32]⟩
abbrev S2x32x128x256x128 : Shape := ⟨5, ![2, 32, 128, 256, 128]⟩
abbrev S1x128x8192 : Shape := ⟨3, ![1, 128, 8192]⟩
abbrev S1x1x1x32 : Shape := ⟨4, ![1, 1, 1, 32]⟩
abbrev S1x32x1x256x128 : Shape := ⟨5, ![1, 32, 1, 256, 128]⟩
abbrev S1x32 : Shape := ⟨2, ![1, 32]⟩
abbrev S1x128x256 : Shape := ⟨3, ![1, 128, 256]⟩
abbrev S128x256 : Shape := ⟨2, ![128, 256]⟩
abbrev S1 : Shape := ⟨1, ![1]⟩
abbrev S1x1x1 : Shape := ⟨3, ![1, 1, 1]⟩
abbrev S1x1 : Shape := ⟨2, ![1, 1]⟩
abbrev S256x128 : Shape := ⟨2, ![256, 128]⟩
abbrev S1x1x1x256x128 : Shape := ⟨5, ![1, 1, 1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x16384x8192, .bf16⟩
  | .hbm, ⟨1, _⟩ => ⟨S2x16384x8192, .fp8e4m3⟩
  | .hbm, ⟨2, _⟩ => ⟨S2x128x1x32, .f32⟩
  | .hbm, ⟨3, _⟩ => ⟨S2x32x128x256x128, .fp8e4m3⟩
  | .local _ .vmem, ⟨0, _⟩ => ⟨S1x128x8192, .bf16⟩
  | .local _ .vmem, ⟨1, _⟩ => ⟨S1x128x8192, .bf16⟩
  | .local _ .vmem, ⟨2, _⟩ => ⟨S1x128x8192, .fp8e4m3⟩
  | .local _ .vmem, ⟨3, _⟩ => ⟨S1x128x8192, .fp8e4m3⟩
  | .local _ .vmem, ⟨4, _⟩ => ⟨S1x1x1x32, .f32⟩
  | .local _ .vmem, ⟨5, _⟩ => ⟨S1x1x1x32, .f32⟩
  | .local _ .vmem, ⟨6, _⟩ => ⟨S1x32x1x256x128, .fp8e4m3⟩
  | .local _ .vmem, ⟨7, _⟩ => ⟨S1x32x1x256x128, .fp8e4m3⟩
  | _, _ => ⟨S2x16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QuantiseTReferenceIdeal.lean ====
abbrev S2x16384x8192 : Shape := ⟨3, ![2, 16384, 8192]⟩
abbrev S2x128x128x32x256 : Shape := ⟨5, ![2, 128, 128, 32, 256]⟩
abbrev S_ : Shape := ⟨0, ![]⟩
abbrev S2x128x32 : Shape := ⟨3, ![2, 128, 32]⟩
abbrev S2x128x1x32x1 : Shape := ⟨5, ![2, 128, 1, 32, 1]⟩
abbrev S2x128x1x32 : Shape := ⟨4, ![2, 128, 1, 32]⟩
abbrev S2x32x128x256x128 : Shape := ⟨5, ![2, 32, 128, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x8192, .bf16⟩
  | .hbm, ⟨1, _⟩ => ⟨S2x16384x8192, .f32⟩
  | .hbm, ⟨2, _⟩ => ⟨S2x128x128x32x256, .f32⟩
  | .hbm, ⟨3, _⟩ => ⟨S2x128x128x32x256, .f32⟩
  | .hbm, ⟨4, _⟩ => ⟨S_, .f32⟩
  | .hbm, ⟨5, _⟩ => ⟨S2x128x32, .f32⟩
  | .hbm, ⟨6, _⟩ => ⟨S2x128x1x32x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x128x1x32x1, .f32⟩
  | .hbm, ⟨11, _⟩ => ⟨S2x128x1x32x1, .i1⟩
  | .hbm, ⟨12, _⟩ => ⟨S_, .f32⟩
  | .hbm, ⟨13, _⟩ => ⟨S2x128x1x32x1, .f32⟩
  | .hbm, ⟨14, _⟩ => ⟨S2x128x1x32x1, .f32⟩
  | .hbm, ⟨15, _⟩ => ⟨S2x128x1x32x1, .f32⟩
  | .hbm, ⟨16, _⟩ => ⟨S2x128x1x32x1, .f32⟩
  | .hbm, ⟨17, _⟩ => ⟨S2x128x1x32x1, .f32⟩
  | .hbm, ⟨18, _⟩ => ⟨S2x128x1x32x1, .f32⟩
  | .hbm, ⟨19, _⟩ => ⟨S_, .f32⟩
  | .hbm, ⟨20, _⟩ => ⟨S2x128x1x32x1, .f32⟩
  | .hbm, ⟨21, _⟩ => ⟨S2x128x1x32x1, .f32⟩
  | .hbm, ⟨22, _⟩ => ⟨S_, .f32⟩
  | .hbm, ⟨23, _⟩ => ⟨S_, .f32⟩
  | .hbm, ⟨24, _⟩ => ⟨S2x128x1x32x1, .f32⟩
  | .hbm, ⟨25, _⟩ => ⟨S2x128x1x32x1, .f32⟩
  | .hbm, ⟨26, _⟩ => ⟨S2x128x1x32x1, .f32⟩
  | .hbm, ⟨27, _⟩ => ⟨S2x128x1x32x1, .f32⟩
  | .hbm, ⟨28, _⟩ => ⟨S2x128x1x32x1, .f32⟩
  | .hbm, ⟨29, _⟩ => ⟨S2x128x1x32x1, .f32⟩
  | .hbm, ⟨30, _⟩ => ⟨S2x128x128x32x256, .f32⟩
  | .hbm, ⟨31, _⟩ => ⟨S2x128x128x32x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x128x128x32x256, .f32⟩
  | .hbm, ⟨36, _⟩ => ⟨S2x128x128x32x256, .f32⟩
  | .hbm, ⟨37, _⟩ => ⟨S_, .f32⟩
  | .hbm, ⟨38, _⟩ => ⟨S2x128x128x32x256, .f32⟩
  | .hbm, ⟨39, _⟩ => ⟨S2x128x128x32x256, .f32⟩
  | .hbm, ⟨40, _⟩ => ⟨S2x128x128x32x256, .fp8e4m3⟩
  | .hbm, ⟨41, _⟩ => ⟨S2x128x1x32x1, .f32⟩
  | .hbm, ⟨42, _⟩ => ⟨S2x128x1x32x1, .f32⟩
  | .hbm, ⟨43, _⟩ => ⟨S2x128x1x32x1, .f32⟩
  | .hbm, ⟨44, _⟩ => ⟨S2x16384x8192, .fp8e4m3⟩
  | .hbm, ⟨45, _⟩ => ⟨S2x128x1x32, .f32⟩
  | .hbm, ⟨46, _⟩ => ⟨S2x32x128x256x128, .fp8e4m3⟩
  | _, _ => ⟨S2x16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.K.LoopInv.lean ====
module

public import proofs.«01_k».proof.Proof.Gen.Kernel.Frame
public import proofs.«01_k».proof.Proof.Gen.Kernel.Skeleton
public import Idealize.ShloMosaic.Lib.LoopRemainder
public import Idealize.ShloMosaic.Lib.VecWindow

/-! # The two loops of the attention kernel, as invariants

The first loop writes one block of 128 scaled dot products and its column maxima per trip; the second adds one
block's share to the running numerator and denominator.  Each buffer a loop writes is stated as a recursion over the
trips: its contents before a trip, with what that trip stores written over them. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-! ## What each trip stores -/

/-- The word of a scalar-memory row that a unit rectangle at `off` names. -/
def wordAt (arg : Memref sig .tc .smem S1x1x1x128 .f32) (f : BufTy.Contents (Elt F) arg.view.ty) (off : Fin 4 → ℕ)
    (inb : ∀ a, off a + S1x1x1x1.size a ≤ S1x1x1x128.size a) : Elt F .f32 :=
  arg.view.readAt (Elt F) (Rect.unit (s := S1x1x1x128) off S1x1x1x1.size inb).toLoadRect f (Shape.Idx.first (numel1_S1x1x1x1.symm ▸ Nat.one_pos))

/-- The logits buffer before trip `k` of the first loop, from contents `d` at its entry. -/
def st10 (i : grid0.Coords) (arg4 : Memref sig .tc .smem S1x1x1x128 .f32) (arg7 : Memref sig .tc .vmem S1x16384x256 .fp8e4m3) (arg10 : Memref sig .tc .vmem S16384x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg10.view.ty) : ℕ → BufTy.Contents (Elt F) arg10.view.ty
  | 0 => d
  | k + 1 => if h : k < (k0_t1_loop i).trips then
      arg10.view.writes (Elt F) (st10 i arg4 arg7 arg10 v10 v25 f4 f7 d k)
        [⟨Rect.unit (s := S16384x256) (k0_off5 i ⟨k, h⟩) S128x256.size (k0_off5_inb i ⟨k, h⟩),
          k0_pay16 v10 v25 (arg7.view.readAt (Elt F) (Rect.unit (s := S1x16384x256) (k0_off3 i ⟨k, h⟩) S1x128x256.size (k0_off3_inb i ⟨k, h⟩)).toLoadRect f7)
            (wordAt arg4 f4 (k0_off4 i ⟨k, h⟩) (k0_off4_inb i ⟨k, h⟩))⟩]
    else st10 i arg4 arg7 arg10 v10 v25 f4 f7 d k

/-- The buffer of block maxima before trip `k` of the first loop. -/
def st11 (i : grid0.Coords) (arg4 : Memref sig .tc .smem S1x1x1x128 .f32) (arg7 : Memref sig .tc .vmem S1x16384x256 .fp8e4m3) (arg11 : Memref sig .tc .vmem S128x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg11.view.ty) : ℕ → BufTy.Contents (Elt F) arg11.view.ty
  | 0 => d
  | k + 1 => if h : k < (k0_t1_loop i).trips then
      arg11.view.writes (Elt F) (st11 i arg4 arg7 arg11 v10 v25 f4 f7 d k)
        [⟨Rect.unit (s := S128x256) (k0_off6 i ⟨k, h⟩) S1x256.size (k0_off6_inb i ⟨k, h⟩),
          k0_pay17 v10 v25 (arg7.view.readAt (Elt F) (Rect.unit (s := S1x16384x256) (k0_off3 i ⟨k, h⟩) S1x128x256.size (k0_off3_inb i ⟨k, h⟩)).toLoadRect f7)
            (wordAt arg4 f4 (k0_off4 i ⟨k, h⟩) (k0_off4_inb i ⟨k, h⟩))⟩]
    else st11 i arg4 arg7 arg11 v10 v25 f4 f7 d k

/-- The denominator's buffer before trip `k` of the second loop. -/
def st15 (i : grid0.Coords) (arg10 : Memref sig .tc .vmem S16384x256 .f32) (arg12 : Memref sig .tc .vmem S128x256 .f32) (arg13 : Memref sig .tc .vmem S128x256 .f32) (arg15 : Memref sig .tc .vmem S1x256 .f32)
    (f10 : BufTy.Contents (Elt F) arg10.view.ty) (f12 : BufTy.Contents (Elt F) arg12.view.ty) (f13 : BufTy.Contents (Elt F) arg13.view.ty) (d : BufTy.Contents (Elt F) arg15.view.ty) : ℕ → BufTy.Contents (Elt F) arg15.view.ty
  | 0 => d
  | k + 1 => if h : k < (k0_t3_loop i).trips then
      arg15.view.writes (Elt F) (st15 i arg10 arg12 arg13 arg15 f10 f12 f13 d k)
        [⟨Rect.unit (s := S1x256) ![0, 0] S1x256.size inb_S1x256_S1x256_0_0,
          k0_pay5 (arg13.view.readAt (Elt F) (Rect.unit (s := S128x256) (k0_off15 i ⟨k, h⟩) S1x256.size (k0_off15_inb i ⟨k, h⟩)).toLoadRect f13)
            (arg10.view.readAt (Elt F) (Rect.unit (s := S16384x256) (k0_off16 i ⟨k, h⟩) S128x256.size (k0_off16_inb i ⟨k, h⟩)).toLoadRect f10)
            (arg12.view.readAt (Elt F) (Rect.unit (s := S128x256) (k0_off15 i ⟨k, h⟩) S1x256.size (k0_off15_inb i ⟨k, h⟩)).toLoadRect f12)
            (arg15.view.readAt (Elt F) (Rect.unit (s := S1x256) ![0, 0] S1x256.size inb_S1x256_S1x256_0_0).toLoadRect
              (st15 i arg10 arg12 arg13 arg15 f10 f12 f13 d k))⟩]
    else st15 i arg10 arg12 arg13 arg15 f10 f12 f13 d k

/-- The numerator's buffer before trip `k` of the second loop. -/
def st14 (i : grid0.Coords) (arg5 : Memref sig .tc .smem S1x1x1x128 .f32) (arg8 : Memref sig .tc .vmem S1x1x128x256x128 .fp8e4m3) (arg10 : Memref sig .tc .vmem S16384x256 .f32) (arg12 : Memref sig .tc .vmem S128x256 .f32) (arg13 : Memref sig .tc .vmem S128x256 .f32) (arg14 : Memref sig .tc .vmem S256x256 .f32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d : BufTy.Contents (Elt F) arg14.view.ty) : ℕ → BufTy.Contents (Elt F) arg14.view.ty
  | 0 => d
  | k + 1 => if h : k < (k0_t3_loop i).trips then
      arg14.view.writes (Elt F) (st14 i arg5 arg8 arg10 arg12 arg13 arg14 f5 f8 f10 f12 f13 d k)
        [⟨Rect.unit (s := S256x256) ![0, 0] S256x256.size inb_S256x256_S256x256_0_0,
          k0_pay1
            (k0_pay6 (arg10.view.readAt (Elt F) (Rect.unit (s := S16384x256) (k0_off16 i ⟨k, h⟩) S128x256.size (k0_off16_inb i ⟨k, h⟩)).toLoadRect f10)
              (arg12.view.readAt (Elt F) (Rect.unit (s := S128x256) (k0_off15 i ⟨k, h⟩) S1x256.size (k0_off15_inb i ⟨k, h⟩)).toLoadRect f12)
              (arg8.view.readAt (Elt F) (Rect.unit (s := S1x1x128x256x128) (k0_off17 i ⟨k, h⟩) S1x1x1x256x128.size (k0_off17_inb i ⟨k, h⟩)).toLoadRect f8))
            (arg14.view.readAt (Elt F) (Rect.unit (s := S256x256) ![0, 0] S256x256.size inb_S256x256_S256x256_0_0).toLoadRect
              (st14 i arg5 arg8 arg10 arg12 arg13 arg14 f5 f8 f10 f12 f13 d k))
            (k0_pay7 (arg13.view.readAt (Elt F) (Rect.unit (s := S128x256) (k0_off15 i ⟨k, h⟩) S1x256.size (k0_off15_inb i ⟨k, h⟩)).toLoadRect f13)
              (wordAt arg5 f5 (k0_off18 i ⟨k, h⟩) (k0_off18_inb i ⟨k, h⟩)))⟩]
    else st14 i arg5 arg8 arg10 arg12 arg13 arg14 f5 f8 f10 f12 f13 d k

/-! ## The first loop -/

/-- Before trip `k` of the first loop: keys and key scales as they were, logits and block maxima as `st10` and `st11` say. -/
def inv1 (c : Dev nD) (i : grid0.Coords) (arg4 : Memref sig .tc .smem S1x1x1x128 .f32) (arg7 : Memref sig .tc .vmem S1x16384x256 .fp8e4m3) (arg10 : Memref sig .tc .vmem S16384x256 .f32) (arg11 : Memref sig .tc .vmem S128x256 .f32) (v10 : FVec F S256x256 .fp8e4m3) (v25 : FVec F S1x256 .f32)
    (f4 : BufTy.Contents (Elt F) arg4.view.ty) (f7 : BufTy.Contents (Elt F) arg7.view.ty) (d10 : BufTy.Contents (Elt F) arg10.view.ty) (d11 : BufTy.Contents (Elt F) arg11.view.ty) (k : ℕ) (_ : Unit) : sProp 𝕄 :=
  iprop((arg4.view.loc (c : Thread nD τ) ↦[arg4.view.set]{fullShare} f4) ∗ (arg7.view.loc (c : Thread nD τ) ↦[arg7.view.set]{fullShare} f7)
    ∗ (∃ g, (arg10.view.loc (c : Thread nD τ) ↦[arg10.view.set]{fullShare} g) ∗ ⌜g = st10 i arg4 arg7 arg10 v10 v25 f4 f7 d10 k⌝)
    ∗ (∃ g, (arg11.view.loc (c : Thread nD τ) ↦[arg11.view.set]{fullShare} g) ∗ ⌜g = st11 i arg4 arg7 arg11 v10 v25 f4 f7 d11 k⌝))

set_option maxHeartbeats 4000000 in
/-- One trip of the first loop keeps the invariant. -/
theorem step1 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (arg2 v1 : BitVec 32) (v10 : FVec F S256x256 .fp8e4m3) (v11 : IVec S1x256 32) (v25 : FVec F S1x256 .f32) (v30 : BitVec 32)
    (f4 : BufTy.Contents (Elt F) arg4.view.ty) (f7 : BufTy.Contents (Elt F) arg7.view.ty) (d10 : BufTy.Contents (Elt F) arg10.view.ty) (d11 : BufTy.Contents (Elt F) arg11.view.ty) (k : Fin (k0_t1_loop i).trips) (acc : Unit) :
    inv1 c i arg4 arg7 arg10 arg11 v10 v25 f4 f7 d10 d11 k acc
      ⊢ wp frame (wpE (defs₀ (F := F)) 𝒱 (c : Thread nD τ) bd) E
          (k0_t1_body (F := F) i arg3 harg3 arg4 harg4 arg5 harg5 arg6 harg6 arg7 harg7 arg8 harg8 arg9 harg9 arg10 harg10 arg11 harg11 arg12 harg12 arg13 harg13 arg14 harg14 arg15 harg15 arg2 v1 v10 v11 v25 v30 k acc)
          (inv1 c i arg4 arg7 arg10 arg11 v10 v25 f4 f7 d10 d11 (k.val + 1)) := by
  unfold inv1 k0_t1_body
  iintro ⟨H4, H7, ⟨%g10, H10, %e10⟩, ⟨%g11, H11, %e11⟩⟩
  subst e10 e11
  sl_exec
  sl_step
  isplitl [H4]; · iexact H4
  isplitl [H7]; · iexact H7
  isplitl [H10]
  · iexists _; isplitl [H10]; · iexact H10
    ipureintro
    rw [st10, dif_pos k.isLt]; rfl
  · iexists _; isplitl [H11]; · iexact H11
    ipureintro
    rw [st11, dif_pos k.isLt]; rfl

set_option warn.classDefReducibility false in
/-- The first loop's invariant, as the executor looks it up. -/
@[sl_loop] def loop1 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (arg2 v1 : BitVec 32) (v10 : FVec F S256x256 .fp8e4m3) (v11 : IVec S1x256 32) (v25 : FVec F S1x256 .f32) (v30 : BitVec 32)
    (f4 : BufTy.Contents (Elt F) arg4.view.ty) (f7 : BufTy.Contents (Elt F) arg7.view.ty) (d10 : BufTy.Contents (Elt F) arg10.view.ty) (d11 : BufTy.Contents (Elt F) arg11.view.ty) :
    LoopInv (M := 𝕄) Idealize.ShloMosaic.frame (wpE (defs₀ (F := F)) 𝒱 (c : Thread nD τ) bd) E
      (k0_t1_loop i).lb (k0_t1_loop i).ub (k0_t1_loop i).st (k0_t1_ok i) ()
      (k0_t1_body (F := F) i arg3 harg3 arg4 harg4 arg5 harg5 arg6 harg6 arg7 harg7 arg8 harg8 arg9 harg9 arg10 harg10 arg11 harg11 arg12 harg12 arg13 harg13 arg14 harg14 arg15 harg15 arg2 v1 v10 v11 v25 v30) where
  inv := inv1 c i arg4 arg7 arg10 arg11 v10 v25 f4 f7 d10 d11
  step := step1 𝒱 c bd E i arg3 harg3 arg4 harg4 arg5 harg5 arg6 harg6 arg7 harg7 arg8 harg8 arg9 harg9 arg10 harg10 arg11 harg11 arg12 harg12 arg13 harg13 arg14 harg14 arg15 harg15 arg2 v1 v10 v11 v25 v30 f4 f7 d10 d11

/-! ## The second loop -/

/-- Before trip `k` of the second loop: what it reads as it was, numerator and denominator as `st14` and `st15` say. -/
def inv3 (c : Dev nD) (i : grid0.Coords) (arg5 : Memref sig .tc .smem S1x1x1x128 .f32) (arg8 : Memref sig .tc .vmem S1x1x128x256x128 .fp8e4m3) (arg10 : Memref sig .tc .vmem S16384x256 .f32) (arg12 : Memref sig .tc .vmem S128x256 .f32) (arg13 : Memref sig .tc .vmem S128x256 .f32) (arg14 : Memref sig .tc .vmem S256x256 .f32) (arg15 : Memref sig .tc .vmem S1x256 .f32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d14 : BufTy.Contents (Elt F) arg14.view.ty) (d15 : BufTy.Contents (Elt F) arg15.view.ty) (k : ℕ) (_ : Unit) : sProp 𝕄 :=
  iprop((arg5.view.loc (c : Thread nD τ) ↦[arg5.view.set]{fullShare} f5) ∗ (arg8.view.loc (c : Thread nD τ) ↦[arg8.view.set]{fullShare} f8) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13)
    ∗ (∃ g, (arg14.view.loc (c : Thread nD τ) ↦[arg14.view.set]{fullShare} g) ∗ ⌜g = st14 i arg5 arg8 arg10 arg12 arg13 arg14 f5 f8 f10 f12 f13 d14 k⌝)
    ∗ (∃ g, (arg15.view.loc (c : Thread nD τ) ↦[arg15.view.set]{fullShare} g) ∗ ⌜g = st15 i arg10 arg12 arg13 arg15 f10 f12 f13 d15 k⌝))

set_option maxHeartbeats 4000000 in
/-- One trip of the second loop keeps the invariant. -/
theorem step3 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (w1 w2 w3 : BitVec 32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d14 : BufTy.Contents (Elt F) arg14.view.ty) (d15 : BufTy.Contents (Elt F) arg15.view.ty) (k : Fin (k0_t3_loop i).trips) (acc : Unit) :
    inv3 c i arg5 arg8 arg10 arg12 arg13 arg14 arg15 f5 f8 f10 f12 f13 d14 d15 k acc
      ⊢ wp frame (wpE (defs₀ (F := F)) 𝒱 (c : Thread nD τ) bd) E
          (k0_t3_body (F := F) i arg3 harg3 arg4 harg4 arg5 harg5 arg6 harg6 arg7 harg7 arg8 harg8 arg9 harg9 arg10 harg10 arg11 harg11 arg12 harg12 arg13 harg13 arg14 harg14 arg15 harg15 w1 w2 w3 k acc)
          (inv3 c i arg5 arg8 arg10 arg12 arg13 arg14 arg15 f5 f8 f10 f12 f13 d14 d15 (k.val + 1)) := by
  unfold inv3 k0_t3_body
  simp only [k0_part1_eq_skeleton]
  iintro ⟨H5, H8, H10, H12, H13, ⟨%g14, H14, %e14⟩, ⟨%g15, H15, %e15⟩⟩
  subst e14 e15
  sl_exec
  sl_step
  isplitl [H5]; · iexact H5
  isplitl [H8]; · iexact H8
  isplitl [H10]; · iexact H10
  isplitl [H12]; · iexact H12
  isplitl [H13]; · iexact H13
  isplitl [H14]
  · iexists _; isplitl [H14]; · iexact H14
    ipureintro
    rw [st14, dif_pos k.isLt]; rfl
  · iexists _; isplitl [H15]; · iexact H15
    ipureintro
    rw [st15, dif_pos k.isLt]

set_option warn.classDefReducibility false in
/-- The second loop's invariant, as the executor looks it up. -/
@[sl_loop] def loop3 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (w1 w2 w3 : BitVec 32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d14 : BufTy.Contents (Elt F) arg14.view.ty) (d15 : BufTy.Contents (Elt F) arg15.view.ty) :
    LoopInv (M := 𝕄) Idealize.ShloMosaic.frame (wpE (defs₀ (F := F)) 𝒱 (c : Thread nD τ) bd) E
      (k0_t3_loop i).lb (k0_t3_loop i).ub (k0_t3_loop i).st (k0_t3_ok i) ()
      (k0_t3_body (F := F) i arg3 harg3 arg4 harg4 arg5 harg5 arg6 harg6 arg7 harg7 arg8 harg8 arg9 harg9 arg10 harg10 arg11 harg11 arg12 harg12 arg13 harg13 arg14 harg14 arg15 harg15 w1 w2 w3) where
  inv := inv3 c i arg5 arg8 arg10 arg12 arg13 arg14 arg15 f5 f8 f10 f12 f13 d14 d15
  step := step3 𝒱 c bd E i arg3 harg3 arg4 harg4 arg5 harg5 arg6 harg6 arg7 harg7 arg8 harg8 arg9 harg9 arg10 harg10 arg11 harg11 arg12 harg12 arg13 harg13 arg14 harg14 arg15 harg15 w1 w2 w3 f5 f8 f10 f12 f13 d14 d15

end Cert.Kernel.Body

end
-- ==== Proof.K.Tiles.lean ====
module

public import proofs.«01_k».proof.Proof.Gen.Kernel.Skeleton
public import Idealize.ShloMosaic.Lib.VecWindow
public import Idealize.ShloMosaic.Lib.WordCmp
public import Idealize.ShloMosaic.Lib.Pointwise
public import Idealize.ShloMosaic.Lib.Decide

/-! # What one grid point of the attention kernel computes

At query tile `j` (256 query rows of one batch and head) the kernel meets `2 * j + 2` key blocks of 128 rows.  `tile`
is the block of `tanh` values it stores for one key block (query rows along the second axis), `bmx` that block's column
maxima, `shiftTab` and `scaleTab` the two tables it derives from all the maxima, `oAcc` and `lAcc` the running
numerator and denominator, and `outBlk` the block of the result. -/

@[expose] public section

set_option maxRecDepth 16384

noncomputable section

namespace Cert.Kernel.Body

open Idealize.ShloMosaic Idealize.ShloMosaic.Pointwise
open Cert.Kernel Cert.Kernel.Gen

variable {F : FTy → Type} [FloatOps F]

/-! ## In-range facts of the windows read -/

theorem word_in (n : Fin 128) : ∀ a, (![0, 0, 0, n.val] : Fin 4 → ℕ) a + S1x1x1x1.size a ≤ S1x1x1x128.size a := by
  intro a; have := n.isLt; fin_cases a <;> simp [S1x1x1x1, S1x1x1x128] <;> omega
theorem key_in (n : Fin 128) : ∀ a, (![0, 128 * n.val, 0] : Fin 3 → ℕ) a + S1x128x256.size a ≤ S1x16384x256.size a := by
  intro a; have := n.isLt; fin_cases a <;> simp [S1x128x256, S1x16384x256] <;> omega
theorem value_in (n : Fin 128) : ∀ a, (![0, 0, n.val, 0, 0] : Fin 5 → ℕ) a + S1x1x1x256x128.size a ≤ S1x1x128x256x128.size a := by
  intro a; have := n.isLt; fin_cases a <;> simp [S1x1x1x256x128, S1x1x128x256x128] <;> omega
theorem row_in (n : Fin 128) : ∀ a, (![n.val, 0] : Fin 2 → ℕ) a + S1x256.size a ≤ S128x256.size a := by
  intro a; have := n.isLt; fin_cases a <;> simp [S1x256, S128x256] <;> omega
theorem tile_in (n : Fin 128) : ∀ a, (![128 * n.val, 0] : Fin 2 → ℕ) a + S128x256.size a ≤ S16384x256.size a := by
  intro a; have := n.isLt; fin_cases a <;> simp [S128x256, S16384x256] <;> omega

/-! ## What is read -/

/-- Scale `n` of a row of scales. -/
def word (x : Vec F S1x1x1x128 .f32) (n : Fin 128) : Elt F .f32 :=
  VecWindow.window x ![0, 0, 0, n.val] S1x1x1x1.size (word_in n) (Shape.Idx.first (numel1_S1x1x1x1.symm ▸ Nat.one_pos))
/-- Key block `n`. -/
def keyBlk (x : Vec F S1x16384x256 .fp8e4m3) (n : Fin 128) : Vec F S1x128x256 .fp8e4m3 :=
  VecWindow.window x ![0, 128 * n.val, 0] S1x128x256.size (key_in n)
/-- Transposed value block `n`. -/
def valueBlk (x : Vec F S1x1x128x256x128 .fp8e4m3) (n : Fin 128) : Vec F S1x1x1x256x128 .fp8e4m3 :=
  VecWindow.window x ![0, 0, n.val, 0, 0] S1x1x1x256x128.size (value_in n)
/-- Row `n` of a table. -/
def row (x : Vec F S128x256 .f32) (n : Fin 128) : Vec F S1x256 .f32 :=
  VecWindow.window x ![n.val, 0] S1x256.size (row_in n)

/-! ## The blocks -/

/-- The number of key blocks, as the kernel's word. -/
def nblk (i : grid0.Coords) : BitVec 32 := Scalar.muli 2#32 (Scalar.addi (BitVec.ofNat 32 (i 2).val) 1#32)

theorem coord_lt (i : grid0.Coords) : (i 2).val < 64 := (i 2).isLt

/-- The query tile's scales, one per query row. -/
def qScale (i : grid0.Coords) (qs : Vec F S1x1x1x128 .f32) : FVec F S1x256 .f32 :=
  k0_pay14 (word qs ⟨2 * (i 2).val, by have := coord_lt i; omega⟩) (word qs ⟨2 * (i 2).val + 1, by have := coord_lt i; omega⟩)

section
variable (i : grid0.Coords) (qs ks vs : Vec F S1x1x1x128 .f32) (q : Vec F S1x256x256 .fp8e4m3)
  (k : Vec F S1x16384x256 .fp8e4m3) (vt : Vec F S1x1x128x256x128 .fp8e4m3)

/-- The masked block before it is stored: key block `2 * j` against the query tile. -/
def diag0 (n : Fin 128) : FVec F S128x256 .f32 :=
  k0_pay21 (BitVec.ofNat 32 (i 2).val) (nblk i) (k0_pay13 q) (iota .tc S1x256 32 [1] iota_S1x256_d1_w32) (qScale i qs) (keyBlk k n) (word ks n)
/-- The same for key block `2 * j + 1`. -/
def diag1 (n : Fin 128) : FVec F S128x256 .f32 :=
  k0_pay24 (BitVec.ofNat 32 (i 2).val) (nblk i) (k0_pay13 q) (iota .tc S1x256 32 [1] iota_S1x256_d1_w32) (qScale i qs) (keyBlk k n) (word ks n)

/-- The stored block of `tanh` values for key block `n`: unmasked before the diagonal, masked on it. -/
def tile (n : Fin 128) : FVec F S128x256 .f32 :=
  if n.val < 2 * (i 2).val then k0_pay16 (k0_pay13 q) (qScale i qs) (keyBlk k n) (word ks n)
  else if n.val = 2 * (i 2).val then k0_pay22 (diag0 i qs ks q k n)
  else k0_pay25 (diag1 i qs ks q k n)

/-- Its column maxima. -/
def bmx (n : Fin 128) : FVec F S1x256 .f32 :=
  if n.val < 2 * (i 2).val then k0_pay17 (k0_pay13 q) (qScale i qs) (keyBlk k n) (word ks n)
  else if n.val = 2 * (i 2).val then k0_pay23 (diag0 i qs ks q k n)
  else k0_pay26 (diag1 i qs ks q k n)

/-- All the maxima, one row per key block. -/
def maxTab : Vec F S128x256 .f32 := fun y => bmx i qs ks q k (show Fin 128 from y 0) (ix2 (0 : Fin 1) (show Fin 256 from y 1))

/-- The power-of-two exponents' fields, one per key block and query row, from a table of maxima. -/
def fieldTab (T : Vec F S128x256 .f32) : IVec S128x256 32 :=
  k0_pay32 (k0_pay29 (nblk i) T) (k0_pay30 (nblk i) T) (k0_pay31 (nblk i) T)
/-- Where the exponent is replaced by zero. -/
def flagTab (T : Vec F S128x256 .f32) : IVec S128x256 1 :=
  k0_pay33 (k0_pay29 (nblk i) T) (k0_pay30 (nblk i) T) (k0_pay31 (nblk i) T)
/-- The shifts subtracted in the exponent. -/
def shiftTab (T : Vec F S128x256 .f32) : FVec F S128x256 .f32 :=
  k0_pay36 (k0_pay28 (nblk i) T) (fieldTab i T) (flagTab i T) k0_pay34
/-- The powers of two the blocks' shares are scaled back by. -/
def scaleTab (T : Vec F S128x256 .f32) : FVec F S128x256 .f32 :=
  k0_pay37 (fieldTab i T) (flagTab i T) k0_pay34

/-- The denominator after `n` key blocks. -/
def lAcc : ℕ → Vec F S1x256 .f32
  | 0 => k0_pay39
  | n + 1 => if h : n < 128 then
      k0_pay5 (row (scaleTab i (maxTab i qs ks q k)) ⟨n, h⟩) (tile i qs ks q k ⟨n, h⟩) (row (shiftTab i (maxTab i qs ks q k)) ⟨n, h⟩) (lAcc n)
    else lAcc n

/-- The numerator after `n` key blocks. -/
def oAcc : ℕ → Vec F S256x256 .f32
  | 0 => k0_pay38
  | n + 1 => if h : n < 128 then
      k0_pay1 (k0_pay6 (tile i qs ks q k ⟨n, h⟩) (row (shiftTab i (maxTab i qs ks q k)) ⟨n, h⟩) (valueBlk vt ⟨n, h⟩)) (oAcc n)
        (k0_pay7 (row (scaleTab i (maxTab i qs ks q k)) ⟨n, h⟩) (word vs ⟨n, h⟩))
    else oAcc n

/-- The block of the result a grid point writes. -/
def outBlk : FVec F S1x256x256 .bf16 :=
  k0_pay3 (oAcc i qs ks vs q k vt (2 * (i 2).val + 2)) (lAcc i qs ks q k (2 * (i 2).val + 2))

end

/-- The number of key blocks is `2 * j + 2`. -/
theorem nblk_eq (i : grid0.Coords) : nblk i = BitVec.ofNat 32 (2 * (i 2).val + 2) := by
  have h : ∀ n : Fin 64, Scalar.muli 2#32 (Scalar.addi (BitVec.ofNat 32 n.val) 1#32) = BitVec.ofNat 32 (2 * n.val + 2) := by decide +kernel
  exact h (i 2)

/-- The table of maxima with the rows from the number of key blocks on masked, at an index. -/
theorem pay27_at (i : grid0.Coords) (T : Vec F S128x256 .f32) (r : Fin 128) (c : Fin 256) :
    k0_pay27 (nblk i) T (ix2 r c) = if r.val < 2 * (i 2).val + 2 then T (ix2 r c) else FloatOps.ofBits .f32 0xFF800000#32 := by
  have hi := coord_lt i
  rw [nblk_eq]
  pointwise [k0_pay27]
  word_cmp

/-- The tables depend on the maxima only through the rows below the number of key blocks. -/
theorem pay27_congr (i : grid0.Coords) (T T' : Vec F S128x256 .f32)
    (h : ∀ y : S128x256.Idx, (y 0).val < 2 * (i 2).val + 2 → T y = T' y) : k0_pay27 (nblk i) T = k0_pay27 (nblk i) T' := by
  funext y
  idx_vars y
  rw [pay27_at, pay27_at]
  split
  · exact h (ix2 y0 y1) (by assumption)
  · rfl

theorem shiftTab_congr (i : grid0.Coords) (T T' : Vec F S128x256 .f32)
    (h : ∀ y : S128x256.Idx, (y 0).val < 2 * (i 2).val + 2 → T y = T' y) : shiftTab i T = shiftTab i T' := by
  unfold shiftTab fieldTab flagTab k0_pay31 k0_pay30 k0_pay29 k0_pay28
  rw [pay27_congr i T T' h]

theorem scaleTab_congr (i : grid0.Coords) (T T' : Vec F S128x256 .f32)
    (h : ∀ y : S128x256.Idx, (y 0).val < 2 * (i 2).val + 2 → T y = T' y) : scaleTab i T = scaleTab i T' := by
  unfold scaleTab fieldTab flagTab k0_pay31 k0_pay30 k0_pay29 k0_pay28
  rw [pay27_congr i T T' h]

end Cert.Kernel.Body

end
-- ==== Proof.K.Blocks.lean ====
module

public import proofs.«01_k».proof.Proof.K.LoopInv
public import proofs.«01_k».proof.Proof.K.Tiles

/-! # What the loops leave, as blocks

The buffers the two loops leave (`st10`, `st11`, `st14`, `st15`), read window by window: each is the block of
`Tiles.lean` of that name, whatever the buffers held before. -/

@[expose] public section

set_option maxRecDepth 16384

noncomputable section

namespace Cert.Kernel.Body

open Idealize.ShloMosaic Idealize.ShloMosaic.Pointwise
open Cert.Kernel Cert.Kernel.Gen

variable {F : FTy → Type} [FloatOps F]

/-! ## Trip counts -/

/-- The first loop makes `2 * j` trips, -/
theorem trips1 (i : grid0.Coords) : (k0_t1_loop i).trips = 2 * (i 2).val := by
  have h : ∀ n : Fin 64, Scf.trips 0#32 (Scalar.addi 0#32 (Scalar.muli (Scalar.divsi (Scalar.subi (Scalar.divsi (Scalar.addi (Scalar.subi (Scalar.subi
      (Scalar.muli 2#32 (Scalar.addi (BitVec.ofNat 32 n.val) 1#32)) 2#32) 0#32) (Scalar.subi 1#32 1#32)) 1#32) 0#32) 1#32) 1#32)) 1#32 = 2 * n.val := by
    decide +kernel
  exact h (i 2)

/-- and the second `2 * j + 2`. -/
theorem trips3 (i : grid0.Coords) : (k0_t3_loop i).trips = 2 * (i 2).val + 2 := by
  have h : ∀ n : Fin 64, Scf.trips 0#32 (Scalar.addi 0#32 (Scalar.muli (Scalar.divsi (Scalar.subi (Scalar.divsi (Scalar.addi (Scalar.subi
      (Scalar.muli 2#32 (Scalar.addi (BitVec.ofNat 32 n.val) 1#32)) 0#32) (Scalar.subi 1#32 1#32)) 1#32) 0#32) 1#32) 1#32)) 1#32 = 2 * n.val + 2 := by
    decide +kernel
  exact h (i 2)

/-! ## Reads -/

theorem wordAt_eq (arg : Memref sig .tc .smem S1x1x1x128 .f32) (f : BufTy.Contents (Elt F) arg.view.ty) (off : Fin 4 → ℕ)
    (inb : ∀ a, off a + S1x1x1x1.size a ≤ S1x1x1x128.size a) (n : Fin 128) (h : off = ![0, 0, 0, n.val]) :
    wordAt arg f off inb = word (arg.view.read (Elt F) f) n := by
  unfold wordAt word
  exact congrFun (View.readAt_unit arg.view f inb h (word_in n)) _

theorem keyAt_eq (arg7 : Memref sig .tc .vmem S1x16384x256 .fp8e4m3) (f : BufTy.Contents (Elt F) arg7.view.ty) (off : Fin 3 → ℕ)
    (inb : ∀ a, off a + S1x128x256.size a ≤ S1x16384x256.size a) (n : Fin 128) (h : off = ![0, 128 * n.val, 0]) :
    arg7.view.readAt (Elt F) (Rect.unit (s := S1x16384x256) off S1x128x256.size inb).toLoadRect f = keyBlk (arg7.view.read (Elt F) f) n :=
  View.readAt_unit arg7.view f inb h (key_in n)

theorem valueAt_eq (arg8 : Memref sig .tc .vmem S1x1x128x256x128 .fp8e4m3) (f : BufTy.Contents (Elt F) arg8.view.ty) (off : Fin 5 → ℕ)
    (inb : ∀ a, off a + S1x1x1x256x128.size a ≤ S1x1x128x256x128.size a) (n : Fin 128) (h : off = ![0, 0, n.val, 0, 0]) :
    arg8.view.readAt (Elt F) (Rect.unit (s := S1x1x128x256x128) off S1x1x1x256x128.size inb).toLoadRect f = valueBlk (arg8.view.read (Elt F) f) n :=
  View.readAt_unit arg8.view f inb h (value_in n)

theorem rowAt_eq (arg : Memref sig .tc .vmem S128x256 .f32) (f : BufTy.Contents (Elt F) arg.view.ty) (off : Fin 2 → ℕ)
    (inb : ∀ a, off a + S1x256.size a ≤ S128x256.size a) (n : Fin 128) (h : off = ![n.val, 0]) :
    arg.view.readAt (Elt F) (Rect.unit (s := S128x256) off S1x256.size inb).toLoadRect f = row (arg.view.read (Elt F) f) n :=
  View.readAt_unit arg.view f inb h (row_in n)

/-! ## The first loop's stores -/

/-- A store of one block of logits, read at any block. -/
theorem read_put10 (arg10 : Memref sig .tc .vmem S16384x256 .f32) (f : BufTy.Contents (Elt F) arg10.view.ty) (off : Fin 2 → ℕ) (inb : ∀ a, off a + S128x256.size a ≤ S16384x256.size a) (w : FVec F S128x256 .f32)
    (L : List (View.Piece (Elt F) S16384x256 .f32)) (m n : Fin 128) (h : off = ![128 * m.val, 0]) :
    VecWindow.window (arg10.view.read (Elt F) (arg10.view.writes (Elt F) f (⟨Rect.unit (s := S16384x256) off S128x256.size inb, w⟩ :: L))) ![128 * n.val, 0] S128x256.size (tile_in n)
      = if n = m then w else VecWindow.window (arg10.view.read (Elt F) (arg10.view.writes (Elt F) f L)) ![128 * n.val, 0] S128x256.size (tile_in n) := by
  rw [View.read_writes_cons_put arg10.view f inb w L h]
  split
  · next e => subst e; exact VecWindow.window_put_same _ _ _ _ _
  · next e =>
    have e' : n.val ≠ m.val := fun he => e (Fin.ext he)
    refine VecWindow.window_put_of_disjoint _ _ _ _ _ _ _ 0 ?_
    show 128 * n.val + 128 ≤ 128 * m.val ∨ 128 * m.val + 128 ≤ 128 * n.val
    omega

/-- A store of one row of maxima, read at any row. -/
theorem read_put11 (arg11 : Memref sig .tc .vmem S128x256 .f32) (f : BufTy.Contents (Elt F) arg11.view.ty) (off : Fin 2 → ℕ) (inb : ∀ a, off a + S1x256.size a ≤ S128x256.size a) (w : FVec F S1x256 .f32)
    (L : List (View.Piece (Elt F) S128x256 .f32)) (m n : Fin 128) (h : off = ![m.val, 0]) :
    row (arg11.view.read (Elt F) (arg11.view.writes (Elt F) f (⟨Rect.unit (s := S128x256) off S1x256.size inb, w⟩ :: L))) n
      = if n = m then w else row (arg11.view.read (Elt F) (arg11.view.writes (Elt F) f L)) n := by
  unfold row
  rw [View.read_writes_cons_put arg11.view f inb w L h]
  split
  · next e => subst e; exact VecWindow.window_put_same _ _ _ _ _
  · next e =>
    have e' : n.val ≠ m.val := fun he => e (Fin.ext he)
    refine VecWindow.window_put_of_disjoint _ _ _ _ _ _ _ 0 ?_
    show n.val + 1 ≤ m.val ∨ m.val + 1 ≤ n.val
    omega

/-- Before trip `k` of the first loop the blocks below `k` hold their values. -/
theorem st10_blk (i : grid0.Coords) (arg4 : Memref sig .tc .smem S1x1x1x128 .f32) (arg7 : Memref sig .tc .vmem S1x16384x256 .fp8e4m3) (arg10 : Memref sig .tc .vmem S16384x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg10.view.ty) (n : Fin 128) : ∀ k : ℕ, k ≤ (k0_t1_loop i).trips → n.val < k →
    VecWindow.window (arg10.view.read (Elt F) (st10 i arg4 arg7 arg10 v10 v25 f4 f7 d k)) ![128 * n.val, 0] S128x256.size (tile_in n)
      = k0_pay16 v10 v25 (keyBlk (arg7.view.read (Elt F) f7) n) (word (arg4.view.read (Elt F) f4) n) := by
  intro k
  induction k with
  | zero => exact fun _ h => absurd h (Nat.not_lt_zero _)
  | succ k ih =>
    intro hk h
    have hi := coord_lt i
    have ht := trips1 i
    have hk' : k < 128 := by omega
    rw [st10, dif_pos (Nat.lt_of_succ_le hk), read_put10 arg10 _ _ _ _ _ ⟨k, hk'⟩ n (k0_off5_eq i ⟨k, hk⟩)]
    split
    · next e =>
      subst e
      rw [keyAt_eq arg7 f7 _ _ ⟨k, hk'⟩ (k0_off3_eq i ⟨k, hk⟩), wordAt_eq arg4 f4 _ _ ⟨k, hk'⟩ (k0_off4_eq i ⟨k, hk⟩)]
    · next e =>
      have e' : n.val ≠ k := fun he => e (Fin.ext he)
      rw [View.writes_nil]
      exact ih (Nat.le_of_lt hk) (by omega)

/-- Before trip `k` of the first loop the rows below `k` hold their maxima. -/
theorem st11_row (i : grid0.Coords) (arg4 : Memref sig .tc .smem S1x1x1x128 .f32) (arg7 : Memref sig .tc .vmem S1x16384x256 .fp8e4m3) (arg11 : Memref sig .tc .vmem S128x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg11.view.ty) (n : Fin 128) : ∀ k : ℕ, k ≤ (k0_t1_loop i).trips → n.val < k →
    row (arg11.view.read (Elt F) (st11 i arg4 arg7 arg11 v10 v25 f4 f7 d k)) n
      = k0_pay17 v10 v25 (keyBlk (arg7.view.read (Elt F) f7) n) (word (arg4.view.read (Elt F) f4) n) := by
  intro k
  induction k with
  | zero => exact fun _ h => absurd h (Nat.not_lt_zero _)
  | succ k ih =>
    intro hk h
    have hi := coord_lt i
    have ht := trips1 i
    have hk' : k < 128 := by omega
    rw [st11, dif_pos (Nat.lt_of_succ_le hk), read_put11 arg11 _ _ _ _ _ ⟨k, hk'⟩ n (k0_off6_eq i ⟨k, hk⟩)]
    split
    · next e =>
      subst e
      rw [keyAt_eq arg7 f7 _ _ ⟨k, hk'⟩ (k0_off3_eq i ⟨k, hk⟩), wordAt_eq arg4 f4 _ _ ⟨k, hk'⟩ (k0_off4_eq i ⟨k, hk⟩)]
    · next e =>
      have e' : n.val ≠ k := fun he => e (Fin.ext he)
      rw [View.writes_nil]
      exact ih (Nat.le_of_lt hk) (by omega)

/-! ## The second loop's recursions -/

/-- The denominator after `k` trips of the second loop, from what it reads of the logits and of the tables. -/
theorem st15_eq (i : grid0.Coords) (qs ks : Vec F S1x1x1x128 .f32) (q : Vec F S1x256x256 .fp8e4m3) (kk : Vec F S1x16384x256 .fp8e4m3) (arg10 : Memref sig .tc .vmem S16384x256 .f32) (arg12 : Memref sig .tc .vmem S128x256 .f32) (arg13 : Memref sig .tc .vmem S128x256 .f32) (arg15 : Memref sig .tc .vmem S1x256 .f32)
    (f10 : BufTy.Contents (Elt F) arg10.view.ty) (f12 : BufTy.Contents (Elt F) arg12.view.ty) (f13 : BufTy.Contents (Elt F) arg13.view.ty) (d : BufTy.Contents (Elt F) arg15.view.ty)
    (h10 : ∀ n : Fin 128, n.val < 2 * (i 2).val + 2 → VecWindow.window (arg10.view.read (Elt F) f10) ![128 * n.val, 0] S128x256.size (tile_in n) = tile i qs ks q kk n)
    (h12 : arg12.view.read (Elt F) f12 = shiftTab i (maxTab i qs ks q kk)) (h13 : arg13.view.read (Elt F) f13 = scaleTab i (maxTab i qs ks q kk))
    (hd : arg15.view.read (Elt F) d = k0_pay39) : ∀ k : ℕ, k ≤ (k0_t3_loop i).trips →
    arg15.view.read (Elt F) (st15 i arg10 arg12 arg13 arg15 f10 f12 f13 d k) = lAcc i qs ks q kk k := by
  intro k
  induction k with
  | zero => exact fun _ => hd
  | succ k ih =>
    intro hk
    have hi := coord_lt i
    have ht := trips3 i
    have hk' : k < 128 := by omega
    have ih := ih (Nat.le_of_lt hk)
    rw [st15, dif_pos (Nat.lt_of_succ_le hk), lAcc, dif_pos (show k < 128 by omega), View.read_writes_full, View.readAt_full, ih,
      rowAt_eq arg13 f13 _ _ ⟨k, hk'⟩ (k0_off15_eq i ⟨k, hk⟩), rowAt_eq arg12 f12 _ _ ⟨k, hk'⟩ (k0_off15_eq i ⟨k, hk⟩),
      View.readAt_unit arg10.view f10 _ (k0_off16_eq i ⟨k, hk⟩) (tile_in ⟨k, hk'⟩), h12, h13, h10 ⟨k, hk'⟩ (ht ▸ hk)]

/-- The numerator after `k` trips of the second loop. -/
theorem st14_eq (i : grid0.Coords) (qs ks : Vec F S1x1x1x128 .f32) (q : Vec F S1x256x256 .fp8e4m3) (kk : Vec F S1x16384x256 .fp8e4m3) (arg5 : Memref sig .tc .smem S1x1x1x128 .f32) (arg8 : Memref sig .tc .vmem S1x1x128x256x128 .fp8e4m3) (arg10 : Memref sig .tc .vmem S16384x256 .f32) (arg12 : Memref sig .tc .vmem S128x256 .f32) (arg13 : Memref sig .tc .vmem S128x256 .f32) (arg14 : Memref sig .tc .vmem S256x256 .f32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d : BufTy.Contents (Elt F) arg14.view.ty)
    (h10 : ∀ n : Fin 128, n.val < 2 * (i 2).val + 2 → VecWindow.window (arg10.view.read (Elt F) f10) ![128 * n.val, 0] S128x256.size (tile_in n) = tile i qs ks q kk n)
    (h12 : arg12.view.read (Elt F) f12 = shiftTab i (maxTab i qs ks q kk)) (h13 : arg13.view.read (Elt F) f13 = scaleTab i (maxTab i qs ks q kk))
    (hd : arg14.view.read (Elt F) d = k0_pay38) : ∀ k : ℕ, k ≤ (k0_t3_loop i).trips →
    arg14.view.read (Elt F) (st14 i arg5 arg8 arg10 arg12 arg13 arg14 f5 f8 f10 f12 f13 d k)
      = oAcc i qs ks (arg5.view.read (Elt F) f5) q kk (arg8.view.read (Elt F) f8) k := by
  intro k
  induction k with
  | zero => exact fun _ => hd
  | succ k ih =>
    intro hk
    have hi := coord_lt i
    have ht := trips3 i
    have hk' : k < 128 := by omega
    have ih := ih (Nat.le_of_lt hk)
    rw [st14, dif_pos (Nat.lt_of_succ_le hk), oAcc, dif_pos (show k < 128 by omega), View.read_writes_full, View.readAt_full, ih,
      rowAt_eq arg13 f13 _ _ ⟨k, hk'⟩ (k0_off15_eq i ⟨k, hk⟩), rowAt_eq arg12 f12 _ _ ⟨k, hk'⟩ (k0_off15_eq i ⟨k, hk⟩),
      View.readAt_unit arg10.view f10 _ (k0_off16_eq i ⟨k, hk⟩) (tile_in ⟨k, hk'⟩), h12, h13, h10 ⟨k, hk'⟩ (ht ▸ hk),
      valueAt_eq arg8 f8 _ _ ⟨k, hk'⟩ (k0_off17_eq i ⟨k, hk⟩), wordAt_eq arg5 f5 _ _ ⟨k, hk'⟩ (k0_off18_eq i ⟨k, hk⟩)]

/-! ## What the straight-line part reads -/

/-- The query tile, -/
theorem queries_read (arg6 : Memref sig .tc .vmem S1x256x256 .fp8e4m3) (f6 : BufTy.Contents (Elt F) arg6.view.ty) : (k0_pay13 (arg6.view.readAt (Elt F) (Rect.unit (s := S1x256x256) ![0, 0, 0] S1x256x256.size inb_S1x256x256_S1x256x256_0_0_0).toLoadRect f6)) = k0_pay13 (arg6.view.read (Elt F) f6) := by
  rw [View.readAt_full]

/-- its scales, -/
theorem qScale_read (i : grid0.Coords) (arg3 : Memref sig .tc .smem S1x1x1x128 .f32) (f3 : BufTy.Contents (Elt F) arg3.view.ty) : (k0_pay14 (wordAt arg3 f3 (k0_off1 i) (k0_off1_inb i)) (wordAt arg3 f3 (k0_off2 i) (k0_off2_inb i))) = qScale i (arg3.view.read (Elt F) f3) := by
  rw [wordAt_eq arg3 f3 _ _ ⟨2 * (i 2).val, by have := coord_lt i; omega⟩ (k0_off1_eq i), wordAt_eq arg3 f3 _ _ ⟨2 * (i 2).val + 1, by have := coord_lt i; omega⟩ (k0_off2_eq i)]
  rfl

/-- the two diagonal blocks -/
theorem diag0_read (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (f3 : BufTy.Contents (Elt F) arg3.view.ty) (f4 : BufTy.Contents (Elt F) arg4.view.ty) (f6 : BufTy.Contents (Elt F) arg6.view.ty) (f7 : BufTy.Contents (Elt F) arg7.view.ty) :
    k0_pay21 (BitVec.ofNat 32 (i 2).val) (nblk i) (k0_pay13 (arg6.view.readAt (Elt F) (Rect.unit (s := S1x256x256) ![0, 0, 0] S1x256x256.size inb_S1x256x256_S1x256x256_0_0_0).toLoadRect f6)) (iota .tc S1x256 32 [1] iota_S1x256_d1_w32) (k0_pay14 (wordAt arg3 f3 (k0_off1 i) (k0_off1_inb i)) (wordAt arg3 f3 (k0_off2 i) (k0_off2_inb i)))
        ((arg7.view.readAt (Elt F) (Rect.unit (s := S1x16384x256) (k0_off11 i 0#32) S1x128x256.size (k0_off11_inb i 0)).toLoadRect f7)) (wordAt arg4 f4 (k0_off12 i 0#32) (k0_off12_inb i 0))
      = diag0 i (arg3.view.read (Elt F) f3) (arg4.view.read (Elt F) f4) (arg6.view.read (Elt F) f6) (arg7.view.read (Elt F) f7) ⟨2 * (i 2).val, by have := coord_lt i; omega⟩ := by
  have e1 : k0_off11 i 0#32 = ![0, 128 * (2 * (i 2).val), 0] := by
    refine (k0_off11_eq i 0).trans ?_
    rw [show 256 * (i 2).val + 128 * (0 : Fin 2).val = 128 * (2 * (i 2).val) from by show 256 * (i 2).val + 128 * 0 = _; omega]
  have e2 : k0_off12 i 0#32 = ![0, 0, 0, 2 * (i 2).val] := k0_off12_eq i 0
  rw [qScale_read, queries_read, keyAt_eq arg7 f7 _ _ ⟨2 * (i 2).val, by have := coord_lt i; omega⟩ e1, wordAt_eq arg4 f4 _ _ ⟨2 * (i 2).val, by have := coord_lt i; omega⟩ e2]
  rfl

theorem diag1_read (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (f3 : BufTy.Contents (Elt F) arg3.view.ty) (f4 : BufTy.Contents (Elt F) arg4.view.ty) (f6 : BufTy.Contents (Elt F) arg6.view.ty) (f7 : BufTy.Contents (Elt F) arg7.view.ty) :
    k0_pay24 (BitVec.ofNat 32 (i 2).val) (nblk i) (k0_pay13 (arg6.view.readAt (Elt F) (Rect.unit (s := S1x256x256) ![0, 0, 0] S1x256x256.size inb_S1x256x256_S1x256x256_0_0_0).toLoadRect f6)) (iota .tc S1x256 32 [1] iota_S1x256_d1_w32) (k0_pay14 (wordAt arg3 f3 (k0_off1 i) (k0_off1_inb i)) (wordAt arg3 f3 (k0_off2 i) (k0_off2_inb i)))
        ((arg7.view.readAt (Elt F) (Rect.unit (s := S1x16384x256) (k0_off11 i 1#32) S1x128x256.size (k0_off11_inb i 1)).toLoadRect f7)) (wordAt arg4 f4 (k0_off12 i 1#32) (k0_off12_inb i 1))
      = diag1 i (arg3.view.read (Elt F) f3) (arg4.view.read (Elt F) f4) (arg6.view.read (Elt F) f6) (arg7.view.read (Elt F) f7) ⟨2 * (i 2).val + 1, by have := coord_lt i; omega⟩ := by
  have e1 : k0_off11 i 1#32 = ![0, 128 * (2 * (i 2).val + 1), 0] := by
    refine (k0_off11_eq i 1).trans ?_
    rw [show 256 * (i 2).val + 128 * (1 : Fin 2).val = 128 * (2 * (i 2).val + 1) from by show 256 * (i 2).val + 128 * 1 = _; omega]
  have e2 : k0_off12 i 1#32 = ![0, 0, 0, 2 * (i 2).val + 1] := k0_off12_eq i 1
  rw [qScale_read, queries_read, keyAt_eq arg7 f7 _ _ ⟨2 * (i 2).val + 1, by have := coord_lt i; omega⟩ e1, wordAt_eq arg4 f4 _ _ ⟨2 * (i 2).val + 1, by have := coord_lt i; omega⟩ e2]
  rfl

/-- and the two tables, from the buffer of maxima. -/
theorem shift_read (i : grid0.Coords) (arg11 : Memref sig .tc .vmem S128x256 .f32) (f11 : BufTy.Contents (Elt F) arg11.view.ty) (T : Vec F S128x256 .f32)
    (hT : T = arg11.view.readAt (Elt F) (Rect.unit (s := S128x256) ![0, 0] S128x256.size inb_S128x256_S128x256_0_0).toLoadRect f11) :
    k0_pay36 (k0_pay28 (nblk i) T) (k0_pay32 (k0_pay29 (nblk i) T) (k0_pay30 (nblk i) T) (k0_pay31 (nblk i) T))
        (k0_pay33 (k0_pay29 (nblk i) T) (k0_pay30 (nblk i) T) (k0_pay31 (nblk i) T)) k0_pay34 = shiftTab i (arg11.view.read (Elt F) f11) := by
  rw [hT, View.readAt_full]
  rfl

theorem scale_read (i : grid0.Coords) (arg11 : Memref sig .tc .vmem S128x256 .f32) (f11 : BufTy.Contents (Elt F) arg11.view.ty) (T : Vec F S128x256 .f32)
    (hT : T = arg11.view.readAt (Elt F) (Rect.unit (s := S128x256) ![0, 0] S128x256.size inb_S128x256_S128x256_0_0).toLoadRect f11) :
    k0_pay37 (k0_pay32 (k0_pay29 (nblk i) T) (k0_pay30 (nblk i) T) (k0_pay31 (nblk i) T))
        (k0_pay33 (k0_pay29 (nblk i) T) (k0_pay30 (nblk i) T) (k0_pay31 (nblk i) T)) k0_pay34 = scaleTab i (arg11.view.read (Elt F) f11) := by
  rw [hT, View.readAt_full]
  rfl

/-! ## The block of the result -/

/-- The logits buffer after the two diagonal stores holds `tile` at every block below the number of key blocks. -/
theorem blk10 (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (arg10 : Memref sig .tc .vmem S16384x256 .f32) (f3 : BufTy.Contents (Elt F) arg3.view.ty) (f4 : BufTy.Contents (Elt F) arg4.view.ty) (f6 : BufTy.Contents (Elt F) arg6.view.ty) (f7 : BufTy.Contents (Elt F) arg7.view.ty) (d : BufTy.Contents (Elt F) arg10.view.ty)
    (v10 : FVec F S256x256 .fp8e4m3) (v25 : FVec F S1x256 .f32) (D0 D1 : FVec F S128x256 .f32)
    (h10 : v10 = k0_pay13 (arg6.view.read (Elt F) f6)) (h25 : v25 = qScale i (arg3.view.read (Elt F) f3))
    (hD0 : D0 = diag0 i (arg3.view.read (Elt F) f3) (arg4.view.read (Elt F) f4) (arg6.view.read (Elt F) f6) (arg7.view.read (Elt F) f7) ⟨2 * (i 2).val, by have := coord_lt i; omega⟩) (hD1 : D1 = diag1 i (arg3.view.read (Elt F) f3) (arg4.view.read (Elt F) f4) (arg6.view.read (Elt F) f6) (arg7.view.read (Elt F) f7) ⟨2 * (i 2).val + 1, by have := coord_lt i; omega⟩)
    (n : Fin 128) (hn : n.val < 2 * (i 2).val + 2) :
    VecWindow.window (arg10.view.read (Elt F) (arg10.view.writes (Elt F)
        (st10 i arg4 arg7 arg10 v10 v25 f4 f7 d (k0_t1_loop i).trips)
        [⟨Rect.unit (s := S16384x256) (k0_off13 i 1#32) S128x256.size (k0_off13_inb i 1), k0_pay25 D1⟩,
          ⟨Rect.unit (s := S16384x256) (k0_off13 i 0#32) S128x256.size (k0_off13_inb i 0), k0_pay22 D0⟩]))
        ![128 * n.val, 0] S128x256.size (tile_in n)
      = tile i (arg3.view.read (Elt F) f3) (arg4.view.read (Elt F) f4) (arg6.view.read (Elt F) f6) (arg7.view.read (Elt F) f7) n := by
  subst h10 h25 hD0 hD1
  have hi := coord_lt i
  have ht := trips1 i
  have e1 : k0_off13 i 1#32 = ![128 * (2 * (i 2).val + 1), 0] := by
    refine (k0_off13_eq i 1).trans ?_
    rw [show 256 * (i 2).val + 128 * (1 : Fin 2).val = 128 * (2 * (i 2).val + 1) from by show 256 * (i 2).val + 128 * 1 = _; omega]
  have e0 : k0_off13 i 0#32 = ![128 * (2 * (i 2).val), 0] := by
    refine (k0_off13_eq i 0).trans ?_
    rw [show 256 * (i 2).val + 128 * (0 : Fin 2).val = 128 * (2 * (i 2).val) from by show 256 * (i 2).val + 128 * 0 = _; omega]
  rw [read_put10 arg10 _ _ _ _ _ ⟨2 * (i 2).val + 1, by omega⟩ n e1, read_put10 arg10 _ _ _ _ _ ⟨2 * (i 2).val, by omega⟩ n e0, View.writes_nil]
  unfold tile
  by_cases h1 : n.val = 2 * (i 2).val + 1
  · have e : n = ⟨2 * (i 2).val + 1, by omega⟩ := Fin.ext h1
    rw [if_pos e, if_neg (by omega), if_neg (by omega), ← e]
  · rw [if_neg (fun h => h1 (congrArg Fin.val h))]
    by_cases h0 : n.val = 2 * (i 2).val
    · have e : n = ⟨2 * (i 2).val, by omega⟩ := Fin.ext h0
      rw [if_pos e, if_neg (by omega), if_pos h0, ← e]
    · rw [if_neg (fun h => h0 (congrArg Fin.val h)), if_pos (by omega), st10_blk i arg4 arg7 arg10 _ _ f4 f7 d n _ le_rfl (by omega)]

/-- The buffer of maxima after the two diagonal stores holds `maxTab` at every row below the number of key blocks. -/
theorem tab11 (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (arg11 : Memref sig .tc .vmem S128x256 .f32) (f3 : BufTy.Contents (Elt F) arg3.view.ty) (f4 : BufTy.Contents (Elt F) arg4.view.ty) (f6 : BufTy.Contents (Elt F) arg6.view.ty) (f7 : BufTy.Contents (Elt F) arg7.view.ty) (d : BufTy.Contents (Elt F) arg11.view.ty)
    (v10 : FVec F S256x256 .fp8e4m3) (v25 : FVec F S1x256 .f32) (D0 D1 : FVec F S128x256 .f32)
    (h10 : v10 = k0_pay13 (arg6.view.read (Elt F) f6)) (h25 : v25 = qScale i (arg3.view.read (Elt F) f3))
    (hD0 : D0 = diag0 i (arg3.view.read (Elt F) f3) (arg4.view.read (Elt F) f4) (arg6.view.read (Elt F) f6) (arg7.view.read (Elt F) f7) ⟨2 * (i 2).val, by have := coord_lt i; omega⟩) (hD1 : D1 = diag1 i (arg3.view.read (Elt F) f3) (arg4.view.read (Elt F) f4) (arg6.view.read (Elt F) f6) (arg7.view.read (Elt F) f7) ⟨2 * (i 2).val + 1, by have := coord_lt i; omega⟩)
    (y : S128x256.Idx) (hy : (y 0).val < 2 * (i 2).val + 2) :
    arg11.view.read (Elt F) (arg11.view.writes (Elt F)
        (st11 i arg4 arg7 arg11 v10 v25 f4 f7 d (k0_t1_loop i).trips)
        [⟨Rect.unit (s := S128x256) (k0_off14 i 1#32) S1x256.size (k0_off14_inb i 1), k0_pay26 D1⟩,
          ⟨Rect.unit (s := S128x256) (k0_off14 i 0#32) S1x256.size (k0_off14_inb i 0), k0_pay23 D0⟩]) y
      = maxTab i (arg3.view.read (Elt F) f3) (arg4.view.read (Elt F) f4) (arg6.view.read (Elt F) f6) (arg7.view.read (Elt F) f7) y := by
  subst h10 h25 hD0 hD1
  have hi := coord_lt i
  have ht := trips1 i
  have e1 : k0_off14 i 1#32 = ![2 * (i 2).val + 1, 0] := k0_off14_eq i 1
  have e0 : k0_off14 i 0#32 = ![2 * (i 2).val, 0] := k0_off14_eq i 0
  have hrow : ∀ (T : Vec F S128x256 .f32) (n : Fin 128) (c : Fin 256), T (ix2 n c) = row T n (ix2 (0 : Fin 1) c) := fun T n c =>
    congrArg T (funext fun a => by
      refine Fin.ext ?_
      match a with
      | ⟨0, _⟩ => show n.val = n.val + 1 * 0; omega
      | ⟨1, _⟩ => show c.val = 0 + 1 * c.val; omega)
  idx_vars y
  refine (hrow _ y0 y1).trans ?_
  show _ = bmx i _ _ _ _ y0 (ix2 (0 : Fin 1) y1)
  refine congrFun ?_ _
  have hy : y0.val < 2 * (i 2).val + 2 := hy
  rw [read_put11 arg11 _ _ _ _ _ ⟨2 * (i 2).val + 1, by omega⟩ y0 e1, read_put11 arg11 _ _ _ _ _ ⟨2 * (i 2).val, by omega⟩ y0 e0, View.writes_nil]
  unfold bmx
  by_cases h1 : y0.val = 2 * (i 2).val + 1
  · have e : y0 = ⟨2 * (i 2).val + 1, by omega⟩ := Fin.ext h1
    rw [if_pos e, if_neg (by omega), if_neg (by omega), ← e]
  · rw [if_neg (fun h => h1 (congrArg Fin.val h))]
    by_cases h0 : y0.val = 2 * (i 2).val
    · have e : y0 = ⟨2 * (i 2).val, by omega⟩ := Fin.ext h0
      rw [if_pos e, if_neg (by omega), if_pos h0, ← e]
    · rw [if_neg (fun h => h0 (congrArg Fin.val h)), if_pos (by omega), st11_row i arg4 arg7 arg11 _ _ f4 f7 d y0 _ le_rfl (by omega)]

/-- The block a grid point stores, from what the second loop finds in the buffers of blocks and of maxima. -/
theorem out_of (i : grid0.Coords) (qs ks : Vec F S1x1x1x128 .f32) (q : Vec F S1x256x256 .fp8e4m3) (kk : Vec F S1x16384x256 .fp8e4m3) (arg5 : Memref sig .tc .smem S1x1x1x128 .f32) (arg8 : Memref sig .tc .vmem S1x1x128x256x128 .fp8e4m3) (arg10 : Memref sig .tc .vmem S16384x256 .f32) (arg11 : Memref sig .tc .vmem S128x256 .f32) (arg12 : Memref sig .tc .vmem S128x256 .f32) (arg13 : Memref sig .tc .vmem S128x256 .f32) (arg14 : Memref sig .tc .vmem S256x256 .f32) (arg15 : Memref sig .tc .vmem S1x256 .f32) (f5 : BufTy.Contents (Elt F) arg5.view.ty) (f8 : BufTy.Contents (Elt F) arg8.view.ty)
    (F10 : BufTy.Contents (Elt F) arg10.view.ty) (F11 : BufTy.Contents (Elt F) arg11.view.ty) (F12 : BufTy.Contents (Elt F) arg12.view.ty) (F13 : BufTy.Contents (Elt F) arg13.view.ty) (D14 : BufTy.Contents (Elt F) arg14.view.ty) (D15 : BufTy.Contents (Elt F) arg15.view.ty)
    (hb : ∀ n : Fin 128, n.val < 2 * (i 2).val + 2 → VecWindow.window (arg10.view.read (Elt F) F10) ![128 * n.val, 0] S128x256.size (tile_in n) = tile i qs ks q kk n)
    (hm : ∀ y : S128x256.Idx, (y 0).val < 2 * (i 2).val + 2 → arg11.view.read (Elt F) F11 y = maxTab i qs ks q kk y)
    (h12 : arg12.view.read (Elt F) F12 = shiftTab i (arg11.view.read (Elt F) F11))
    (h13 : arg13.view.read (Elt F) F13 = scaleTab i (arg11.view.read (Elt F) F11))
    (h14 : arg14.view.read (Elt F) D14 = k0_pay38) (h15 : arg15.view.read (Elt F) D15 = k0_pay39) :
    k0_pay3
        (arg14.view.readAt (Elt F) (Rect.unit (s := S256x256) ![0, 0] S256x256.size inb_S256x256_S256x256_0_0).toLoadRect
          (st14 i arg5 arg8 arg10 arg12 arg13 arg14 f5 f8 F10 F12 F13 D14 (k0_t3_loop i).trips))
        (arg15.view.readAt (Elt F) (Rect.unit (s := S1x256) ![0, 0] S1x256.size inb_S1x256_S1x256_0_0).toLoadRect
          (st15 i arg10 arg12 arg13 arg15 F10 F12 F13 D15 (k0_t3_loop i).trips))
      = outBlk i qs ks (arg5.view.read (Elt F) f5) q kk (arg8.view.read (Elt F) f8) := by
  have h12' := h12.trans (shiftTab_congr i _ (maxTab i qs ks q kk) hm)
  have h13' := h13.trans (scaleTab_congr i _ (maxTab i qs ks q kk) hm)
  rw [View.readAt_full, View.readAt_full, st14_eq i qs ks q kk arg5 arg8 arg10 arg12 arg13 arg14 f5 f8 F10 F12 F13 D14 hb h12' h13' h14 _ le_rfl,
    st15_eq i qs ks q kk arg10 arg12 arg13 arg15 F10 F12 F13 D15 hb h12' h13' h15 _ le_rfl, trips3 i, outBlk]

end Cert.Kernel.Body

end
-- ==== Proof.K.Body.lean ====
module

public import proofs.«01_k».proof.Proof.K.Blocks

/-! # The kernel's body

One grid point of the attention kernel: from its six input blocks it runs to its end, leaves the inputs as they were
and the output block at `outBlk` of them, whatever the scratch buffers held. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 4000000 in
/-- The body at any grid point, on whole buffers: the inputs at `x3` … `x8`, the output and the six scratch buffers at anything. -/
theorem sound_kernel (c : Dev nD) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (x3 : Vec F S1x1x1x128 .f32) (x4 : Vec F S1x1x1x128 .f32) (x5 : Vec F S1x1x1x128 .f32) (x6 : Vec F S1x256x256 .fp8e4m3) (x7 : Vec F S1x16384x256 .fp8e4m3) (x8 : Vec F S1x1x128x256x128 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outBlk i x3 x4 x5 x6 x7 x8) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
    ⊢ wp frame (wpE (defs₀ (F := F)) Variants.none (c : Thread nD τ) none) E (cc0_attend (F := F) i arg3 harg3 arg4 harg4 arg5 harg5 arg6 harg6 arg7 harg7 arg8 harg8 arg9 harg9 arg10 harg10 arg11 harg11 arg12 harg12 arg13 harg13 arg14 harg14 arg15 harg15) K := by
  simp only [cc0_attend_eq_skeleton]; unfold cc0_attend_skel
  simp only [k0_part3_eq_skeleton, k0_part4_eq_skeleton, k0_part5_eq_skeleton, k0_part6_eq_skeleton, k0_part7_eq_skeleton, k0_part8_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, H10⟩, ⟨%f11, H11⟩, ⟨%f12, H12⟩, ⟨%f13, H13⟩, ⟨%f14, H14⟩, ⟨%f15, H15⟩, Hk⟩
  subst hf3 hf4 hf5 hf6 hf7 hf8
  by_cases h1 : Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1
  all_goals
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      refine (View.read_writes_full arg9.view f9 _ _ _).trans ?_
      exact out_of i (arg3.view.read (Elt F) f3) (arg4.view.read (Elt F) f4) (arg6.view.read (Elt F) f6) (arg7.view.read (Elt F) f7)
        arg5 arg8 arg10 arg11 arg12 arg13 arg14 arg15 f5 f8 _ _ _ _ _ _
        (blk10 i arg3 arg4 arg6 arg7 arg10 f3 f4 f6 f7 _ _ _ _ _ (queries_read arg6 f6) (qScale_read i arg3 f3)
          (diag0_read i arg3 arg4 arg6 arg7 f3 f4 f6 f7) (diag1_read i arg3 arg4 arg6 arg7 f3 f4 f6 f7))
        (tab11 i arg3 arg4 arg6 arg7 arg11 f3 f4 f6 f7 _ _ _ _ _ (queries_read arg6 f6) (qScale_read i arg3 f3)
          (diag0_read i arg3 arg4 arg6 arg7 f3 f4 f6 f7) (diag1_read i arg3 arg4 arg6 arg7 f3 f4 f6 f7))
        ((View.read_writes_full arg12.view _ _ _ _).trans (shift_read i arg11 _ _ rfl))
        ((View.read_writes_full arg13.view _ _ _ _).trans (scale_read i arg11 _ _ rfl))
        (View.read_writes_full arg14.view _ _ _ _) (View.read_writes_full arg15.view _ _ _ _)
    isplitl [H10]
    · iexists _; iexact H10
    isplitl [H11]
    · iexists _; iexact H11
    isplitl [H12]
    · iexists _; iexact H12
    isplitl [H13]
    · iexists _; iexact H13
    isplitl [H14]
    · iexists _; iexact H14
    iexists _; iexact H15

end Cert.Kernel.Body

end
-- ==== Proof.K.Run.lean ====
module

public import proofs.«01_k».proof.Proof.Gen.Kernel.Frame
public import proofs.«01_k».proof.Proof.K.Body
public import Idealize.ShloMosaic.Lib.Claim

/-! # The run

The kernel's call runs to its end from any memory, with the argument arrays unchanged and the result array at what
the grid points' blocks (`outBlk`) leave in it. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The block of the result written at point `t`, from the six input blocks there. -/
def outAt (c : Dev nD) (t : Fin cfg0.N) : FVec F S1x256x256 .bf16 :=
  outBlk (grid0.coords t) (iblk m c 0 t) (iblk m c 1 t) (iblk m c 2 t) (iblk m c 3 t) (iblk m c 4 t) (iblk m c 5 t)

/-- The arrays as the call finds them; after the body at point `t` each input's buffer at its block and the output's at
    `outAt`; the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A scratch buffer at some contents, held through its whole view. -/
theorem scratch_eq (c : Dev nD) (b : Ref sig .tc) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  simp only [Memref.view_whole, View.set_whole]

set_option maxHeartbeats 4000000 in
/-- The body at any point: the inputs' buffers hold their blocks and the scratch buffers anything, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  unfold Pipeline.ΦA
  rw [scopedRest0_eq, ← scratch_eq c cc0_scratch0, ← scratch_eq c cc0_scratch1, ← scratch_eq c cc0_scratch2, ← scratch_eq c cc0_scratch3,
    ← scratch_eq c cc0_scratch4, ← scratch_eq c cc0_scratch5]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  have hk := fun K => sound_kernel (F := F) c Set.univ (grid0.coords t) (st0_0 t) (hstage0_0 _) (st0_1 t) (hstage0_1 _) (st0_2 t) (hstage0_2 _)
    (st0_3 t) (hstage0_3 _) (st0_4 t) (hstage0_4 _) (st0_5 t) (hstage0_5 _) (st0_6 t) (hstage0_6 _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (iblk m c 0 t) (iblk m c 1 t) (iblk m c 2 t) (iblk m c 3 t) (iblk m c 4 t) (iblk m c 5 t) K
  iapply (hk _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs to its end, every array as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began, -/
theorem unchanged : θ_run defs (onTc (τ := τ) (main (F := F))) ⟨m, fun _ => 0, ρ⟩ (fun r => ∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Body

end
-- ==== Proof.KI.LoopInv.lean ====
module

public import proofs.«01_k».proof.Proof.Gen.KernelIdeal.Frame
public import proofs.«01_k».proof.Proof.Gen.KernelIdeal.Skeleton
public import Idealize.ShloMosaic.Lib.LoopRemainder
public import Idealize.ShloMosaic.Lib.VecWindow

/-! # The two loops of the attention kernel, as invariants

The first loop writes one block of 128 scaled dot products and its column maxima per trip; the second adds one
block's share to the running numerator and denominator.  Each buffer a loop writes is stated as a recursion over the
trips: its contents before a trip, with what that trip stores written over them. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## What each trip stores -/

/-- The word of a scalar-memory row that a unit rectangle at `off` names. -/
def wordAt (arg : Memref sig .tc .smem S1x1x1x128 .f32) (f : BufTy.Contents (Elt F) arg.view.ty) (off : Fin 4 → ℕ)
    (inb : ∀ a, off a + S1x1x1x1.size a ≤ S1x1x1x128.size a) : Elt F .f32 :=
  arg.view.readAt (Elt F) (Rect.unit (s := S1x1x1x128) off S1x1x1x1.size inb).toLoadRect f (Shape.Idx.first (numel1_S1x1x1x1.symm ▸ Nat.one_pos))

/-- The logits buffer before trip `k` of the first loop, from contents `d` at its entry. -/
def st10 (i : grid0.Coords) (arg4 : Memref sig .tc .smem S1x1x1x128 .f32) (arg7 : Memref sig .tc .vmem S1x16384x256 .fp8e4m3) (arg10 : Memref sig .tc .vmem S16384x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg10.view.ty) : ℕ → BufTy.Contents (Elt F) arg10.view.ty
  | 0 => d
  | k + 1 => if h : k < (k0_t1_loop i).trips then
      arg10.view.writes (Elt F) (st10 i arg4 arg7 arg10 v10 v25 f4 f7 d k)
        [⟨Rect.unit (s := S16384x256) (k0_off5 i ⟨k, h⟩) S128x256.size (k0_off5_inb i ⟨k, h⟩),
          k0_pay16 v10 v25 (arg7.view.readAt (Elt F) (Rect.unit (s := S1x16384x256) (k0_off3 i ⟨k, h⟩) S1x128x256.size (k0_off3_inb i ⟨k, h⟩)).toLoadRect f7)
            (wordAt arg4 f4 (k0_off4 i ⟨k, h⟩) (k0_off4_inb i ⟨k, h⟩))⟩]
    else st10 i arg4 arg7 arg10 v10 v25 f4 f7 d k

/-- The buffer of block maxima before trip `k` of the first loop. -/
def st11 (i : grid0.Coords) (arg4 : Memref sig .tc .smem S1x1x1x128 .f32) (arg7 : Memref sig .tc .vmem S1x16384x256 .fp8e4m3) (arg11 : Memref sig .tc .vmem S128x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg11.view.ty) : ℕ → BufTy.Contents (Elt F) arg11.view.ty
  | 0 => d
  | k + 1 => if h : k < (k0_t1_loop i).trips then
      arg11.view.writes (Elt F) (st11 i arg4 arg7 arg11 v10 v25 f4 f7 d k)
        [⟨Rect.unit (s := S128x256) (k0_off6 i ⟨k, h⟩) S1x256.size (k0_off6_inb i ⟨k, h⟩),
          k0_pay17 v10 v25 (arg7.view.readAt (Elt F) (Rect.unit (s := S1x16384x256) (k0_off3 i ⟨k, h⟩) S1x128x256.size (k0_off3_inb i ⟨k, h⟩)).toLoadRect f7)
            (wordAt arg4 f4 (k0_off4 i ⟨k, h⟩) (k0_off4_inb i ⟨k, h⟩))⟩]
    else st11 i arg4 arg7 arg11 v10 v25 f4 f7 d k

/-- The denominator's buffer before trip `k` of the second loop. -/
def st15 (i : grid0.Coords) (arg10 : Memref sig .tc .vmem S16384x256 .f32) (arg12 : Memref sig .tc .vmem S128x256 .f32) (arg13 : Memref sig .tc .vmem S128x256 .f32) (arg15 : Memref sig .tc .vmem S1x256 .f32)
    (f10 : BufTy.Contents (Elt F) arg10.view.ty) (f12 : BufTy.Contents (Elt F) arg12.view.ty) (f13 : BufTy.Contents (Elt F) arg13.view.ty) (d : BufTy.Contents (Elt F) arg15.view.ty) : ℕ → BufTy.Contents (Elt F) arg15.view.ty
  | 0 => d
  | k + 1 => if h : k < (k0_t3_loop i).trips then
      arg15.view.writes (Elt F) (st15 i arg10 arg12 arg13 arg15 f10 f12 f13 d k)
        [⟨Rect.unit (s := S1x256) ![0, 0] S1x256.size inb_S1x256_S1x256_0_0,
          k0_pay5 (arg13.view.readAt (Elt F) (Rect.unit (s := S128x256) (k0_off15 i ⟨k, h⟩) S1x256.size (k0_off15_inb i ⟨k, h⟩)).toLoadRect f13)
            (arg10.view.readAt (Elt F) (Rect.unit (s := S16384x256) (k0_off16 i ⟨k, h⟩) S128x256.size (k0_off16_inb i ⟨k, h⟩)).toLoadRect f10)
            (arg12.view.readAt (Elt F) (Rect.unit (s := S128x256) (k0_off15 i ⟨k, h⟩) S1x256.size (k0_off15_inb i ⟨k, h⟩)).toLoadRect f12)
            (arg15.view.readAt (Elt F) (Rect.unit (s := S1x256) ![0, 0] S1x256.size inb_S1x256_S1x256_0_0).toLoadRect
              (st15 i arg10 arg12 arg13 arg15 f10 f12 f13 d k))⟩]
    else st15 i arg10 arg12 arg13 arg15 f10 f12 f13 d k

/-- The numerator's buffer before trip `k` of the second loop. -/
def st14 (i : grid0.Coords) (arg5 : Memref sig .tc .smem S1x1x1x128 .f32) (arg8 : Memref sig .tc .vmem S1x1x128x256x128 .fp8e4m3) (arg10 : Memref sig .tc .vmem S16384x256 .f32) (arg12 : Memref sig .tc .vmem S128x256 .f32) (arg13 : Memref sig .tc .vmem S128x256 .f32) (arg14 : Memref sig .tc .vmem S256x256 .f32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d : BufTy.Contents (Elt F) arg14.view.ty) : ℕ → BufTy.Contents (Elt F) arg14.view.ty
  | 0 => d
  | k + 1 => if h : k < (k0_t3_loop i).trips then
      arg14.view.writes (Elt F) (st14 i arg5 arg8 arg10 arg12 arg13 arg14 f5 f8 f10 f12 f13 d k)
        [⟨Rect.unit (s := S256x256) ![0, 0] S256x256.size inb_S256x256_S256x256_0_0,
          k0_pay1
            (k0_pay6 (arg10.view.readAt (Elt F) (Rect.unit (s := S16384x256) (k0_off16 i ⟨k, h⟩) S128x256.size (k0_off16_inb i ⟨k, h⟩)).toLoadRect f10)
              (arg12.view.readAt (Elt F) (Rect.unit (s := S128x256) (k0_off15 i ⟨k, h⟩) S1x256.size (k0_off15_inb i ⟨k, h⟩)).toLoadRect f12)
              (arg8.view.readAt (Elt F) (Rect.unit (s := S1x1x128x256x128) (k0_off17 i ⟨k, h⟩) S1x1x1x256x128.size (k0_off17_inb i ⟨k, h⟩)).toLoadRect f8))
            (arg14.view.readAt (Elt F) (Rect.unit (s := S256x256) ![0, 0] S256x256.size inb_S256x256_S256x256_0_0).toLoadRect
              (st14 i arg5 arg8 arg10 arg12 arg13 arg14 f5 f8 f10 f12 f13 d k))
            (k0_pay7 (arg13.view.readAt (Elt F) (Rect.unit (s := S128x256) (k0_off15 i ⟨k, h⟩) S1x256.size (k0_off15_inb i ⟨k, h⟩)).toLoadRect f13)
              (wordAt arg5 f5 (k0_off18 i ⟨k, h⟩) (k0_off18_inb i ⟨k, h⟩)))⟩]
    else st14 i arg5 arg8 arg10 arg12 arg13 arg14 f5 f8 f10 f12 f13 d k

/-! ## The first loop -/

/-- Before trip `k` of the first loop: keys and key scales as they were, logits and block maxima as `st10` and `st11` say. -/
def inv1 (c : Dev nD) (i : grid0.Coords) (arg4 : Memref sig .tc .smem S1x1x1x128 .f32) (arg7 : Memref sig .tc .vmem S1x16384x256 .fp8e4m3) (arg10 : Memref sig .tc .vmem S16384x256 .f32) (arg11 : Memref sig .tc .vmem S128x256 .f32) (v10 : FVec F S256x256 .fp8e4m3) (v25 : FVec F S1x256 .f32)
    (f4 : BufTy.Contents (Elt F) arg4.view.ty) (f7 : BufTy.Contents (Elt F) arg7.view.ty) (d10 : BufTy.Contents (Elt F) arg10.view.ty) (d11 : BufTy.Contents (Elt F) arg11.view.ty) (k : ℕ) (_ : Unit) : sProp 𝕄 :=
  iprop((arg4.view.loc (c : Thread nD τ) ↦[arg4.view.set]{fullShare} f4) ∗ (arg7.view.loc (c : Thread nD τ) ↦[arg7.view.set]{fullShare} f7)
    ∗ (∃ g, (arg10.view.loc (c : Thread nD τ) ↦[arg10.view.set]{fullShare} g) ∗ ⌜g = st10 i arg4 arg7 arg10 v10 v25 f4 f7 d10 k⌝)
    ∗ (∃ g, (arg11.view.loc (c : Thread nD τ) ↦[arg11.view.set]{fullShare} g) ∗ ⌜g = st11 i arg4 arg7 arg11 v10 v25 f4 f7 d11 k⌝))

set_option maxHeartbeats 4000000 in
/-- One trip of the first loop keeps the invariant. -/
theorem step1 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (arg2 v1 : BitVec 32) (v10 : FVec F S256x256 .fp8e4m3) (v11 : IVec S1x256 32) (v25 : FVec F S1x256 .f32) (v30 : BitVec 32)
    (f4 : BufTy.Contents (Elt F) arg4.view.ty) (f7 : BufTy.Contents (Elt F) arg7.view.ty) (d10 : BufTy.Contents (Elt F) arg10.view.ty) (d11 : BufTy.Contents (Elt F) arg11.view.ty) (k : Fin (k0_t1_loop i).trips) (acc : Unit) :
    inv1 c i arg4 arg7 arg10 arg11 v10 v25 f4 f7 d10 d11 k acc
      ⊢ wp frame (wpE (defs₀ (F := F)) 𝒱 (c : Thread nD τ) bd) E
          (k0_t1_body (F := F) i arg3 harg3 arg4 harg4 arg5 harg5 arg6 harg6 arg7 harg7 arg8 harg8 arg9 harg9 arg10 harg10 arg11 harg11 arg12 harg12 arg13 harg13 arg14 harg14 arg15 harg15 arg2 v1 v10 v11 v25 v30 k acc)
          (inv1 c i arg4 arg7 arg10 arg11 v10 v25 f4 f7 d10 d11 (k.val + 1)) := by
  unfold inv1 k0_t1_body
  iintro ⟨H4, H7, ⟨%g10, H10, %e10⟩, ⟨%g11, H11, %e11⟩⟩
  subst e10 e11
  sl_exec
  sl_step
  isplitl [H4]; · iexact H4
  isplitl [H7]; · iexact H7
  isplitl [H10]
  · iexists _; isplitl [H10]; · iexact H10
    ipureintro
    rw [st10, dif_pos k.isLt]; rfl
  · iexists _; isplitl [H11]; · iexact H11
    ipureintro
    rw [st11, dif_pos k.isLt]; rfl

set_option warn.classDefReducibility false in
/-- The first loop's invariant, as the executor looks it up. -/
@[sl_loop] def loop1 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (arg2 v1 : BitVec 32) (v10 : FVec F S256x256 .fp8e4m3) (v11 : IVec S1x256 32) (v25 : FVec F S1x256 .f32) (v30 : BitVec 32)
    (f4 : BufTy.Contents (Elt F) arg4.view.ty) (f7 : BufTy.Contents (Elt F) arg7.view.ty) (d10 : BufTy.Contents (Elt F) arg10.view.ty) (d11 : BufTy.Contents (Elt F) arg11.view.ty) :
    LoopInv (M := 𝕄) Idealize.ShloMosaic.frame (wpE (defs₀ (F := F)) 𝒱 (c : Thread nD τ) bd) E
      (k0_t1_loop i).lb (k0_t1_loop i).ub (k0_t1_loop i).st (k0_t1_ok i) ()
      (k0_t1_body (F := F) i arg3 harg3 arg4 harg4 arg5 harg5 arg6 harg6 arg7 harg7 arg8 harg8 arg9 harg9 arg10 harg10 arg11 harg11 arg12 harg12 arg13 harg13 arg14 harg14 arg15 harg15 arg2 v1 v10 v11 v25 v30) where
  inv := inv1 c i arg4 arg7 arg10 arg11 v10 v25 f4 f7 d10 d11
  step := step1 𝒱 c bd E i arg3 harg3 arg4 harg4 arg5 harg5 arg6 harg6 arg7 harg7 arg8 harg8 arg9 harg9 arg10 harg10 arg11 harg11 arg12 harg12 arg13 harg13 arg14 harg14 arg15 harg15 arg2 v1 v10 v11 v25 v30 f4 f7 d10 d11

/-! ## The second loop -/

/-- Before trip `k` of the second loop: what it reads as it was, numerator and denominator as `st14` and `st15` say. -/
def inv3 (c : Dev nD) (i : grid0.Coords) (arg5 : Memref sig .tc .smem S1x1x1x128 .f32) (arg8 : Memref sig .tc .vmem S1x1x128x256x128 .fp8e4m3) (arg10 : Memref sig .tc .vmem S16384x256 .f32) (arg12 : Memref sig .tc .vmem S128x256 .f32) (arg13 : Memref sig .tc .vmem S128x256 .f32) (arg14 : Memref sig .tc .vmem S256x256 .f32) (arg15 : Memref sig .tc .vmem S1x256 .f32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d14 : BufTy.Contents (Elt F) arg14.view.ty) (d15 : BufTy.Contents (Elt F) arg15.view.ty) (k : ℕ) (_ : Unit) : sProp 𝕄 :=
  iprop((arg5.view.loc (c : Thread nD τ) ↦[arg5.view.set]{fullShare} f5) ∗ (arg8.view.loc (c : Thread nD τ) ↦[arg8.view.set]{fullShare} f8) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13)
    ∗ (∃ g, (arg14.view.loc (c : Thread nD τ) ↦[arg14.view.set]{fullShare} g) ∗ ⌜g = st14 i arg5 arg8 arg10 arg12 arg13 arg14 f5 f8 f10 f12 f13 d14 k⌝)
    ∗ (∃ g, (arg15.view.loc (c : Thread nD τ) ↦[arg15.view.set]{fullShare} g) ∗ ⌜g = st15 i arg10 arg12 arg13 arg15 f10 f12 f13 d15 k⌝))

set_option maxHeartbeats 4000000 in
/-- One trip of the second loop keeps the invariant. -/
theorem step3 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (w1 w2 w3 : BitVec 32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d14 : BufTy.Contents (Elt F) arg14.view.ty) (d15 : BufTy.Contents (Elt F) arg15.view.ty) (k : Fin (k0_t3_loop i).trips) (acc : Unit) :
    inv3 c i arg5 arg8 arg10 arg12 arg13 arg14 arg15 f5 f8 f10 f12 f13 d14 d15 k acc
      ⊢ wp frame (wpE (defs₀ (F := F)) 𝒱 (c : Thread nD τ) bd) E
          (k0_t3_body (F := F) i arg3 harg3 arg4 harg4 arg5 harg5 arg6 harg6 arg7 harg7 arg8 harg8 arg9 harg9 arg10 harg10 arg11 harg11 arg12 harg12 arg13 harg13 arg14 harg14 arg15 harg15 w1 w2 w3 k acc)
          (inv3 c i arg5 arg8 arg10 arg12 arg13 arg14 arg15 f5 f8 f10 f12 f13 d14 d15 (k.val + 1)) := by
  unfold inv3 k0_t3_body
  simp only [k0_part1_eq_skeleton]
  iintro ⟨H5, H8, H10, H12, H13, ⟨%g14, H14, %e14⟩, ⟨%g15, H15, %e15⟩⟩
  subst e14 e15
  sl_exec
  sl_step
  isplitl [H5]; · iexact H5
  isplitl [H8]; · iexact H8
  isplitl [H10]; · iexact H10
  isplitl [H12]; · iexact H12
  isplitl [H13]; · iexact H13
  isplitl [H14]
  · iexists _; isplitl [H14]; · iexact H14
    ipureintro
    rw [st14, dif_pos k.isLt]; rfl
  · iexists _; isplitl [H15]; · iexact H15
    ipureintro
    rw [st15, dif_pos k.isLt]

set_option warn.classDefReducibility false in
/-- The second loop's invariant, as the executor looks it up. -/
@[sl_loop] def loop3 (𝒱 : Variants) (c : Dev nD) (bd : Option 𝒱.V) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (w1 w2 w3 : BitVec 32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d14 : BufTy.Contents (Elt F) arg14.view.ty) (d15 : BufTy.Contents (Elt F) arg15.view.ty) :
    LoopInv (M := 𝕄) Idealize.ShloMosaic.frame (wpE (defs₀ (F := F)) 𝒱 (c : Thread nD τ) bd) E
      (k0_t3_loop i).lb (k0_t3_loop i).ub (k0_t3_loop i).st (k0_t3_ok i) ()
      (k0_t3_body (F := F) i arg3 harg3 arg4 harg4 arg5 harg5 arg6 harg6 arg7 harg7 arg8 harg8 arg9 harg9 arg10 harg10 arg11 harg11 arg12 harg12 arg13 harg13 arg14 harg14 arg15 harg15 w1 w2 w3) where
  inv := inv3 c i arg5 arg8 arg10 arg12 arg13 arg14 arg15 f5 f8 f10 f12 f13 d14 d15
  step := step3 𝒱 c bd E i arg3 harg3 arg4 harg4 arg5 harg5 arg6 harg6 arg7 harg7 arg8 harg8 arg9 harg9 arg10 harg10 arg11 harg11 arg12 harg12 arg13 harg13 arg14 harg14 arg15 harg15 w1 w2 w3 f5 f8 f10 f12 f13 d14 d15

end Cert.KernelIdeal.Body

end
-- ==== Proof.KI.Tiles.lean ====
module

public import proofs.«01_k».proof.Proof.Gen.KernelIdeal.Skeleton
public import Idealize.ShloMosaic.Lib.VecWindow
public import Idealize.ShloMosaic.Lib.WordCmp
public import Idealize.ShloMosaic.Lib.Pointwise
public import Idealize.ShloMosaic.Lib.Decide

/-! # What one grid point of the attention kernel computes

At query tile `j` (256 query rows of one batch and head) the kernel meets `2 * j + 2` key blocks of 128 rows.  `tile`
is the block of `tanh` values it stores for one key block (query rows along the second axis), `bmx` that block's column
maxima, `shiftTab` and `scaleTab` the two tables it derives from all the maxima, `oAcc` and `lAcc` the running
numerator and denominator, and `outBlk` the block of the result. -/

@[expose] public section

set_option maxRecDepth 16384

noncomputable section

namespace Cert.KernelIdeal.Body

open Idealize.ShloMosaic Idealize.ShloMosaic.Pointwise
open Cert.KernelIdeal Cert.KernelIdeal.Gen

variable {F : FTy → Type} [FloatOps F] [Named F]

/-! ## In-range facts of the windows read -/

theorem word_in (n : Fin 128) : ∀ a, (![0, 0, 0, n.val] : Fin 4 → ℕ) a + S1x1x1x1.size a ≤ S1x1x1x128.size a := by
  intro a; have := n.isLt; fin_cases a <;> simp [S1x1x1x1, S1x1x1x128] <;> omega
theorem key_in (n : Fin 128) : ∀ a, (![0, 128 * n.val, 0] : Fin 3 → ℕ) a + S1x128x256.size a ≤ S1x16384x256.size a := by
  intro a; have := n.isLt; fin_cases a <;> simp [S1x128x256, S1x16384x256] <;> omega
theorem value_in (n : Fin 128) : ∀ a, (![0, 0, n.val, 0, 0] : Fin 5 → ℕ) a + S1x1x1x256x128.size a ≤ S1x1x128x256x128.size a := by
  intro a; have := n.isLt; fin_cases a <;> simp [S1x1x1x256x128, S1x1x128x256x128] <;> omega
theorem row_in (n : Fin 128) : ∀ a, (![n.val, 0] : Fin 2 → ℕ) a + S1x256.size a ≤ S128x256.size a := by
  intro a; have := n.isLt; fin_cases a <;> simp [S1x256, S128x256] <;> omega
theorem tile_in (n : Fin 128) : ∀ a, (![128 * n.val, 0] : Fin 2 → ℕ) a + S128x256.size a ≤ S16384x256.size a := by
  intro a; have := n.isLt; fin_cases a <;> simp [S128x256, S16384x256] <;> omega

/-! ## What is read -/

/-- Scale `n` of a row of scales. -/
def word (x : Vec F S1x1x1x128 .f32) (n : Fin 128) : Elt F .f32 :=
  VecWindow.window x ![0, 0, 0, n.val] S1x1x1x1.size (word_in n) (Shape.Idx.first (numel1_S1x1x1x1.symm ▸ Nat.one_pos))
/-- Key block `n`. -/
def keyBlk (x : Vec F S1x16384x256 .fp8e4m3) (n : Fin 128) : Vec F S1x128x256 .fp8e4m3 :=
  VecWindow.window x ![0, 128 * n.val, 0] S1x128x256.size (key_in n)
/-- Transposed value block `n`. -/
def valueBlk (x : Vec F S1x1x128x256x128 .fp8e4m3) (n : Fin 128) : Vec F S1x1x1x256x128 .fp8e4m3 :=
  VecWindow.window x ![0, 0, n.val, 0, 0] S1x1x1x256x128.size (value_in n)
/-- Row `n` of a table. -/
def row (x : Vec F S128x256 .f32) (n : Fin 128) : Vec F S1x256 .f32 :=
  VecWindow.window x ![n.val, 0] S1x256.size (row_in n)

/-! ## The blocks -/

/-- The number of key blocks, as the kernel's word. -/
def nblk (i : grid0.Coords) : BitVec 32 := Scalar.muli 2#32 (Scalar.addi (BitVec.ofNat 32 (i 2).val) 1#32)

theorem coord_lt (i : grid0.Coords) : (i 2).val < 64 := (i 2).isLt

/-- The query tile's scales, one per query row. -/
def qScale (i : grid0.Coords) (qs : Vec F S1x1x1x128 .f32) : FVec F S1x256 .f32 :=
  k0_pay14 (word qs ⟨2 * (i 2).val, by have := coord_lt i; omega⟩) (word qs ⟨2 * (i 2).val + 1, by have := coord_lt i; omega⟩)

section
variable (i : grid0.Coords) (qs ks vs : Vec F S1x1x1x128 .f32) (q : Vec F S1x256x256 .fp8e4m3)
  (k : Vec F S1x16384x256 .fp8e4m3) (vt : Vec F S1x1x128x256x128 .fp8e4m3)

/-- The masked block before it is stored: key block `2 * j` against the query tile. -/
def diag0 (n : Fin 128) : FVec F S128x256 .f32 :=
  k0_pay21 (BitVec.ofNat 32 (i 2).val) (nblk i) (k0_pay13 q) (iota .tc S1x256 32 [1] iota_S1x256_d1_w32) (qScale i qs) (keyBlk k n) (word ks n)
/-- The same for key block `2 * j + 1`. -/
def diag1 (n : Fin 128) : FVec F S128x256 .f32 :=
  k0_pay24 (BitVec.ofNat 32 (i 2).val) (nblk i) (k0_pay13 q) (iota .tc S1x256 32 [1] iota_S1x256_d1_w32) (qScale i qs) (keyBlk k n) (word ks n)

/-- The stored block of `tanh` values for key block `n`: unmasked before the diagonal, masked on it. -/
def tile (n : Fin 128) : FVec F S128x256 .f32 :=
  if n.val < 2 * (i 2).val then k0_pay16 (k0_pay13 q) (qScale i qs) (keyBlk k n) (word ks n)
  else if n.val = 2 * (i 2).val then k0_pay22 (diag0 i qs ks q k n)
  else k0_pay25 (diag1 i qs ks q k n)

/-- Its column maxima. -/
def bmx (n : Fin 128) : FVec F S1x256 .f32 :=
  if n.val < 2 * (i 2).val then k0_pay17 (k0_pay13 q) (qScale i qs) (keyBlk k n) (word ks n)
  else if n.val = 2 * (i 2).val then k0_pay23 (diag0 i qs ks q k n)
  else k0_pay26 (diag1 i qs ks q k n)

/-- All the maxima, one row per key block. -/
def maxTab : Vec F S128x256 .f32 := fun y => bmx i qs ks q k (show Fin 128 from y 0) (ix2 (0 : Fin 1) (show Fin 256 from y 1))

/-- The power-of-two exponents' fields, one per key block and query row, from a table of maxima. -/
def fieldTab (T : Vec F S128x256 .f32) : IVec S128x256 32 :=
  k0_pay32 (k0_pay29 (nblk i) T) (k0_pay30 (nblk i) T) (k0_pay31 (nblk i) T)
/-- Where the exponent is replaced by zero. -/
def flagTab (T : Vec F S128x256 .f32) : IVec S128x256 1 :=
  k0_pay33 (k0_pay29 (nblk i) T) (k0_pay30 (nblk i) T) (k0_pay31 (nblk i) T)
/-- The shifts subtracted in the exponent. -/
def shiftTab (T : Vec F S128x256 .f32) : FVec F S128x256 .f32 :=
  k0_pay36 (k0_pay28 (nblk i) T) (fieldTab i T) (flagTab i T) k0_pay34
/-- The powers of two the blocks' shares are scaled back by. -/
def scaleTab (T : Vec F S128x256 .f32) : FVec F S128x256 .f32 :=
  k0_pay37 (fieldTab i T) (flagTab i T) k0_pay34

/-- The denominator after `n` key blocks. -/
def lAcc : ℕ → Vec F S1x256 .f32
  | 0 => k0_pay39
  | n + 1 => if h : n < 128 then
      k0_pay5 (row (scaleTab i (maxTab i qs ks q k)) ⟨n, h⟩) (tile i qs ks q k ⟨n, h⟩) (row (shiftTab i (maxTab i qs ks q k)) ⟨n, h⟩) (lAcc n)
    else lAcc n

/-- The numerator after `n` key blocks. -/
def oAcc : ℕ → Vec F S256x256 .f32
  | 0 => k0_pay38
  | n + 1 => if h : n < 128 then
      k0_pay1 (k0_pay6 (tile i qs ks q k ⟨n, h⟩) (row (shiftTab i (maxTab i qs ks q k)) ⟨n, h⟩) (valueBlk vt ⟨n, h⟩)) (oAcc n)
        (k0_pay7 (row (scaleTab i (maxTab i qs ks q k)) ⟨n, h⟩) (word vs ⟨n, h⟩))
    else oAcc n

/-- The block of the result a grid point writes. -/
def outBlk : FVec F S1x256x256 .bf16 :=
  k0_pay3 (oAcc i qs ks vs q k vt (2 * (i 2).val + 2)) (lAcc i qs ks q k (2 * (i 2).val + 2))

end

/-- The number of key blocks is `2 * j + 2`. -/
theorem nblk_eq (i : grid0.Coords) : nblk i = BitVec.ofNat 32 (2 * (i 2).val + 2) := by
  have h : ∀ n : Fin 64, Scalar.muli 2#32 (Scalar.addi (BitVec.ofNat 32 n.val) 1#32) = BitVec.ofNat 32 (2 * n.val + 2) := by decide +kernel
  exact h (i 2)

/-- The table of maxima with the rows from the number of key blocks on masked, at an index. -/
theorem pay27_at (i : grid0.Coords) (T : Vec F S128x256 .f32) (r : Fin 128) (c : Fin 256) :
    k0_pay27 (nblk i) T (ix2 r c) = if r.val < 2 * (i 2).val + 2 then T (ix2 r c) else FloatOps.ofBits .f32 0xFF800000#32 := by
  have hi := coord_lt i
  rw [nblk_eq]
  pointwise [k0_pay27]
  word_cmp

/-- The tables depend on the maxima only through the rows below the number of key blocks. -/
theorem pay27_congr (i : grid0.Coords) (T T' : Vec F S128x256 .f32)
    (h : ∀ y : S128x256.Idx, (y 0).val < 2 * (i 2).val + 2 → T y = T' y) : k0_pay27 (nblk i) T = k0_pay27 (nblk i) T' := by
  funext y
  idx_vars y
  rw [pay27_at, pay27_at]
  split
  · exact h (ix2 y0 y1) (by assumption)
  · rfl

theorem shiftTab_congr (i : grid0.Coords) (T T' : Vec F S128x256 .f32)
    (h : ∀ y : S128x256.Idx, (y 0).val < 2 * (i 2).val + 2 → T y = T' y) : shiftTab i T = shiftTab i T' := by
  unfold shiftTab fieldTab flagTab k0_pay31 k0_pay30 k0_pay29 k0_pay28
  rw [pay27_congr i T T' h]

theorem scaleTab_congr (i : grid0.Coords) (T T' : Vec F S128x256 .f32)
    (h : ∀ y : S128x256.Idx, (y 0).val < 2 * (i 2).val + 2 → T y = T' y) : scaleTab i T = scaleTab i T' := by
  unfold scaleTab fieldTab flagTab k0_pay31 k0_pay30 k0_pay29 k0_pay28
  rw [pay27_congr i T T' h]

end Cert.KernelIdeal.Body

end
-- ==== Proof.KI.Blocks.lean ====
module

public import proofs.«01_k».proof.Proof.KI.LoopInv
public import proofs.«01_k».proof.Proof.KI.Tiles

/-! # What the loops leave, as blocks

The buffers the two loops leave (`st10`, `st11`, `st14`, `st15`), read window by window: each is the block of
`Tiles.lean` of that name, whatever the buffers held before. -/

@[expose] public section

set_option maxRecDepth 16384

noncomputable section

namespace Cert.KernelIdeal.Body

open Idealize.ShloMosaic Idealize.ShloMosaic.Pointwise
open Cert.KernelIdeal Cert.KernelIdeal.Gen

variable {F : FTy → Type} [FloatOps F] [Named F]

/-! ## Trip counts -/

/-- The first loop makes `2 * j` trips, -/
theorem trips1 (i : grid0.Coords) : (k0_t1_loop i).trips = 2 * (i 2).val := by
  have h : ∀ n : Fin 64, Scf.trips 0#32 (Scalar.addi 0#32 (Scalar.muli (Scalar.divsi (Scalar.subi (Scalar.divsi (Scalar.addi (Scalar.subi (Scalar.subi
      (Scalar.muli 2#32 (Scalar.addi (BitVec.ofNat 32 n.val) 1#32)) 2#32) 0#32) (Scalar.subi 1#32 1#32)) 1#32) 0#32) 1#32) 1#32)) 1#32 = 2 * n.val := by
    decide +kernel
  exact h (i 2)

/-- and the second `2 * j + 2`. -/
theorem trips3 (i : grid0.Coords) : (k0_t3_loop i).trips = 2 * (i 2).val + 2 := by
  have h : ∀ n : Fin 64, Scf.trips 0#32 (Scalar.addi 0#32 (Scalar.muli (Scalar.divsi (Scalar.subi (Scalar.divsi (Scalar.addi (Scalar.subi
      (Scalar.muli 2#32 (Scalar.addi (BitVec.ofNat 32 n.val) 1#32)) 0#32) (Scalar.subi 1#32 1#32)) 1#32) 0#32) 1#32) 1#32)) 1#32 = 2 * n.val + 2 := by
    decide +kernel
  exact h (i 2)

/-! ## Reads -/

theorem wordAt_eq (arg : Memref sig .tc .smem S1x1x1x128 .f32) (f : BufTy.Contents (Elt F) arg.view.ty) (off : Fin 4 → ℕ)
    (inb : ∀ a, off a + S1x1x1x1.size a ≤ S1x1x1x128.size a) (n : Fin 128) (h : off = ![0, 0, 0, n.val]) :
    wordAt arg f off inb = word (arg.view.read (Elt F) f) n := by
  unfold wordAt word
  exact congrFun (View.readAt_unit arg.view f inb h (word_in n)) _

theorem keyAt_eq (arg7 : Memref sig .tc .vmem S1x16384x256 .fp8e4m3) (f : BufTy.Contents (Elt F) arg7.view.ty) (off : Fin 3 → ℕ)
    (inb : ∀ a, off a + S1x128x256.size a ≤ S1x16384x256.size a) (n : Fin 128) (h : off = ![0, 128 * n.val, 0]) :
    arg7.view.readAt (Elt F) (Rect.unit (s := S1x16384x256) off S1x128x256.size inb).toLoadRect f = keyBlk (arg7.view.read (Elt F) f) n :=
  View.readAt_unit arg7.view f inb h (key_in n)

theorem valueAt_eq (arg8 : Memref sig .tc .vmem S1x1x128x256x128 .fp8e4m3) (f : BufTy.Contents (Elt F) arg8.view.ty) (off : Fin 5 → ℕ)
    (inb : ∀ a, off a + S1x1x1x256x128.size a ≤ S1x1x128x256x128.size a) (n : Fin 128) (h : off = ![0, 0, n.val, 0, 0]) :
    arg8.view.readAt (Elt F) (Rect.unit (s := S1x1x128x256x128) off S1x1x1x256x128.size inb).toLoadRect f = valueBlk (arg8.view.read (Elt F) f) n :=
  View.readAt_unit arg8.view f inb h (value_in n)

theorem rowAt_eq (arg : Memref sig .tc .vmem S128x256 .f32) (f : BufTy.Contents (Elt F) arg.view.ty) (off : Fin 2 → ℕ)
    (inb : ∀ a, off a + S1x256.size a ≤ S128x256.size a) (n : Fin 128) (h : off = ![n.val, 0]) :
    arg.view.readAt (Elt F) (Rect.unit (s := S128x256) off S1x256.size inb).toLoadRect f = row (arg.view.read (Elt F) f) n :=
  View.readAt_unit arg.view f inb h (row_in n)

/-! ## The first loop's stores -/

/-- A store of one block of logits, read at any block. -/
theorem read_put10 (arg10 : Memref sig .tc .vmem S16384x256 .f32) (f : BufTy.Contents (Elt F) arg10.view.ty) (off : Fin 2 → ℕ) (inb : ∀ a, off a + S128x256.size a ≤ S16384x256.size a) (w : FVec F S128x256 .f32)
    (L : List (View.Piece (Elt F) S16384x256 .f32)) (m n : Fin 128) (h : off = ![128 * m.val, 0]) :
    VecWindow.window (arg10.view.read (Elt F) (arg10.view.writes (Elt F) f (⟨Rect.unit (s := S16384x256) off S128x256.size inb, w⟩ :: L))) ![128 * n.val, 0] S128x256.size (tile_in n)
      = if n = m then w else VecWindow.window (arg10.view.read (Elt F) (arg10.view.writes (Elt F) f L)) ![128 * n.val, 0] S128x256.size (tile_in n) := by
  rw [View.read_writes_cons_put arg10.view f inb w L h]
  split
  · next e => subst e; exact VecWindow.window_put_same _ _ _ _ _
  · next e =>
    have e' : n.val ≠ m.val := fun he => e (Fin.ext he)
    refine VecWindow.window_put_of_disjoint _ _ _ _ _ _ _ 0 ?_
    show 128 * n.val + 128 ≤ 128 * m.val ∨ 128 * m.val + 128 ≤ 128 * n.val
    omega

/-- A store of one row of maxima, read at any row. -/
theorem read_put11 (arg11 : Memref sig .tc .vmem S128x256 .f32) (f : BufTy.Contents (Elt F) arg11.view.ty) (off : Fin 2 → ℕ) (inb : ∀ a, off a + S1x256.size a ≤ S128x256.size a) (w : FVec F S1x256 .f32)
    (L : List (View.Piece (Elt F) S128x256 .f32)) (m n : Fin 128) (h : off = ![m.val, 0]) :
    row (arg11.view.read (Elt F) (arg11.view.writes (Elt F) f (⟨Rect.unit (s := S128x256) off S1x256.size inb, w⟩ :: L))) n
      = if n = m then w else row (arg11.view.read (Elt F) (arg11.view.writes (Elt F) f L)) n := by
  unfold row
  rw [View.read_writes_cons_put arg11.view f inb w L h]
  split
  · next e => subst e; exact VecWindow.window_put_same _ _ _ _ _
  · next e =>
    have e' : n.val ≠ m.val := fun he => e (Fin.ext he)
    refine VecWindow.window_put_of_disjoint _ _ _ _ _ _ _ 0 ?_
    show n.val + 1 ≤ m.val ∨ m.val + 1 ≤ n.val
    omega

/-- Before trip `k` of the first loop the blocks below `k` hold their values. -/
theorem st10_blk (i : grid0.Coords) (arg4 : Memref sig .tc .smem S1x1x1x128 .f32) (arg7 : Memref sig .tc .vmem S1x16384x256 .fp8e4m3) (arg10 : Memref sig .tc .vmem S16384x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg10.view.ty) (n : Fin 128) : ∀ k : ℕ, k ≤ (k0_t1_loop i).trips → n.val < k →
    VecWindow.window (arg10.view.read (Elt F) (st10 i arg4 arg7 arg10 v10 v25 f4 f7 d k)) ![128 * n.val, 0] S128x256.size (tile_in n)
      = k0_pay16 v10 v25 (keyBlk (arg7.view.read (Elt F) f7) n) (word (arg4.view.read (Elt F) f4) n) := by
  intro k
  induction k with
  | zero => exact fun _ h => absurd h (Nat.not_lt_zero _)
  | succ k ih =>
    intro hk h
    have hi := coord_lt i
    have ht := trips1 i
    have hk' : k < 128 := by omega
    rw [st10, dif_pos (Nat.lt_of_succ_le hk), read_put10 arg10 _ _ _ _ _ ⟨k, hk'⟩ n (k0_off5_eq i ⟨k, hk⟩)]
    split
    · next e =>
      subst e
      rw [keyAt_eq arg7 f7 _ _ ⟨k, hk'⟩ (k0_off3_eq i ⟨k, hk⟩), wordAt_eq arg4 f4 _ _ ⟨k, hk'⟩ (k0_off4_eq i ⟨k, hk⟩)]
    · next e =>
      have e' : n.val ≠ k := fun he => e (Fin.ext he)
      rw [View.writes_nil]
      exact ih (Nat.le_of_lt hk) (by omega)

/-- Before trip `k` of the first loop the rows below `k` hold their maxima. -/
theorem st11_row (i : grid0.Coords) (arg4 : Memref sig .tc .smem S1x1x1x128 .f32) (arg7 : Memref sig .tc .vmem S1x16384x256 .fp8e4m3) (arg11 : Memref sig .tc .vmem S128x256 .f32) (v10 : FVec F S256x256 .fp8e4m3) (v25 : FVec F S1x256 .f32)
    (f4 : BufTy.Contents (Elt F) arg4.view.ty) (f7 : BufTy.Contents (Elt F) arg7.view.ty) (d : BufTy.Contents (Elt F) arg11.view.ty) (n : Fin 128) : ∀ k : ℕ, k ≤ (k0_t1_loop i).trips → n.val < k →
    row (arg11.view.read (Elt F) (st11 i arg4 arg7 arg11 v10 v25 f4 f7 d k)) n
      = k0_pay17 v10 v25 (keyBlk (arg7.view.read (Elt F) f7) n) (word (arg4.view.read (Elt F) f4) n) := by
  intro k
  induction k with
  | zero => exact fun _ h => absurd h (Nat.not_lt_zero _)
  | succ k ih =>
    intro hk h
    have hi := coord_lt i
    have ht := trips1 i
    have hk' : k < 128 := by omega
    rw [st11, dif_pos (Nat.lt_of_succ_le hk), read_put11 arg11 _ _ _ _ _ ⟨k, hk'⟩ n (k0_off6_eq i ⟨k, hk⟩)]
    split
    · next e =>
      subst e
      rw [keyAt_eq arg7 f7 _ _ ⟨k, hk'⟩ (k0_off3_eq i ⟨k, hk⟩), wordAt_eq arg4 f4 _ _ ⟨k, hk'⟩ (k0_off4_eq i ⟨k, hk⟩)]
    · next e =>
      have e' : n.val ≠ k := fun he => e (Fin.ext he)
      rw [View.writes_nil]
      exact ih (Nat.le_of_lt hk) (by omega)

/-! ## The second loop's recursions -/

/-- The denominator after `k` trips of the second loop, from what it reads of the logits and of the tables. -/
theorem st15_eq (i : grid0.Coords) (qs ks : Vec F S1x1x1x128 .f32) (q : Vec F S1x256x256 .fp8e4m3) (kk : Vec F S1x16384x256 .fp8e4m3) (arg10 : Memref sig .tc .vmem S16384x256 .f32) (arg12 : Memref sig .tc .vmem S128x256 .f32) (arg13 : Memref sig .tc .vmem S128x256 .f32) (arg15 : Memref sig .tc .vmem S1x256 .f32)
    (f10 : BufTy.Contents (Elt F) arg10.view.ty) (f12 : BufTy.Contents (Elt F) arg12.view.ty) (f13 : BufTy.Contents (Elt F) arg13.view.ty) (d : BufTy.Contents (Elt F) arg15.view.ty)
    (h10 : ∀ n : Fin 128, n.val < 2 * (i 2).val + 2 → VecWindow.window (arg10.view.read (Elt F) f10) ![128 * n.val, 0] S128x256.size (tile_in n) = tile i qs ks q kk n)
    (h12 : arg12.view.read (Elt F) f12 = shiftTab i (maxTab i qs ks q kk)) (h13 : arg13.view.read (Elt F) f13 = scaleTab i (maxTab i qs ks q kk))
    (hd : arg15.view.read (Elt F) d = k0_pay39) : ∀ k : ℕ, k ≤ (k0_t3_loop i).trips →
    arg15.view.read (Elt F) (st15 i arg10 arg12 arg13 arg15 f10 f12 f13 d k) = lAcc i qs ks q kk k := by
  intro k
  induction k with
  | zero => exact fun _ => hd
  | succ k ih =>
    intro hk
    have hi := coord_lt i
    have ht := trips3 i
    have hk' : k < 128 := by omega
    have ih := ih (Nat.le_of_lt hk)
    rw [st15, dif_pos (Nat.lt_of_succ_le hk), lAcc, dif_pos (show k < 128 by omega), View.read_writes_full, View.readAt_full, ih,
      rowAt_eq arg13 f13 _ _ ⟨k, hk'⟩ (k0_off15_eq i ⟨k, hk⟩), rowAt_eq arg12 f12 _ _ ⟨k, hk'⟩ (k0_off15_eq i ⟨k, hk⟩),
      View.readAt_unit arg10.view f10 _ (k0_off16_eq i ⟨k, hk⟩) (tile_in ⟨k, hk'⟩), h12, h13, h10 ⟨k, hk'⟩ (ht ▸ hk)]

/-- The numerator after `k` trips of the second loop. -/
theorem st14_eq (i : grid0.Coords) (qs ks : Vec F S1x1x1x128 .f32) (q : Vec F S1x256x256 .fp8e4m3) (kk : Vec F S1x16384x256 .fp8e4m3) (arg5 : Memref sig .tc .smem S1x1x1x128 .f32) (arg8 : Memref sig .tc .vmem S1x1x128x256x128 .fp8e4m3) (arg10 : Memref sig .tc .vmem S16384x256 .f32) (arg12 : Memref sig .tc .vmem S128x256 .f32) (arg13 : Memref sig .tc .vmem S128x256 .f32) (arg14 : Memref sig .tc .vmem S256x256 .f32)
    (f5 : BufTy.Contents (Elt F) arg5.view.ty) (f8 : BufTy.Contents (Elt F) arg8.view.ty) (f10 : BufTy.Contents (Elt F) arg10.view.ty) (f12 : BufTy.Contents (Elt F) arg12.view.ty) (f13 : BufTy.Contents (Elt F) arg13.view.ty) (d : BufTy.Contents (Elt F) arg14.view.ty)
    (h10 : ∀ n : Fin 128, n.val < 2 * (i 2).val + 2 → VecWindow.window (arg10.view.read (Elt F) f10) ![128 * n.val, 0] S128x256.size (tile_in n) = tile i qs ks q kk n)
    (h12 : arg12.view.read (Elt F) f12 = shiftTab i (maxTab i qs ks q kk)) (h13 : arg13.view.read (Elt F) f13 = scaleTab i (maxTab i qs ks q kk))
    (hd : arg14.view.read (Elt F) d = k0_pay38) : ∀ k : ℕ, k ≤ (k0_t3_loop i).trips →
    arg14.view.read (Elt F) (st14 i arg5 arg8 arg10 arg12 arg13 arg14 f5 f8 f10 f12 f13 d k)
      = oAcc i qs ks (arg5.view.read (Elt F) f5) q kk (arg8.view.read (Elt F) f8) k := by
  intro k
  induction k with
  | zero => exact fun _ => hd
  | succ k ih =>
    intro hk
    have hi := coord_lt i
    have ht := trips3 i
    have hk' : k < 128 := by omega
    have ih := ih (Nat.le_of_lt hk)
    rw [st14, dif_pos (Nat.lt_of_succ_le hk), oAcc, dif_pos (show k < 128 by omega), View.read_writes_full, View.readAt_full, ih,
      rowAt_eq arg13 f13 _ _ ⟨k, hk'⟩ (k0_off15_eq i ⟨k, hk⟩), rowAt_eq arg12 f12 _ _ ⟨k, hk'⟩ (k0_off15_eq i ⟨k, hk⟩),
      View.readAt_unit arg10.view f10 _ (k0_off16_eq i ⟨k, hk⟩) (tile_in ⟨k, hk'⟩), h12, h13, h10 ⟨k, hk'⟩ (ht ▸ hk),
      valueAt_eq arg8 f8 _ _ ⟨k, hk'⟩ (k0_off17_eq i ⟨k, hk⟩), wordAt_eq arg5 f5 _ _ ⟨k, hk'⟩ (k0_off18_eq i ⟨k, hk⟩)]

/-! ## What the straight-line part reads -/

/-- The query tile, -/
theorem queries_read (arg6 : Memref sig .tc .vmem S1x256x256 .fp8e4m3) (f6 : BufTy.Contents (Elt F) arg6.view.ty) : (k0_pay13 (arg6.view.readAt (Elt F) (Rect.unit (s := S1x256x256) ![0, 0, 0] S1x256x256.size inb_S1x256x256_S1x256x256_0_0_0).toLoadRect f6)) = k0_pay13 (arg6.view.read (Elt F) f6) := by
  rw [View.readAt_full]

/-- its scales, -/
theorem qScale_read (i : grid0.Coords) (arg3 : Memref sig .tc .smem S1x1x1x128 .f32) (f3 : BufTy.Contents (Elt F) arg3.view.ty) : (k0_pay14 (wordAt arg3 f3 (k0_off1 i) (k0_off1_inb i)) (wordAt arg3 f3 (k0_off2 i) (k0_off2_inb i))) = qScale i (arg3.view.read (Elt F) f3) := by
  rw [wordAt_eq arg3 f3 _ _ ⟨2 * (i 2).val, by have := coord_lt i; omega⟩ (k0_off1_eq i), wordAt_eq arg3 f3 _ _ ⟨2 * (i 2).val + 1, by have := coord_lt i; omega⟩ (k0_off2_eq i)]
  rfl

/-- the two diagonal blocks -/
theorem diag0_read (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (f3 : BufTy.Contents (Elt F) arg3.view.ty) (f4 : BufTy.Contents (Elt F) arg4.view.ty) (f6 : BufTy.Contents (Elt F) arg6.view.ty) (f7 : BufTy.Contents (Elt F) arg7.view.ty) :
    k0_pay21 (BitVec.ofNat 32 (i 2).val) (nblk i) (k0_pay13 (arg6.view.readAt (Elt F) (Rect.unit (s := S1x256x256) ![0, 0, 0] S1x256x256.size inb_S1x256x256_S1x256x256_0_0_0).toLoadRect f6)) (iota .tc S1x256 32 [1] iota_S1x256_d1_w32) (k0_pay14 (wordAt arg3 f3 (k0_off1 i) (k0_off1_inb i)) (wordAt arg3 f3 (k0_off2 i) (k0_off2_inb i)))
        ((arg7.view.readAt (Elt F) (Rect.unit (s := S1x16384x256) (k0_off11 i 0#32) S1x128x256.size (k0_off11_inb i 0)).toLoadRect f7)) (wordAt arg4 f4 (k0_off12 i 0#32) (k0_off12_inb i 0))
      = diag0 i (arg3.view.read (Elt F) f3) (arg4.view.read (Elt F) f4) (arg6.view.read (Elt F) f6) (arg7.view.read (Elt F) f7) ⟨2 * (i 2).val, by have := coord_lt i; omega⟩ := by
  have e1 : k0_off11 i 0#32 = ![0, 128 * (2 * (i 2).val), 0] := by
    refine (k0_off11_eq i 0).trans ?_
    rw [show 256 * (i 2).val + 128 * (0 : Fin 2).val = 128 * (2 * (i 2).val) from by show 256 * (i 2).val + 128 * 0 = _; omega]
  have e2 : k0_off12 i 0#32 = ![0, 0, 0, 2 * (i 2).val] := k0_off12_eq i 0
  rw [qScale_read, queries_read, keyAt_eq arg7 f7 _ _ ⟨2 * (i 2).val, by have := coord_lt i; omega⟩ e1, wordAt_eq arg4 f4 _ _ ⟨2 * (i 2).val, by have := coord_lt i; omega⟩ e2]
  rfl

theorem diag1_read (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (f3 : BufTy.Contents (Elt F) arg3.view.ty) (f4 : BufTy.Contents (Elt F) arg4.view.ty) (f6 : BufTy.Contents (Elt F) arg6.view.ty) (f7 : BufTy.Contents (Elt F) arg7.view.ty) :
    k0_pay24 (BitVec.ofNat 32 (i 2).val) (nblk i) (k0_pay13 (arg6.view.readAt (Elt F) (Rect.unit (s := S1x256x256) ![0, 0, 0] S1x256x256.size inb_S1x256x256_S1x256x256_0_0_0).toLoadRect f6)) (iota .tc S1x256 32 [1] iota_S1x256_d1_w32) (k0_pay14 (wordAt arg3 f3 (k0_off1 i) (k0_off1_inb i)) (wordAt arg3 f3 (k0_off2 i) (k0_off2_inb i)))
        ((arg7.view.readAt (Elt F) (Rect.unit (s := S1x16384x256) (k0_off11 i 1#32) S1x128x256.size (k0_off11_inb i 1)).toLoadRect f7)) (wordAt arg4 f4 (k0_off12 i 1#32) (k0_off12_inb i 1))
      = diag1 i (arg3.view.read (Elt F) f3) (arg4.view.read (Elt F) f4) (arg6.view.read (Elt F) f6) (arg7.view.read (Elt F) f7) ⟨2 * (i 2).val + 1, by have := coord_lt i; omega⟩ := by
  have e1 : k0_off11 i 1#32 = ![0, 128 * (2 * (i 2).val + 1), 0] := by
    refine (k0_off11_eq i 1).trans ?_
    rw [show 256 * (i 2).val + 128 * (1 : Fin 2).val = 128 * (2 * (i 2).val + 1) from by show 256 * (i 2).val + 128 * 1 = _; omega]
  have e2 : k0_off12 i 1#32 = ![0, 0, 0, 2 * (i 2).val + 1] := k0_off12_eq i 1
  rw [qScale_read, queries_read, keyAt_eq arg7 f7 _ _ ⟨2 * (i 2).val + 1, by have := coord_lt i; omega⟩ e1, wordAt_eq arg4 f4 _ _ ⟨2 * (i 2).val + 1, by have := coord_lt i; omega⟩ e2]
  rfl

/-- and the two tables, from the buffer of maxima. -/
theorem shift_read (i : grid0.Coords) (arg11 : Memref sig .tc .vmem S128x256 .f32) (f11 : BufTy.Contents (Elt F) arg11.view.ty) (T : Vec F S128x256 .f32)
    (hT : T = arg11.view.readAt (Elt F) (Rect.unit (s := S128x256) ![0, 0] S128x256.size inb_S128x256_S128x256_0_0).toLoadRect f11) :
    k0_pay36 (k0_pay28 (nblk i) T) (k0_pay32 (k0_pay29 (nblk i) T) (k0_pay30 (nblk i) T) (k0_pay31 (nblk i) T))
        (k0_pay33 (k0_pay29 (nblk i) T) (k0_pay30 (nblk i) T) (k0_pay31 (nblk i) T)) k0_pay34 = shiftTab i (arg11.view.read (Elt F) f11) := by
  rw [hT, View.readAt_full]
  rfl

theorem scale_read (i : grid0.Coords) (arg11 : Memref sig .tc .vmem S128x256 .f32) (f11 : BufTy.Contents (Elt F) arg11.view.ty) (T : Vec F S128x256 .f32)
    (hT : T = arg11.view.readAt (Elt F) (Rect.unit (s := S128x256) ![0, 0] S128x256.size inb_S128x256_S128x256_0_0).toLoadRect f11) :
    k0_pay37 (k0_pay32 (k0_pay29 (nblk i) T) (k0_pay30 (nblk i) T) (k0_pay31 (nblk i) T))
        (k0_pay33 (k0_pay29 (nblk i) T) (k0_pay30 (nblk i) T) (k0_pay31 (nblk i) T)) k0_pay34 = scaleTab i (arg11.view.read (Elt F) f11) := by
  rw [hT, View.readAt_full]
  rfl

/-! ## The block of the result -/

/-- The logits buffer after the two diagonal stores holds `tile` at every block below the number of key blocks. -/
theorem blk10 (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (arg10 : Memref sig .tc .vmem S16384x256 .f32) (f3 : BufTy.Contents (Elt F) arg3.view.ty) (f4 : BufTy.Contents (Elt F) arg4.view.ty) (f6 : BufTy.Contents (Elt F) arg6.view.ty) (f7 : BufTy.Contents (Elt F) arg7.view.ty) (d : BufTy.Contents (Elt F) arg10.view.ty)
    (v10 : FVec F S256x256 .fp8e4m3) (v25 : FVec F S1x256 .f32) (D0 D1 : FVec F S128x256 .f32)
    (h10 : v10 = k0_pay13 (arg6.view.read (Elt F) f6)) (h25 : v25 = qScale i (arg3.view.read (Elt F) f3))
    (hD0 : D0 = diag0 i (arg3.view.read (Elt F) f3) (arg4.view.read (Elt F) f4) (arg6.view.read (Elt F) f6) (arg7.view.read (Elt F) f7) ⟨2 * (i 2).val, by have := coord_lt i; omega⟩) (hD1 : D1 = diag1 i (arg3.view.read (Elt F) f3) (arg4.view.read (Elt F) f4) (arg6.view.read (Elt F) f6) (arg7.view.read (Elt F) f7) ⟨2 * (i 2).val + 1, by have := coord_lt i; omega⟩)
    (n : Fin 128) (hn : n.val < 2 * (i 2).val + 2) :
    VecWindow.window (arg10.view.read (Elt F) (arg10.view.writes (Elt F)
        (st10 i arg4 arg7 arg10 v10 v25 f4 f7 d (k0_t1_loop i).trips)
        [⟨Rect.unit (s := S16384x256) (k0_off13 i 1#32) S128x256.size (k0_off13_inb i 1), k0_pay25 D1⟩,
          ⟨Rect.unit (s := S16384x256) (k0_off13 i 0#32) S128x256.size (k0_off13_inb i 0), k0_pay22 D0⟩]))
        ![128 * n.val, 0] S128x256.size (tile_in n)
      = tile i (arg3.view.read (Elt F) f3) (arg4.view.read (Elt F) f4) (arg6.view.read (Elt F) f6) (arg7.view.read (Elt F) f7) n := by
  subst h10 h25 hD0 hD1
  have hi := coord_lt i
  have ht := trips1 i
  have e1 : k0_off13 i 1#32 = ![128 * (2 * (i 2).val + 1), 0] := by
    refine (k0_off13_eq i 1).trans ?_
    rw [show 256 * (i 2).val + 128 * (1 : Fin 2).val = 128 * (2 * (i 2).val + 1) from by show 256 * (i 2).val + 128 * 1 = _; omega]
  have e0 : k0_off13 i 0#32 = ![128 * (2 * (i 2).val), 0] := by
    refine (k0_off13_eq i 0).trans ?_
    rw [show 256 * (i 2).val + 128 * (0 : Fin 2).val = 128 * (2 * (i 2).val) from by show 256 * (i 2).val + 128 * 0 = _; omega]
  rw [read_put10 arg10 _ _ _ _ _ ⟨2 * (i 2).val + 1, by omega⟩ n e1, read_put10 arg10 _ _ _ _ _ ⟨2 * (i 2).val, by omega⟩ n e0, View.writes_nil]
  unfold tile
  by_cases h1 : n.val = 2 * (i 2).val + 1
  · have e : n = ⟨2 * (i 2).val + 1, by omega⟩ := Fin.ext h1
    rw [if_pos e, if_neg (by omega), if_neg (by omega), ← e]
  · rw [if_neg (fun h => h1 (congrArg Fin.val h))]
    by_cases h0 : n.val = 2 * (i 2).val
    · have e : n = ⟨2 * (i 2).val, by omega⟩ := Fin.ext h0
      rw [if_pos e, if_neg (by omega), if_pos h0, ← e]
    · rw [if_neg (fun h => h0 (congrArg Fin.val h)), if_pos (by omega), st10_blk i arg4 arg7 arg10 _ _ f4 f7 d n _ le_rfl (by omega)]

/-- The buffer of maxima after the two diagonal stores holds `maxTab` at every row below the number of key blocks. -/
theorem tab11 (i : grid0.Coords) (arg3 : Memref sig .tc .smem S1x1x1x128 .f32) (arg4 : Memref sig .tc .smem S1x1x1x128 .f32) (arg6 : Memref sig .tc .vmem S1x256x256 .fp8e4m3) (arg7 : Memref sig .tc .vmem S1x16384x256 .fp8e4m3) (arg11 : Memref sig .tc .vmem S128x256 .f32) (f3 : BufTy.Contents (Elt F) arg3.view.ty) (f4 : BufTy.Contents (Elt F) arg4.view.ty) (f6 : BufTy.Contents (Elt F) arg6.view.ty) (f7 : BufTy.Contents (Elt F) arg7.view.ty) (d : BufTy.Contents (Elt F) arg11.view.ty)
    (v10 : FVec F S256x256 .fp8e4m3) (v25 : FVec F S1x256 .f32) (D0 D1 : FVec F S128x256 .f32)
    (h10 : v10 = k0_pay13 (arg6.view.read (Elt F) f6)) (h25 : v25 = qScale i (arg3.view.read (Elt F) f3))
    (hD0 : D0 = diag0 i (arg3.view.read (Elt F) f3) (arg4.view.read (Elt F) f4) (arg6.view.read (Elt F) f6) (arg7.view.read (Elt F) f7) ⟨2 * (i 2).val, by have := coord_lt i; omega⟩) (hD1 : D1 = diag1 i (arg3.view.read (Elt F) f3) (arg4.view.read (Elt F) f4) (arg6.view.read (Elt F) f6) (arg7.view.read (Elt F) f7) ⟨2 * (i 2).val + 1, by have := coord_lt i; omega⟩)
    (y : S128x256.Idx) (hy : (y 0).val < 2 * (i 2).val + 2) :
    arg11.view.read (Elt F) (arg11.view.writes (Elt F)
        (st11 i arg4 arg7 arg11 v10 v25 f4 f7 d (k0_t1_loop i).trips)
        [⟨Rect.unit (s := S128x256) (k0_off14 i 1#32) S1x256.size (k0_off14_inb i 1), k0_pay26 D1⟩,
          ⟨Rect.unit (s := S128x256) (k0_off14 i 0#32) S1x256.size (k0_off14_inb i 0), k0_pay23 D0⟩]) y
      = maxTab i (arg3.view.read (Elt F) f3) (arg4.view.read (Elt F) f4) (arg6.view.read (Elt F) f6) (arg7.view.read (Elt F) f7) y := by
  subst h10 h25 hD0 hD1
  have hi := coord_lt i
  have ht := trips1 i
  have e1 : k0_off14 i 1#32 = ![2 * (i 2).val + 1, 0] := k0_off14_eq i 1
  have e0 : k0_off14 i 0#32 = ![2 * (i 2).val, 0] := k0_off14_eq i 0
  have hrow : ∀ (T : Vec F S128x256 .f32) (n : Fin 128) (c : Fin 256), T (ix2 n c) = row T n (ix2 (0 : Fin 1) c) := fun T n c =>
    congrArg T (funext fun a => by
      refine Fin.ext ?_
      match a with
      | ⟨0, _⟩ => show n.val = n.val + 1 * 0; omega
      | ⟨1, _⟩ => show c.val = 0 + 1 * c.val; omega)
  idx_vars y
  refine (hrow _ y0 y1).trans ?_
  show _ = bmx i _ _ _ _ y0 (ix2 (0 : Fin 1) y1)
  refine congrFun ?_ _
  have hy : y0.val < 2 * (i 2).val + 2 := hy
  rw [read_put11 arg11 _ _ _ _ _ ⟨2 * (i 2).val + 1, by omega⟩ y0 e1, read_put11 arg11 _ _ _ _ _ ⟨2 * (i 2).val, by omega⟩ y0 e0, View.writes_nil]
  unfold bmx
  by_cases h1 : y0.val = 2 * (i 2).val + 1
  · have e : y0 = ⟨2 * (i 2).val + 1, by omega⟩ := Fin.ext h1
    rw [if_pos e, if_neg (by omega), if_neg (by omega), ← e]
  · rw [if_neg (fun h => h1 (congrArg Fin.val h))]
    by_cases h0 : y0.val = 2 * (i 2).val
    · have e : y0 = ⟨2 * (i 2).val, by omega⟩ := Fin.ext h0
      rw [if_pos e, if_neg (by omega), if_pos h0, ← e]
    · rw [if_neg (fun h => h0 (congrArg Fin.val h)), if_pos (by omega), st11_row i arg4 arg7 arg11 _ _ f4 f7 d y0 _ le_rfl (by omega)]

/-- The block a grid point stores, from what the second loop finds in the buffers of blocks and of maxima. -/
theorem out_of (i : grid0.Coords) (qs ks : Vec F S1x1x1x128 .f32) (q : Vec F S1x256x256 .fp8e4m3) (kk : Vec F S1x16384x256 .fp8e4m3) (arg5 : Memref sig .tc .smem S1x1x1x128 .f32) (arg8 : Memref sig .tc .vmem S1x1x128x256x128 .fp8e4m3) (arg10 : Memref sig .tc .vmem S16384x256 .f32) (arg11 : Memref sig .tc .vmem S128x256 .f32) (arg12 : Memref sig .tc .vmem S128x256 .f32) (arg13 : Memref sig .tc .vmem S128x256 .f32) (arg14 : Memref sig .tc .vmem S256x256 .f32) (arg15 : Memref sig .tc .vmem S1x256 .f32) (f5 : BufTy.Contents (Elt F) arg5.view.ty) (f8 : BufTy.Contents (Elt F) arg8.view.ty)
    (F10 : BufTy.Contents (Elt F) arg10.view.ty) (F11 : BufTy.Contents (Elt F) arg11.view.ty) (F12 : BufTy.Contents (Elt F) arg12.view.ty) (F13 : BufTy.Contents (Elt F) arg13.view.ty) (D14 : BufTy.Contents (Elt F) arg14.view.ty) (D15 : BufTy.Contents (Elt F) arg15.view.ty)
    (hb : ∀ n : Fin 128, n.val < 2 * (i 2).val + 2 → VecWindow.window (arg10.view.read (Elt F) F10) ![128 * n.val, 0] S128x256.size (tile_in n) = tile i qs ks q kk n)
    (hm : ∀ y : S128x256.Idx, (y 0).val < 2 * (i 2).val + 2 → arg11.view.read (Elt F) F11 y = maxTab i qs ks q kk y)
    (h12 : arg12.view.read (Elt F) F12 = shiftTab i (arg11.view.read (Elt F) F11))
    (h13 : arg13.view.read (Elt F) F13 = scaleTab i (arg11.view.read (Elt F) F11))
    (h14 : arg14.view.read (Elt F) D14 = k0_pay38) (h15 : arg15.view.read (Elt F) D15 = k0_pay39) :
    k0_pay3
        (arg14.view.readAt (Elt F) (Rect.unit (s := S256x256) ![0, 0] S256x256.size inb_S256x256_S256x256_0_0).toLoadRect
          (st14 i arg5 arg8 arg10 arg12 arg13 arg14 f5 f8 F10 F12 F13 D14 (k0_t3_loop i).trips))
        (arg15.view.readAt (Elt F) (Rect.unit (s := S1x256) ![0, 0] S1x256.size inb_S1x256_S1x256_0_0).toLoadRect
          (st15 i arg10 arg12 arg13 arg15 F10 F12 F13 D15 (k0_t3_loop i).trips))
      = outBlk i qs ks (arg5.view.read (Elt F) f5) q kk (arg8.view.read (Elt F) f8) := by
  have h12' := h12.trans (shiftTab_congr i _ (maxTab i qs ks q kk) hm)
  have h13' := h13.trans (scaleTab_congr i _ (maxTab i qs ks q kk) hm)
  rw [View.readAt_full, View.readAt_full, st14_eq i qs ks q kk arg5 arg8 arg10 arg12 arg13 arg14 f5 f8 F10 F12 F13 D14 hb h12' h13' h14 _ le_rfl,
    st15_eq i qs ks q kk arg10 arg12 arg13 arg15 F10 F12 F13 D15 hb h12' h13' h15 _ le_rfl, trips3 i, outBlk]

end Cert.KernelIdeal.Body

end
-- ==== Proof.KI.Body.lean ====
module

public import proofs.«01_k».proof.Proof.KI.Blocks

/-! # The kernel's body

One grid point of the attention kernel: from its six input blocks it runs to its end, leaves the inputs as they were
and the output block at `outBlk` of them, whatever the scratch buffers held. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- The body at any grid point, on whole buffers: the inputs at `x3` … `x8`, the output and the six scratch buffers at anything. -/
theorem sound_kernel (c : Dev nD) (E : Set ℕ) (i : grid0.Coords) (arg3 : Memref sig .tc .smem S1x1x1x128 .f32) (harg3 : arg3.IsWhole) (arg4 : Memref sig .tc .smem S1x1x1x128 .f32) (harg4 : arg4.IsWhole) (arg5 : Memref sig .tc .smem S1x1x1x128 .f32) (harg5 : arg5.IsWhole) (arg6 : Memref sig .tc .vmem S1x256x256 .fp8e4m3) (harg6 : arg6.IsWhole) (arg7 : Memref sig .tc .vmem S1x16384x256 .fp8e4m3) (harg7 : arg7.IsWhole) (arg8 : Memref sig .tc .vmem S1x1x128x256x128 .fp8e4m3) (harg8 : arg8.IsWhole) (arg9 : Memref sig .tc .vmem S1x256x256 .bf16) (harg9 : arg9.IsWhole) (arg10 : Memref sig .tc .vmem S16384x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S256x256 .f32) (harg14 : arg14.IsWhole) (arg15 : Memref sig .tc .vmem S1x256 .f32) (harg15 : arg15.IsWhole)
    (x3 : Vec F S1x1x1x128 .f32) (x4 : Vec F S1x1x1x128 .f32) (x5 : Vec F S1x1x1x128 .f32) (x6 : Vec F S1x256x256 .fp8e4m3) (x7 : Vec F S1x16384x256 .fp8e4m3) (x8 : Vec F S1x1x128x256x128 .fp8e4m3) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outBlk i x3 x4 x5 x6 x7 x8) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
    ⊢ wp frame (wpE (defs₀ (F := F)) Variants.none (c : Thread nD τ) none) E (cc0_attend (F := F) i arg3 harg3 arg4 harg4 arg5 harg5 arg6 harg6 arg7 harg7 arg8 harg8 arg9 harg9 arg10 harg10 arg11 harg11 arg12 harg12 arg13 harg13 arg14 harg14 arg15 harg15) K := by
  simp only [cc0_attend_eq_skeleton]; unfold cc0_attend_skel
  simp only [k0_part3_eq_skeleton, k0_part4_eq_skeleton, k0_part5_eq_skeleton, k0_part6_eq_skeleton, k0_part7_eq_skeleton, k0_part8_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, H10⟩, ⟨%f11, H11⟩, ⟨%f12, H12⟩, ⟨%f13, H13⟩, ⟨%f14, H14⟩, ⟨%f15, H15⟩, Hk⟩
  subst hf3 hf4 hf5 hf6 hf7 hf8
  by_cases h1 : Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1
  all_goals
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      refine (View.read_writes_full arg9.view f9 _ _ _).trans ?_
      exact out_of i (arg3.view.read (Elt F) f3) (arg4.view.read (Elt F) f4) (arg6.view.read (Elt F) f6) (arg7.view.read (Elt F) f7)
        arg5 arg8 arg10 arg11 arg12 arg13 arg14 arg15 f5 f8 _ _ _ _ _ _
        (blk10 i arg3 arg4 arg6 arg7 arg10 f3 f4 f6 f7 _ _ _ _ _ (queries_read arg6 f6) (qScale_read i arg3 f3)
          (diag0_read i arg3 arg4 arg6 arg7 f3 f4 f6 f7) (diag1_read i arg3 arg4 arg6 arg7 f3 f4 f6 f7))
        (tab11 i arg3 arg4 arg6 arg7 arg11 f3 f4 f6 f7 _ _ _ _ _ (queries_read arg6 f6) (qScale_read i arg3 f3)
          (diag0_read i arg3 arg4 arg6 arg7 f3 f4 f6 f7) (diag1_read i arg3 arg4 arg6 arg7 f3 f4 f6 f7))
        ((View.read_writes_full arg12.view _ _ _ _).trans (shift_read i arg11 _ _ rfl))
        ((View.read_writes_full arg13.view _ _ _ _).trans (scale_read i arg11 _ _ rfl))
        (View.read_writes_full arg14.view _ _ _ _) (View.read_writes_full arg15.view _ _ _ _)
    isplitl [H10]
    · iexists _; iexact H10
    isplitl [H11]
    · iexists _; iexact H11
    isplitl [H12]
    · iexists _; iexact H12
    isplitl [H13]
    · iexists _; iexact H13
    isplitl [H14]
    · iexists _; iexact H14
    iexists _; iexact H15

end Cert.KernelIdeal.Body

end
-- ==== Proof.KI.Run.lean ====
module

public import proofs.«01_k».proof.Proof.Gen.KernelIdeal.Frame
public import proofs.«01_k».proof.Proof.KI.Body
public import Idealize.ShloMosaic.Lib.Claim

/-! # The run

The kernel's call runs to its end from any memory, with the argument arrays unchanged and the result array at what
the grid points' blocks (`outBlk`) leave in it. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The block of the result written at point `t`, from the six input blocks there. -/
def outAt (c : Dev nD) (t : Fin cfg0.N) : FVec F S1x256x256 .bf16 :=
  outBlk (grid0.coords t) (iblk m c 0 t) (iblk m c 1 t) (iblk m c 2 t) (iblk m c 3 t) (iblk m c 4 t) (iblk m c 5 t)

/-- The arrays as the call finds them; after the body at point `t` each input's buffer at its block and the output's at
    `outAt`; the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A scratch buffer at some contents, held through its whole view. -/
theorem scratch_eq (c : Dev nD) (b : Ref sig .tc) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  simp only [Memref.view_whole, View.set_whole]

set_option maxHeartbeats 4000000 in
/-- The body at any point: the inputs' buffers hold their blocks and the scratch buffers anything, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  unfold Pipeline.ΦA
  rw [scopedRest0_eq, ← scratch_eq c cc0_scratch0, ← scratch_eq c cc0_scratch1, ← scratch_eq c cc0_scratch2, ← scratch_eq c cc0_scratch3,
    ← scratch_eq c cc0_scratch4, ← scratch_eq c cc0_scratch5]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  have hk := fun K => sound_kernel (F := F) c Set.univ (grid0.coords t) (st0_0 t) (hstage0_0 _) (st0_1 t) (hstage0_1 _) (st0_2 t) (hstage0_2 _)
    (st0_3 t) (hstage0_3 _) (st0_4 t) (hstage0_4 _) (st0_5 t) (hstage0_5 _) (st0_6 t) (hstage0_6 _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (iblk m c 0 t) (iblk m c 1 t) (iblk m c 2 t) (iblk m c 3 t) (iblk m c 4 t) (iblk m c 5 t) K
  iapply (hk _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs to its end, every array as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began, -/
theorem unchanged : θ_run defs (onTc (τ := τ) (main (F := F))) ⟨m, fun _ => 0, ρ⟩ (fun r => ∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.Value.Consts.lean ====
module

public import Idealize.ShloMosaic.Lib.Pointwise
public import proofs.«01_k».proof.Proof.Gen.KernelIdeal.Skeleton
public import proofs.«01_k».proof.Proof.Gen.ReferenceIdeal.Skeleton

/-! # The float constants of the two programs, as extended reals -/

@[expose] public section

set_option maxRecDepth 16384

noncomputable section

namespace Cert.Consts

open Idealize.ShloMosaic

/-- `50`, the cap on the scores. -/
theorem cap : Ideal.ofBits .f32 0x42480000#32 = ((50 : ℝ) : EReal) := by
  simp [Ideal.ofBits, Ideal.ieee, -EReal.coe_mul]; norm_num

/-- `448`, the largest code. -/
theorem top : Ideal.ofBits .f32 0x43E00000#32 = ((448 : ℝ) : EReal) := by
  simp [Ideal.ofBits, Ideal.ieee, -EReal.coe_mul]; norm_num

/-- `-448`, the least code. -/
theorem bottom : Ideal.ofBits .f32 0xC3E00000#32 = ((-448 : ℝ) : EReal) := by
  simp [Ideal.ofBits, Ideal.ieee, -EReal.coe_mul]; norm_num

/-- The binary32 number nearest to `1 / 448`. -/
def inv448 : ℝ := 9586981 / 4294967296

theorem inv448_bits : Ideal.ofBits .f32 0x3B124925#32 = ((inv448 : ℝ) : EReal) := by
  simp [Ideal.ofBits, Ideal.ieee, -EReal.coe_mul, inv448]; norm_num

/-- Minus infinity. -/
theorem negInf : Ideal.ofBits .f32 0xFF800000#32 = ⊥ := by
  simp [Ideal.ofBits, Ideal.ieee]

/-- The kernel's named constant: `50 / log 2`. -/
theorem cap_log2e : Named.named (F := Ideal) Cert.KernelIdeal.κ "cap_log2e" (φ := .f32) 0x429044FE#32 = ((50 * (Real.log 2)⁻¹ : ℝ) : EReal) :=
  IdealRules.named_const.ideal_named_scalar _ _ _ _ rfl

/-- The reference's named constant: `log 2`. -/
theorem ln2 : Named.named (F := Ideal) Cert.ReferenceIdeal.κ "ln2" (φ := .f32) 0x3F317218#32 = ((Real.log 2 : ℝ) : EReal) :=
  IdealRules.named_const.ideal_named_scalar _ _ _ _ rfl

/-- The bits of an exponent field alone: sign zero, the field, fraction zero. -/
theorem field_bits : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

/-- What a float denotes, from its sign, its exponent field and its fraction. -/
theorem of_fields (b : BitVec 32) (n : ℕ) (neg : (b.extractLsb' 31 1 == 1#1) = false) (ex : (b.extractLsb' 23 8).toNat = n)
    (fr : (b.extractLsb' 0 23).toNat = 0) :
    Ideal.ofBits .f32 b = if n = 255 then ⊤ else if n = 0 then 0 else (((2 : ℝ) ^ ((n : ℤ) - 127) : ℝ) : EReal) := by
  have key : ∀ (g : Bool) (x f : ℕ), g = false → x = n → f = 0 →
      (if x = 2 ^ 8 - 1 then (if f = 0 then (if g then ⊥ else ⊤) else ⊥)
        else if x = 0 then ((((if g then -1 else 1 : ℝ)) * f * (2 : ℝ) ^ (1 - (2 ^ (8 - 1) - 1 : ℤ) - (23 : ℕ)) : ℝ) : EReal)
        else ((((if g then -1 else 1 : ℝ)) * (2 ^ 23 + f : Nat) * (2 : ℝ) ^ ((x : ℤ) - (2 ^ (8 - 1) - 1 : ℤ) - (23 : ℕ)) : ℝ) : EReal))
      = if n = 255 then ⊤ else if n = 0 then 0 else (((2 : ℝ) ^ ((n : ℤ) - 127) : ℝ) : EReal) := by
    rintro g x f rfl rfl rfl
    by_cases h : x = 255
    · simp [h]
    by_cases h' : x = 0
    · simp [h']
    rw [if_neg (by omega), if_neg h', if_neg h, if_neg h']
    have e : (2 : ℝ) ^ ((x : ℤ) - (2 ^ (8 - 1) - 1 : ℤ) - (23 : ℕ)) = (2 : ℝ) ^ ((x : ℤ) - 127) / 8388608 := by
      rw [zpow_sub₀ (by norm_num) ((x : ℤ) - _) _]; norm_num
    rw [e]
    congr 1
    norm_num
    ring
  exact key _ _ _ neg ex fr

/-- The float whose exponent field is `n` and whose fraction is zero is `2 ^ (n - 127)`. -/
theorem pow_bits (n : ℕ) (h0 : 0 < n) (h1 : n < 255) :
    Ideal.ofBits .f32 (BitVec.ofNat 32 n <<< 23) = (((2 : ℝ) ^ ((n : ℤ) - 127) : ℝ) : EReal) := by
  obtain ⟨a, b, c⟩ := field_bits ⟨n, by omega⟩
  rw [of_fields _ n a b c, if_neg (by omega), if_neg (by omega)]

/-- With the field at 255 it is infinity. -/
theorem pow_bits_top : Ideal.ofBits .f32 (BitVec.ofNat 32 255 <<< 23) = ⊤ := by
  obtain ⟨a, b, c⟩ := field_bits ⟨255, by omega⟩
  rw [of_fields _ 255 a b c, if_pos rfl]

end Cert.Consts

end
-- ==== Proof.Value.Quantise.lean ====
module

public import proofs.«01_k».proof.Proof.Value.Consts
public import Idealize.ShloMosaic.Lib.WordCmp

/-! # The power-of-two quantiser over the reals

A block of weights is divided by a power of two `2 ^ e`, clipped to `±448`, and the result multiplied by `2 ^ e` again.  Where
the exponent comes from the block's largest weight `a` with `a / 448 < 2 ^ e`, the clip does nothing and the power of two
cancels.  The kernel finds `e` by a binary search over powers of two, the reference by a logarithm; the two may differ for
very small blocks, but both are large enough. -/

@[expose] public section

set_option maxRecDepth 16384

noncomputable section

namespace Cert.Quantise

open Idealize.ShloMosaic Cert.Consts

/-! ## The binary search for the exponent field -/

/-- The word `w` holds a number `n` with `2 ^ (n - 127) ≤ z` (or `n = 0`) and `z < 2 ^ (n + b - 127)`. -/
def Found (z : ℝ) (w : BitVec 32) (b : ℕ) : Prop :=
  ∃ n : ℕ, w = BitVec.ofNat 32 n ∧ n + b ≤ 256 ∧ (n = 0 ∨ (2 : ℝ) ^ ((n : ℤ) - 127) ≤ z) ∧ z < (2 : ℝ) ^ (((n + b : ℕ) : ℤ) - 127)

/-- One step of the search: try the next bit `b` and keep it where the power of two is at most `z`. -/
def step (z : EReal) (w : BitVec 32) (b : BitVec 32) : BitVec 32 :=
  if Ideal.ofBits .f32 (IntOp.shli .vector (IntOp.addi w b) 23#32) ≤ z then IntOp.addi w b else w

theorem shli23 (w : BitVec 32) : IntOp.shli .vector w 23#32 = w <<< 23 := rfl

/-- The search starts from zero. -/
theorem Found.start {z : ℝ} (h : z < (2 : ℝ) ^ (126 : ℤ)) : Found z 0#32 256 := by
  refine ⟨0, rfl, by norm_num, .inl rfl, h.trans_le ?_⟩
  exact zpow_le_zpow_right₀ (by norm_num) (by norm_num)

/-- One step halves the interval. -/
theorem Found.step {z : ℝ} {w : BitVec 32} {b : ℕ} (hz : z < (2 : ℝ) ^ (126 : ℤ)) (hb : 0 < b) (h : Found z w (2 * b)) :
    Found z (step (z : EReal) w (BitVec.ofNat 32 b)) b := by
  obtain ⟨n, rfl, hn, lo, hi⟩ := h
  unfold Quantise.step
  rw [shli23, WordCmp.addi_ofNat]
  split
  · rename_i hle
    refine ⟨n + b, rfl, by omega, .inr ?_, ?_⟩
    · by_cases h255 : n + b = 255
      · rw [h255, pow_bits_top, top_le_iff] at hle
        exact absurd hle (EReal.coe_ne_top _)
      · rw [pow_bits _ (by omega) (by omega)] at hle
        exact_mod_cast hle
    · convert hi using 3; omega
  · rename_i hle
    refine ⟨n, rfl, by omega, lo, ?_⟩
    by_cases h255 : n + b = 255
    · rw [h255]
      exact hz.trans_le (zpow_le_zpow_right₀ (by norm_num) (by norm_num))
    · rw [pow_bits _ (by omega) (by omega), not_le] at hle
      exact_mod_cast hle

/-- All eight steps. -/
def search (z : EReal) : BitVec 32 :=
  step z (step z (step z (step z (step z (step z (step z (step z 0#32 128#32) 64#32) 32#32) 16#32) 8#32) 4#32) 2#32) 1#32

theorem search_found {z : ℝ} (h : z < (2 : ℝ) ^ (126 : ℤ)) : Found z (search z) 1 :=
  .step h (by norm_num) <| .step (b := 2) h (by norm_num) <| .step (b := 4) h (by norm_num) <| .step (b := 8) h (by norm_num) <|
    .step (b := 16) h (by norm_num) <| .step (b := 32) h (by norm_num) <| .step (b := 64) h (by norm_num) <|
    .step (b := 128) h (by norm_num) <| .start h

/-- The exponent's word: the field less 126, or zero for the fields 0 and 255. -/
def exponent (z : EReal) : BitVec 32 :=
  Scalar.select (IntOp.ori (IntOp.cmpi .eq (search z) 0#32) (IntOp.cmpi .eq (search z) 255#32)) 0#32 (IntOp.subi (search z) 126#32)

theorem exponent_words : ∀ n : Fin 127,
    (Scalar.select (IntOp.ori (IntOp.cmpi .eq (BitVec.ofNat 32 n.val) 0#32) (IntOp.cmpi .eq (BitVec.ofNat 32 n.val) 255#32)) 0#32
      (IntOp.subi (BitVec.ofNat 32 n.val) 126#32)).toInt = (if n.val = 0 then 0 else (n.val : ℤ) - 126)
    ∧ IntOp.addi (Scalar.select (IntOp.ori (IntOp.cmpi .eq (BitVec.ofNat 32 n.val) 0#32) (IntOp.cmpi .eq (BitVec.ofNat 32 n.val) 255#32)) 0#32
      (IntOp.subi (BitVec.ofNat 32 n.val) 126#32)) 127#32 = BitVec.ofNat 32 (if n.val = 0 then 127 else n.val + 1) := by
  decide +kernel

/-- The searched exponent `e`: its word read as a number, the power of two built from it, and the bound `z < 2 ^ e`. -/
theorem exponent_spec {z : ℝ} (h : z < 1) : ∃ e : ℤ, (exponent z).toInt = e
    ∧ Ideal.ofBits .f32 (IntOp.shli .vector (IntOp.addi (exponent z) 127#32) 23#32) = (((2 : ℝ) ^ e : ℝ) : EReal)
    ∧ z < (2 : ℝ) ^ e := by
  obtain ⟨n, hw, hn, lo, hi⟩ := search_found (h.trans_le (one_le_zpow₀ (by norm_num) (by norm_num)))
  have hn' : n < 127 := by
    by_contra hc
    rcases lo with lo | lo
    · omega
    · exact absurd (h.trans_le (one_le_zpow₀ (a := (2 : ℝ)) (n := (n : ℤ) - 127) (by norm_num) (by omega))) (not_lt.mpr lo)
  obtain ⟨h1, h2⟩ := exponent_words ⟨n, hn'⟩
  simp only at h1 h2
  unfold exponent
  rw [hw, h1, h2, shli23]
  by_cases h0 : n = 0
  · refine ⟨0, by simp [h0], ?_, by simpa using h⟩
    rw [if_pos h0, pow_bits _ (by norm_num) (by norm_num)]
    norm_num
  · have e1 : ((n + 1 : ℕ) : ℤ) - 127 = (n : ℤ) - 126 := by push_cast; ring
    refine ⟨(n : ℤ) - 126, by simp [h0], ?_, ?_⟩
    · rw [if_neg h0, pow_bits _ (by omega) (by omega), e1]
    · rwa [e1] at hi

/-! ## The exponent by a logarithm -/

/-- The reference's exponent of a block whose largest weight is `a`: zero for `a = 0`, else `⌊log₂ z⌋ + 1`. -/
theorem log_exponent {a : ℝ} (ha : 0 ≤ a) :
    ∃ e : ℤ, (if (a : EReal) = 0 then (0 : EReal)
        else Ideal.liftRound Int.floor (Ideal.div (Ideal.log ((a : EReal) * (inv448 : ℝ))) ((Real.log 2 : ℝ) : EReal)) + 1) = (e : ℝ)
      ∧ a * inv448 < (2 : ℝ) ^ e := by
  by_cases h0 : a = 0
  · exact ⟨0, by simp [h0], by simp [h0]⟩
  have hp : 0 < a := lt_of_le_of_ne ha (Ne.symm h0)
  have hz : 0 < a * inv448 := mul_pos hp (by norm_num [inv448])
  have hl : 0 < Real.log 2 := Real.log_pos (by norm_num)
  refine ⟨⌊Real.log (a * inv448) / Real.log 2⌋ + 1, ?_, ?_⟩
  · rw [if_neg (by exact_mod_cast h0), ← EReal.coe_mul, Ideal.log_coe, if_neg (not_le.mpr hz), Ideal.div_coe hl.ne',
      ← EReal.coe_mul, Ideal.liftRound_coe, mul_one_div]
    push_cast; rfl
  · have h := Int.lt_floor_add_one (Real.log (a * inv448) / Real.log 2)
    rw [div_lt_iff₀ hl] at h
    rw [← Real.log_lt_log_iff hz (by positivity), Real.log_zpow]
    push_cast
    exact h

/-! ## What the exponents are good for -/

/-- A weight at most `a` with `a / 448 < 2 ^ e` is at most `448 * 2 ^ e`. -/
theorem in_range {a p : ℝ} {e : ℤ} (hp : p ≤ a) (h0 : 0 ≤ p) (h : a * inv448 < (2 : ℝ) ^ e) : p ≤ 448 * (2 : ℝ) ^ e := by
  have h1 : p * (1 / 448) ≤ p * inv448 := mul_le_mul_of_nonneg_left (by norm_num [inv448]) h0
  have h2 : p * inv448 ≤ a * inv448 := mul_le_mul_of_nonneg_right hp (by norm_num [inv448])
  linarith

/-- The code of a weight in range is the weight over the power of two: the clip does nothing. -/
theorem clip_eq {p : ℝ} {e : ℤ} (h0 : 0 ≤ p) (h : p ≤ 448 * (2 : ℝ) ^ e) :
    min ((448 : ℝ) : EReal) (max ((-448 : ℝ) : EReal) ((p * (2 : ℝ) ^ (-e) : ℝ) : EReal)) = ((p * (2 : ℝ) ^ (-e) : ℝ) : EReal) := by
  have hp : (0 : ℝ) < (2 : ℝ) ^ e := by positivity
  have h1 : 0 ≤ p * (2 : ℝ) ^ (-e) := by positivity
  have h2 : p * (2 : ℝ) ^ (-e) ≤ 448 := by
    rw [zpow_neg, ← div_eq_mul_inv, div_le_iff₀ hp]; exact h
  rw [max_eq_right (EReal.coe_le_coe_iff.mpr (by linarith)), min_eq_right (EReal.coe_le_coe_iff.mpr h2)]

/-- A nonnegative real factor goes through a finite sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    rw [mul_comm _ (r : EReal), mul_comm _ (r : EReal), mul_comm _ (r : EReal)]
    exact EReal.left_distrib_of_nonneg_of_ne_top (EReal.coe_nonneg.mpr hr) (EReal.coe_ne_top r) _ _

/-- The numerator of one block: the power of two cancels. -/
theorem numerator {ι : Type*} [Fintype ι] (v : ι → EReal) (p : ι → ℝ) (w : EReal) {e : ℤ} (h0 : ∀ c, 0 ≤ p c)
    (h : ∀ c, p c ≤ 448 * (2 : ℝ) ^ e) :
    (∑ c, v c * min ((448 : ℝ) : EReal) (max ((-448 : ℝ) : EReal) ((p c * (2 : ℝ) ^ (-e) : ℝ) : EReal)))
        * ((((2 : ℝ) ^ e : ℝ) : EReal) * w)
      = (∑ c, v c * (p c : EReal)) * w := by
  have hp : (0 : ℝ) ≤ (2 : ℝ) ^ e := by positivity
  rw [← mul_assoc, sum_mul_real _ _ hp]
  congr 1
  refine Finset.sum_congr rfl fun c _ => ?_
  rw [clip_eq (h0 c) (h c), mul_assoc, ← EReal.coe_mul, mul_assoc, ← zpow_add₀ (by norm_num)]
  simp

/-- The denominator's share of one block: the power of two cancels. -/
theorem denominator {ι : Type*} [Fintype ι] (p : ι → ℝ) (e : ℤ) :
    (∑ c, ((p c * (2 : ℝ) ^ (-e) : ℝ) : EReal)) * (((2 : ℝ) ^ e : ℝ) : EReal) = ∑ c, (p c : EReal) := by
  have hp : (0 : ℝ) ≤ (2 : ℝ) ^ e := by positivity
  rw [sum_mul_real _ _ hp]
  refine Finset.sum_congr rfl fun c _ => ?_
  rw [← EReal.coe_mul, mul_assoc, ← zpow_add₀ (by norm_num)]
  simp

end Cert.Quantise

end
-- ==== Proof.Value.Softmax.lean ====
module

public import proofs.«01_k».proof.Proof.Value.Quantise

/-! # One row of causal attention over the reals

A query row `s` meets 128 key blocks of 128 keys.  `t n c` is its capped score against key `c` of block `n` over the cap `50`.
Row `s` sees the keys up to its own position.  `weight` is the unnormalised softmax weight, and `attention` the weighted mean of
the values that both programs compute. -/

@[expose] public section

set_option maxRecDepth 16384

noncomputable section

namespace Cert.Softmax

open Idealize.ShloMosaic Cert.Consts

variable (t : Fin 128 → Fin 128 → ℝ) (s : ℕ)

/-- The score with the keys after the row masked. -/
def score (n c : Fin 128) : EReal := if 128 * n.val + c.val ≤ s then (t n c : EReal) else ⊥

/-- The largest score that a row sees exists. -/
theorem exists_peak : ∃ M : ℝ, (∃ n c : Fin 128, 128 * n.val + c.val ≤ s ∧ t n c = M)
    ∧ ∀ n c : Fin 128, 128 * n.val + c.val ≤ s → t n c ≤ M := by
  obtain ⟨x, hx, hm⟩ := Finset.exists_max_image (Finset.univ.filter fun x : Fin 128 × Fin 128 => 128 * x.1.val + x.2.val ≤ s)
    (fun x => t x.1 x.2) ⟨(0, 0), by simp⟩
  exact ⟨t x.1 x.2, ⟨x.1, x.2, by simpa using hx, rfl⟩, fun n c h => hm (n, c) (by simpa using h)⟩

/-- The largest score that a row sees. -/
def peak : ℝ := (exists_peak t s).choose

theorem peak_mem : ∃ n c : Fin 128, 128 * n.val + c.val ≤ s ∧ t n c = peak t s := (exists_peak t s).choose_spec.1

theorem le_peak {n c : Fin 128} (h : 128 * n.val + c.val ≤ s) : t n c ≤ peak t s := (exists_peak t s).choose_spec.2 n c h

/-- The weight of a key: `exp (50 t - 50 peak)`, and zero for a masked key. -/
def weight (n c : Fin 128) : ℝ := if 128 * n.val + c.val ≤ s then Real.exp (50 * t n c - 50 * peak t s) else 0

/-- The row's result for one column of values `v`, with one scale `w n` per block. -/
def attention (v : Fin 128 → Fin 128 → EReal) (w : Fin 128 → EReal) : EReal :=
  Ideal.div (∑ n, (∑ c, v n c * (weight t s n c : EReal)) * w n) (∑ n, ∑ c, (weight t s n c : EReal))

theorem weight_nonneg (n c : Fin 128) : 0 ≤ weight t s n c := by
  unfold weight; split <;> positivity

theorem weight_le_one (n c : Fin 128) : weight t s n c ≤ 1 := by
  unfold weight
  split
  · rename_i h
    have := le_peak t s h
    exact Real.exp_le_one_iff.mpr (by linarith)
  · norm_num

theorem weight_masked {n c : Fin 128} (h : s < 128 * n.val) : weight t s n c = 0 := by
  unfold weight; rw [if_neg (by omega)]

/-- A maximum from minus infinity is the bound that is reached. -/
theorem fold_max {ι : Type*} (u : Finset ι) (f : ι → EReal) (A : EReal) (h : ∀ i ∈ u, f i ≤ A) (h' : ∃ i ∈ u, f i = A) :
    u.fold max ⊥ f = A := by
  apply le_antisymm
  · exact (Finset.fold_max_le A).mpr ⟨bot_le, h⟩
  · obtain ⟨i, hi, e⟩ := h'
    exact Finset.le_fold_max A |>.mpr (.inr ⟨i, hi, e.ge⟩)

theorem le_max {ι : Type*} (u : Finset ι) (f : ι → EReal) {i : ι} (hi : i ∈ u) : f i ≤ u.fold max ⊥ f :=
  Finset.le_fold_max _ |>.mpr (.inr ⟨i, hi, le_rfl⟩)

/-! ## The exponentials -/

/-- The natural exponential of a masked score. -/
theorem exp_score (n c : Fin 128) :
    Ideal.exp (((50 : ℝ) : EReal) * score t s n c - ((50 : ℝ) : EReal) * (peak t s : EReal)) = (weight t s n c : EReal) := by
  unfold score weight
  split
  · rw [← EReal.coe_mul, ← EReal.coe_mul, ← EReal.coe_sub, Ideal.exp_coe]
  · rw [EReal.coe_mul_bot_of_pos (by norm_num), ← EReal.coe_mul, EReal.bot_sub]; rfl

/-- The binary exponential with the exponent `e` taken off: the weight over `2 ^ e`. -/
theorem exp2_score (n c : Fin 128) (e : ℤ) :
    Ideal.exp2 (score t s n c * ((50 * (Real.log 2)⁻¹ : ℝ) : EReal)
        - ((peak t s : EReal) * ((50 * (Real.log 2)⁻¹ : ℝ) : EReal) + ((e : ℝ) : EReal)))
      = ((weight t s n c * (2 : ℝ) ^ (-e) : ℝ) : EReal) := by
  have hl : 0 < Real.log 2 := Real.log_pos (by norm_num)
  unfold score weight
  split
  · rw [← EReal.coe_mul, ← EReal.coe_mul, ← EReal.coe_add, ← EReal.coe_sub, Ideal.exp2_coe]
    congr 1
    show (2 : ℝ) ^ (_ : ℝ) = _
    rw [← Real.rpow_intCast 2 (-e), Real.rpow_def_of_pos (by norm_num), Real.rpow_def_of_pos (by norm_num), ← Real.exp_add]
    congr 1
    push_cast
    field_simp
    ring
  · rw [EReal.bot_mul_coe_of_pos (by positivity), ← EReal.coe_mul, ← EReal.coe_add, EReal.bot_sub, zero_mul]; rfl

/-! ## The maxima -/

/-- The largest score of block `n`, minus infinity if the row sees none of it. -/
def top (n : Fin 128) : EReal := Finset.univ.fold max ⊥ fun c => score t s n c

theorem score_le_peak (n c : Fin 128) : score t s n c ≤ (peak t s : EReal) := by
  unfold score
  split
  · exact EReal.coe_le_coe_iff.mpr (le_peak t s (by assumption))
  · exact bot_le

theorem top_le_peak (n : Fin 128) : top t s n ≤ (peak t s : EReal) :=
  (Finset.fold_max_le _).mpr ⟨bot_le, fun c _ => score_le_peak t s n c⟩

/-- The largest of the blocks' maxima is the peak, if the blocks left out are masked. -/
theorem max_top (k : ℕ) (hk : s < 128 * k) :
    (Finset.univ.fold max ⊥ fun n : Fin 128 => if n.val < k then top t s n else ⊥) = (peak t s : EReal) := by
  refine fold_max _ _ _ (fun n _ => ?_) ?_
  · split
    · exact top_le_peak t s n
    · exact bot_le
  · obtain ⟨n, c, h, e⟩ := peak_mem t s
    refine ⟨n, Finset.mem_univ _, ?_⟩
    rw [if_pos (by omega)]
    refine le_antisymm (top_le_peak t s n) ?_
    refine le_trans (le_of_eq ?_) (le_max Finset.univ (fun c => score t s n c) (Finset.mem_univ c))
    unfold score; rw [if_pos h, e]

/-- The largest weight of a block, from its largest score: a real `a` in `[0, 1]` that bounds the block's weights. -/
theorem exp_top (k : ℕ) (hk : s < 128 * k) (n : Fin 128) : ∃ a : ℝ, 0 ≤ a ∧ a ≤ 1 ∧ (∀ c, weight t s n c ≤ a)
    ∧ Ideal.exp (((50 : ℝ) : EReal) * (if n.val < k then top t s n else ⊥) - ((50 : ℝ) : EReal) * (peak t s : EReal)) = (a : EReal) := by
  by_cases hs : 128 * n.val ≤ s
  · obtain ⟨c, hc, hm⟩ := Finset.exists_max_image (Finset.univ.filter fun c : Fin 128 => 128 * n.val + c.val ≤ s) (fun c => t n c)
      ⟨⟨0, by omega⟩, by simpa using hs⟩
    have hc' : 128 * n.val + c.val ≤ s := by simpa using hc
    have e : top t s n = score t s n c := by
      refine fold_max _ _ _ (fun c' _ => ?_) ⟨c, Finset.mem_univ _, rfl⟩
      unfold score
      rw [if_pos hc']
      split
      · exact EReal.coe_le_coe_iff.mpr (hm c' (by simpa using by assumption))
      · exact bot_le
    refine ⟨weight t s n c, weight_nonneg t s n c, weight_le_one t s n c, fun c' => ?_, ?_⟩
    · by_cases h' : 128 * n.val + c'.val ≤ s
      · unfold weight
        rw [if_pos h', if_pos hc']
        have := hm c' (by simpa using h')
        exact Real.exp_le_exp.mpr (by linarith)
      · refine le_trans (le_of_eq ?_) (weight_nonneg t s n c)
        unfold weight; rw [if_neg h']
    · rw [if_pos (by omega), e, exp_score]
  · refine ⟨0, le_rfl, by norm_num, fun c => (weight_masked t s (by omega)).le, ?_⟩
    have e : (if n.val < k then top t s n else ⊥) = ⊥ := by
      split
      · unfold top
        refine fold_max _ _ _ (fun c _ => ?_) ⟨⟨0, by omega⟩, Finset.mem_univ _, ?_⟩
        · unfold score; rw [if_neg (by omega)]
        · unfold score; rw [if_neg (by show ¬ (128 * n.val + 0 ≤ s); omega)]
      · rfl
    rw [e, EReal.coe_mul_bot_of_pos (by norm_num), ← EReal.coe_mul, EReal.bot_sub]; rfl

/-- The largest weight of a block, from the weights themselves. -/
theorem max_weight (n : Fin 128) : ∃ a : ℝ, 0 ≤ a ∧ (∀ c, weight t s n c ≤ a)
    ∧ (Finset.univ.fold max ⊥ fun c : Fin 128 => (weight t s n c : EReal)) = (a : EReal) := by
  obtain ⟨c, -, hm⟩ := Finset.exists_max_image (Finset.univ : Finset (Fin 128)) (fun c => weight t s n c) ⟨⟨0, by omega⟩, Finset.mem_univ _⟩
  exact ⟨weight t s n c, weight_nonneg t s n c, fun c' => hm c' (Finset.mem_univ _),
    fold_max _ _ _ (fun c' _ => EReal.coe_le_coe_iff.mpr (hm c' (Finset.mem_univ _))) ⟨c, Finset.mem_univ _, rfl⟩⟩

/-- The largest of all the masked scores, each times the cap. -/
theorem max_scaled : (Finset.univ.fold max ⊥ fun x : Fin 128 × Fin 128 => ((50 : ℝ) : EReal) * score t s x.1 x.2)
    = ((50 : ℝ) : EReal) * (peak t s : EReal) := by
  refine fold_max _ _ _ (fun x _ => mul_le_mul_of_nonneg_left (score_le_peak t s x.1 x.2) (EReal.coe_nonneg.mpr (by norm_num))) ?_
  obtain ⟨n, c, h, e⟩ := peak_mem t s
  exact ⟨(n, c), Finset.mem_univ _, by unfold score; rw [if_pos h, e]⟩

/-! ## The sums stop at the diagonal -/

/-- Blocks after the row give nothing to a sum over the blocks. -/
theorem sum_blocks (f : Fin 128 → EReal) (k : ℕ) (h : ∀ n : Fin 128, k ≤ n.val → f n = 0) :
    (∑ n : Fin 128, if n.val < k then f n else 0) = ∑ n, f n :=
  Finset.sum_congr rfl fun n _ => by
    split
    · rfl
    · exact (h n (by omega)).symm

theorem numerator_masked (v : Fin 128 → EReal) (w : EReal) {n : Fin 128} (h : s < 128 * n.val) :
    (∑ c, v c * (weight t s n c : EReal)) * w = 0 := by
  rw [Finset.sum_eq_zero, zero_mul]
  intro c _
  rw [weight_masked t s h, EReal.coe_zero, mul_zero]

theorem denominator_masked {n : Fin 128} (h : s < 128 * n.val) : ∑ c, (weight t s n c : EReal) = 0 :=
  Finset.sum_eq_zero fun c _ => by rw [weight_masked t s h, EReal.coe_zero]

end Cert.Softmax

end
-- ==== Proof.Value.Score.lean ====
module

public import proofs.«01_k».proof.Proof.Value.Softmax
public import Idealize.ShloMosaic.Lib.WordCmp

/-! # A capped score

The score of a query row against a key, from the dot product of their codes and the two scales, before the mask. -/

@[expose] public section

noncomputable section

namespace Cert.Score

open Idealize.ShloMosaic

/-- The hyperbolic tangent of anything is a real number. -/
theorem tanh_real (x : EReal) : ((Ideal.tanh x).toReal : EReal) = Ideal.tanh x := by
  induction x using EReal.rec with
  | bot => rw [Ideal.tanh_bot]; rfl
  | coe r => rfl
  | top => rw [Ideal.tanh_top]; rfl

/-- The capped score over the cap, as a real number: `tanh (d · (qs / 16) · ks / 50)` with the two constants as the programs
    hold them. -/
def capped (d qs ks : EReal) : ℝ :=
  (Ideal.tanh (d * (qs * Ideal.ofBits .f32 0x3D800000#32) * ks * Ideal.ofBits .f32 0x3CA3D70A#32)).toReal

/-- The reference's order of the factors. -/
theorem capped_eq (d qs ks : EReal) :
    Ideal.tanh (d * (qs * Ideal.ofBits .f32 0x3D800000#32) * ks * Ideal.ofBits .f32 0x3CA3D70A#32) = (capped d qs ks : EReal) :=
  (tanh_real _).symm

/-- The kernel's order of the factors: the scales are multiplied first, and their product is held at the largest finite number,
    which changes nothing where it does not exceed it. -/
theorem capped_kernel (d qs ks : EReal) (h : qs * Ideal.ofBits .f32 0x3D800000#32 * ks ≤ Ideal.ofBits .f32 0x7F7FFFFF#32) :
    Ideal.tanh (d * (min (qs * Ideal.ofBits .f32 0x3D800000#32 * ks) (Ideal.ofBits .f32 0x7F7FFFFF#32)
      * Ideal.ofBits .f32 0x3CA3D70A#32)) = (capped d qs ks : EReal) := by
  rw [min_eq_left h, ← capped_eq]
  simp only [mul_assoc]

/-- A mask of the reference: positions compared as words are positions compared as numbers. -/
theorem select_position {α : Type} (n c m q : Fin 128) (x y : α) :
    Scalar.select (IntOp.cmpi .sle (IntOp.addi (IntOp.muli (128#32) (BitVec.ofNat 32 n.val)) (BitVec.ofNat 32 c.val))
        (IntOp.addi (IntOp.muli (128#32) (BitVec.ofNat 32 m.val)) (BitVec.ofNat 32 q.val))) x y
      = if 128 * n.val + c.val ≤ 128 * m.val + q.val then x else y := by
  rw [show (128#32 : BitVec 32) = BitVec.ofNat 32 128 from rfl, WordCmp.muli_ofNat, WordCmp.muli_ofNat, WordCmp.addi_ofNat,
    WordCmp.addi_ofNat, WordCmp.cmpi_sle_ofNat (by have := n.isLt; have := c.isLt; norm_num; omega)
      (by have := m.isLt; have := q.isLt; norm_num; omega), WordCmp.select_decide]

/-- The capped score of equal arguments. -/
theorem capped_congr {d d' qs qs' ks ks' : EReal} (hd : d = d') (hq : qs = qs') (hk : ks = ks') :
    capped d qs ks = capped d' qs' ks' := by
  rw [hd, hq, hk]

end Cert.Score
-- ==== Proof.Value.Tile.lean ====
module

public import proofs.«01_k».proof.Proof.KI.Tiles
public import proofs.«01_k».proof.Proof.Value.Score

/-! # The kernel's blocks at an index

What the kernel reads for a grid point, and the blocks of scores it forms, one element at a time. -/

@[expose] public section

set_option maxRecDepth 16384

noncomputable section

namespace Cert.KernelIdeal.Body

open Idealize.ShloMosaic Idealize.ShloMosaic.Pointwise
open Cert.KernelIdeal Cert.KernelIdeal.Gen Cert.Softmax Cert.Consts

/-! ## What is read -/

theorem word_at (x : Vec Ideal S1x1x1x128 .f32) (n : Fin 128) : word (F := Ideal) x n = x (ix4 0 0 0 n) := by
  refine congrArg x (funext fun a => Fin.ext ?_)
  match a with
  | ⟨0, _⟩ => rfl
  | ⟨1, _⟩ => rfl
  | ⟨2, _⟩ => rfl
  | ⟨3, _⟩ => show n.val + _ = n.val; rfl

theorem keyBlk_at (x : Vec Ideal S1x16384x256 .fp8e4m3) (n c : Fin 128) (y : Fin 256) :
    keyBlk (F := Ideal) x n (ix3 (0 : Fin 1) c y) = x (ix3 0 ⟨128 * n.val + c.val, by omega⟩ y) := by
  refine congrArg x (funext fun a => Fin.ext ?_)
  match a with
  | ⟨0, _⟩ => rfl
  | ⟨1, _⟩ => show 128 * n.val + 1 * c.val = 128 * n.val + c.val; omega
  | ⟨2, _⟩ => show 0 + 1 * y.val = y.val; omega

theorem valueBlk_at (x : Vec Ideal S1x1x128x256x128 .fp8e4m3) (n c : Fin 128) (d : Fin 256) :
    valueBlk (F := Ideal) x n (ix5 (0 : Fin 1) (0 : Fin 1) (0 : Fin 1) d c) = x (ix5 0 0 n d c) := by
  refine congrArg x (funext fun a => Fin.ext ?_)
  match a with
  | ⟨0, _⟩ => rfl
  | ⟨1, _⟩ => rfl
  | ⟨2, _⟩ => rfl
  | ⟨3, _⟩ => show 0 + 1 * d.val = d.val; omega
  | ⟨4, _⟩ => show 0 + 1 * c.val = c.val; omega

theorem row_at (x : Vec Ideal S128x256 .f32) (n : Fin 128) (r : Fin 256) : row (F := Ideal) x n (ix2 (0 : Fin 1) r) = x (ix2 n r) := by
  refine congrArg x (funext fun a => Fin.ext ?_)
  match a with
  | ⟨0, _⟩ => rfl
  | ⟨1, _⟩ => show 0 + 1 * r.val = r.val; omega

variable (i : grid0.Coords) (qs ks vs : Vec Ideal S1x1x1x128 .f32) (q : Vec Ideal S1x256x256 .fp8e4m3)
  (k : Vec Ideal S1x16384x256 .fp8e4m3) (vt : Vec Ideal S1x1x128x256x128 .fp8e4m3) (r : Fin 256) (n c : Fin 128)

/-- The query's scale times one sixteenth: the tile's first 128 rows have the scale of block `2 j`, the others that of `2 j + 1`. -/
theorem qScale_at : qScale (F := Ideal) i qs (ix2 (0 : Fin 1) r)
    = qs (ix4 0 0 0 ⟨2 * (i 2).val + r.val / 128, by have := coord_lt i; omega⟩) * Ideal.ofBits .f32 0x3D800000#32 := by
  have hi := coord_lt i
  unfold qScale
  rw [word_at, word_at]
  pointwise [k0_pay14]
  rw [show (128#32 : BitVec 32) = BitVec.ofNat 32 128 from rfl, WordCmp.cmpi_slt_ofNat (by have := r.isLt; norm_num; omega) (by norm_num),
    WordCmp.select_decide]
  split
  · refine congrArg (fun a => qs (ix4 0 0 0 a) * _) (Fin.ext ?_)
    show 2 * (i 2).val = 2 * (i 2).val + r.val / 128
    omega
  · refine congrArg (fun a => qs (ix4 0 0 0 a) * _) (Fin.ext ?_)
    show 2 * (i 2).val + 1 = 2 * (i 2).val + r.val / 128
    omega

/-- The capped scores of row `r` of the query tile over the cap. -/
def scores (n c : Fin 128) : ℝ :=
  Score.capped (∑ x : Fin 256, q (ix3 0 r x) * k (ix3 0 ⟨128 * n.val + c.val, by omega⟩ x))
    (qs (ix4 0 0 0 ⟨2 * (i 2).val + r.val / 128, by have := coord_lt i; omega⟩)) (ks (ix4 0 0 0 n))

/-- No product of a query's scale over sixteen and a key's scale exceeds the largest finite number. -/
def InRange : Prop := ∀ a n : Fin 128, qs (ix4 0 0 0 a) * Ideal.ofBits .f32 0x3D800000#32 * ks (ix4 0 0 0 n) ≤ Ideal.ofBits .f32 0x7F7FFFFF#32

/-- An unmasked score. -/
theorem pay15_at (Q : FVec Ideal S256x256 .fp8e4m3) (S : FVec Ideal S1x256 .f32) (K : Vec Ideal S1x128x256 .fp8e4m3) (w : Elt Ideal .f32) :
    k0_pay15 (F := Ideal) Q S K w (ix2 c r)
      = Ideal.tanh ((∑ x : Fin 256, K (ix3 0 c x) * Q (ix2 r x)) * (min (S (ix2 0 r) * w) (Ideal.ofBits .f32 0x7F7FFFFF#32) * Ideal.ofBits .f32 0x3CA3D70A#32)) := by
  pointwise [k0_pay15]

/-- The same expression over the blocks read is the capped score. -/
theorem capped_at (h : InRange qs ks) :
    Ideal.tanh ((∑ x : Fin 256, keyBlk (F := Ideal) k n (ix3 (0 : Fin 1) c x) * k0_pay13 (F := Ideal) q (ix2 r x))
        * (min (qScale (F := Ideal) i qs (ix2 (0 : Fin 1) r) * word (F := Ideal) ks n) (Ideal.ofBits .f32 0x7F7FFFFF#32) * Ideal.ofBits .f32 0x3CA3D70A#32))
      = (scores i qs ks q k r n c : EReal) := by
  have hq : ∀ x, k0_pay13 (F := Ideal) q (ix2 r x) = q (ix3 0 r x) := fun x => by pointwise [k0_pay13]
  rw [qScale_at, word_at, Score.capped_kernel _ _ _ (h _ _)]
  unfold scores
  refine congrArg (fun d => ((Score.capped d _ _ : ℝ) : EReal)) (Finset.sum_congr rfl fun x _ => ?_)
  rw [keyBlk_at, hq, mul_comm]

/-! ## The masks on the diagonal -/

theorem base0 : ∀ j : Fin 64, Scalar.muli (Scalar.addi (Scalar.subi (BitVec.ofNat 32 (2 * j.val + 2)) 2#32) 0#32) 128#32
    = BitVec.ofNat 32 (256 * j.val) := by decide +kernel
theorem base1 : ∀ j : Fin 64, Scalar.muli (Scalar.addi (Scalar.subi (BitVec.ofNat 32 (2 * j.val + 2)) 2#32) 1#32) 128#32
    = BitVec.ofNat 32 (256 * j.val + 128) := by decide +kernel
theorem base2 : ∀ j : Fin 64, Scalar.muli (BitVec.ofNat 32 j.val) 256#32 = BitVec.ofNat 32 (256 * j.val) := by decide +kernel

theorem select_le {α : Type} (a b c d : ℕ) (h : a + b < 2 ^ 31) (h' : c + d < 2 ^ 31) (x y : α) :
    Scalar.select (IntOp.cmpi .sle (IntOp.addi (BitVec.ofNat 32 a) (BitVec.ofNat 32 b)) (IntOp.addi (BitVec.ofNat 32 c) (BitVec.ofNat 32 d))) x y
      = if a + b ≤ c + d then x else y := by
  rw [WordCmp.addi_ofNat, WordCmp.addi_ofNat, WordCmp.cmpi_sle_ofNat h h', WordCmp.select_decide]

/-- A score of the first block on the diagonal, masked. -/
theorem diag0_at (h : InRange qs ks) (hn : n.val = 2 * (i 2).val) :
    diag0 (F := Ideal) i qs ks q k n (ix2 c r) = score (scores i qs ks q k r) (256 * (i 2).val + r.val) n c := by
  have hi := coord_lt i
  unfold diag0
  rw [nblk_eq]
  generalize hQ : k0_pay13 (F := Ideal) q = Q
  generalize hS : qScale (F := Ideal) i qs = S
  generalize hK : keyBlk (F := Ideal) k n = K
  generalize hw : word (F := Ideal) ks n = w
  pointwise [k0_pay21]
  subst hQ hS hK hw
  rw [capped_at i qs ks q k r n c h, base0 (i 2), base2 (i 2),
    select_le _ _ _ _ (by have := c.isLt; norm_num; omega) (by have := r.isLt; norm_num; omega), negInf]
  unfold score
  rw [hn, show 128 * (2 * (i 2).val) = 256 * (i 2).val by omega]

/-- A score of the second block on the diagonal, masked. -/
theorem diag1_at (h : InRange qs ks) (hn : n.val = 2 * (i 2).val + 1) :
    diag1 (F := Ideal) i qs ks q k n (ix2 c r) = score (scores i qs ks q k r) (256 * (i 2).val + r.val) n c := by
  have hi := coord_lt i
  unfold diag1
  rw [nblk_eq]
  generalize hQ : k0_pay13 (F := Ideal) q = Q
  generalize hS : qScale (F := Ideal) i qs = S
  generalize hK : keyBlk (F := Ideal) k n = K
  generalize hw : word (F := Ideal) ks n = w
  pointwise [k0_pay24]
  subst hQ hS hK hw
  rw [capped_at i qs ks q k r n c h, base1 (i 2), base2 (i 2),
    select_le _ _ _ _ (by have := c.isLt; norm_num; omega) (by have := r.isLt; norm_num; omega), negInf]
  unfold score
  rw [hn, show 128 * (2 * (i 2).val + 1) = 256 * (i 2).val + 128 by omega]

/-! ## A block of scores and its maxima -/

theorem pay16_at (Q : FVec Ideal S256x256 .fp8e4m3) (S : FVec Ideal S1x256 .f32) (K : Vec Ideal S1x128x256 .fp8e4m3) (w : Elt Ideal .f32) :
    k0_pay16 (F := Ideal) Q S K w (ix2 c r) = k0_pay15 (F := Ideal) Q S K w (ix2 c r) := by
  unfold k0_pay16
  generalize k0_pay15 (F := Ideal) Q S K w = P
  pointwise

theorem pay17_at (Q : FVec Ideal S256x256 .fp8e4m3) (S : FVec Ideal S1x256 .f32) (K : Vec Ideal S1x128x256 .fp8e4m3) (w : Elt Ideal .f32) :
    k0_pay17 (F := Ideal) Q S K w (ix2 (0 : Fin 1) r)
      = Finset.univ.fold max (Ideal.ofBits .f32 0xFF800000#32) (fun c : Fin 128 => k0_pay15 (F := Ideal) Q S K w (ix2 c r)) := by
  unfold k0_pay17
  generalize k0_pay15 (F := Ideal) Q S K w = P
  pointwise

theorem pay22_at (P : FVec Ideal S128x256 .f32) : k0_pay22 (F := Ideal) P (ix2 c r) = P (ix2 c r) := by
  pointwise [k0_pay22]

theorem pay25_at (P : FVec Ideal S128x256 .f32) : k0_pay25 (F := Ideal) P (ix2 c r) = P (ix2 c r) := by
  pointwise [k0_pay25]

theorem pay23_at (P : FVec Ideal S128x256 .f32) : k0_pay23 (F := Ideal) P (ix2 (0 : Fin 1) r)
    = Finset.univ.fold max (Ideal.ofBits .f32 0xFF800000#32) (fun c : Fin 128 => P (ix2 c r)) := by
  pointwise [k0_pay23]

theorem pay26_at (P : FVec Ideal S128x256 .f32) : k0_pay26 (F := Ideal) P (ix2 (0 : Fin 1) r)
    = Finset.univ.fold max (Ideal.ofBits .f32 0xFF800000#32) (fun c : Fin 128 => P (ix2 c r)) := by
  pointwise [k0_pay26]

/-- Before the diagonal every key is seen. -/
theorem before_at (h : InRange qs ks) (hn : n.val < 2 * (i 2).val) :
    k0_pay15 (F := Ideal) (k0_pay13 q) (qScale i qs) (keyBlk k n) (word ks n) (ix2 c r)
      = score (scores i qs ks q k r) (256 * (i 2).val + r.val) n c := by
  rw [pay15_at, capped_at i qs ks q k r n c h]
  unfold score
  rw [if_pos (by have := c.isLt; omega)]

/-- A stored block holds the masked scores. -/
theorem tile_at (h : InRange qs ks) (hn : n.val < 2 * (i 2).val + 2) :
    tile (F := Ideal) i qs ks q k n (ix2 c r) = score (scores i qs ks q k r) (256 * (i 2).val + r.val) n c := by
  unfold tile
  split
  · rename_i h1
    rw [pay16_at]
    exact before_at i qs ks q k r n c h h1
  · split
    · rename_i h1 h2
      rw [pay22_at]
      exact diag0_at i qs ks q k r n c h h2
    · rename_i h1 h2
      rw [pay25_at]
      exact diag1_at i qs ks q k r n c h (by omega)

/-- Its column maxima are the rows' largest scores in the block. -/
theorem bmx_at (h : InRange qs ks) (hn : n.val < 2 * (i 2).val + 2) :
    bmx (F := Ideal) i qs ks q k n (ix2 (0 : Fin 1) r) = Softmax.top (scores i qs ks q k r) (256 * (i 2).val + r.val) n := by
  unfold bmx Softmax.top
  split
  · rename_i h1
    rw [pay17_at, negInf]
    exact congrArg (fun f => Finset.univ.fold max (⊥ : EReal) f) (funext fun c => before_at i qs ks q k r n c h h1)
  · split
    · rename_i h1 h2
      rw [pay23_at, negInf]
      exact congrArg (fun f => Finset.univ.fold max (⊥ : EReal) f) (funext fun c => diag0_at i qs ks q k r n c h h2)
    · rename_i h1 h2
      rw [pay26_at, negInf]
      exact congrArg (fun f => Finset.univ.fold max (⊥ : EReal) f) (funext fun c => diag1_at i qs ks q k r n c h (by omega))

end Cert.KernelIdeal.Body

end
-- ==== Proof.Value.Table.lean ====
module

public import proofs.«01_k».proof.Proof.Value.Tile

/-! # The kernel's two tables

From the largest scores of the blocks the kernel derives, for each block and query row, a power of two that the block's weights
are scaled by: `scaleTab` holds it, and `shiftTab` holds its exponent added to the row's largest score in units of `log 2`. -/

@[expose] public section

set_option maxRecDepth 16384

noncomputable section

namespace Cert.KernelIdeal.Body

open Idealize.ShloMosaic Idealize.ShloMosaic.Pointwise
open Cert.KernelIdeal Cert.KernelIdeal.Gen Cert.Softmax Cert.Consts

variable (i : grid0.Coords) (T : Vec Ideal S128x256 .f32) (n : Fin 128) (r : Fin 256)

/-- The largest score of a row among the blocks the kernel meets. -/
theorem pay28_at : k0_pay28 (F := Ideal) (nblk i) T (ix2 (0 : Fin 1) r)
    = Finset.univ.fold max (⊥ : EReal) (fun n : Fin 128 => if n.val < 2 * (i 2).val + 2 then T (ix2 n r) else ⊥) := by
  have e : ∀ n : Fin 128, k0_pay27 (F := Ideal) (nblk i) T (ix2 n r) = if n.val < 2 * (i 2).val + 2 then T (ix2 n r) else (⊥ : EReal) := fun n => by
    rw [pay27_at, ← negInf]; rfl
  unfold k0_pay28
  generalize k0_pay27 (F := Ideal) (nblk i) T = P at e
  pointwise
  rw [negInf]
  exact congrArg (fun f => Finset.univ.fold max (⊥ : EReal) f) (funext e)

/-- The largest weight of a block, over 448. -/
theorem pay29_at : k0_pay29 (F := Ideal) (nblk i) T (ix2 n r)
    = Ideal.exp (((50 : ℝ) : EReal) * (if n.val < 2 * (i 2).val + 2 then T (ix2 n r) else ⊥)
        - ((50 : ℝ) : EReal) * k0_pay28 (F := Ideal) (nblk i) T (ix2 (0 : Fin 1) r)) * (inv448 : ℝ) := by
  have e : k0_pay27 (F := Ideal) (nblk i) T (ix2 n r) = if n.val < 2 * (i 2).val + 2 then T (ix2 n r) else (⊥ : EReal) := by
    rw [pay27_at, ← negInf]; rfl
  unfold k0_pay29
  generalize k0_pay27 (F := Ideal) (nblk i) T = P at e
  generalize k0_pay28 (F := Ideal) (nblk i) T = M
  pointwise
  rw [e, cap, inv448_bits]

/-- One step of the search on a whole table. -/
def vstep (Z : FVec Ideal S128x256 .f32) (b : BitVec 32) (W : IVec S128x256 32) : IVec S128x256 32 :=
  select (cmpf .oge Z (bitcastToFloat .f32 (shli (addi W (broadcast S128x256 b)) (broadcast S128x256 23#32))))
    (addi W (broadcast S128x256 b)) W

theorem vstep_at (Z : FVec Ideal S128x256 .f32) (b : BitVec 32) (W : IVec S128x256 32) :
    vstep Z b W (ix2 n r) = Quantise.step (Z (ix2 n r)) (W (ix2 n r)) b := by
  unfold Quantise.step
  pointwise [vstep]

/-- The search on the table is the search at each element. -/
theorem field_at : fieldTab (F := Ideal) i T (ix2 n r) = Quantise.search (k0_pay29 (F := Ideal) (nblk i) T (ix2 n r)) := by
  have e : fieldTab (F := Ideal) i T = vstep (k0_pay29 (nblk i) T) 1#32 (vstep (k0_pay29 (nblk i) T) 2#32 (vstep (k0_pay29 (nblk i) T) 4#32
      (vstep (k0_pay29 (nblk i) T) 8#32 (vstep (k0_pay29 (nblk i) T) 16#32 (vstep (k0_pay29 (nblk i) T) 32#32
        (vstep (k0_pay29 (nblk i) T) 64#32 (vstep (k0_pay29 (nblk i) T) 128#32 (broadcast S128x256 0#32)))))))) := by
    unfold fieldTab k0_pay31 k0_pay30
    generalize k0_pay29 (F := Ideal) (nblk i) T = Z
    rfl
  rw [e]
  generalize k0_pay29 (F := Ideal) (nblk i) T = Z
  unfold Quantise.search
  rw [vstep_at, vstep_at, vstep_at, vstep_at, vstep_at, vstep_at, vstep_at, vstep_at]
  rfl

theorem flag_at : flagTab (F := Ideal) i T (ix2 n r) = IntOp.ori (IntOp.cmpi .eq (fieldTab (F := Ideal) i T (ix2 n r)) 0#32)
    (IntOp.cmpi .eq (fieldTab (F := Ideal) i T (ix2 n r)) 255#32) := by
  unfold flagTab fieldTab k0_pay33
  generalize k0_pay32 (F := Ideal) _ _ _ = W
  pointwise

/-- The exponents' words. -/
theorem pay35_at : k0_pay35 (fieldTab (F := Ideal) i T) (flagTab (F := Ideal) i T) k0_pay34 (ix2 n r)
    = Quantise.exponent (k0_pay29 (F := Ideal) (nblk i) T (ix2 n r)) := by
  have h1 := field_at i T n r
  have h2 := flag_at i T n r
  rw [h1] at h2
  unfold Quantise.exponent
  generalize fieldTab (F := Ideal) i T = W at h1 h2 ⊢
  generalize flagTab (F := Ideal) i T = G at h2 ⊢
  rw [← h1] at h2 ⊢
  pointwise [k0_pay35, k0_pay34]
  rw [h2]

theorem shift_at : shiftTab (F := Ideal) i T (ix2 n r) = k0_pay28 (F := Ideal) (nblk i) T (ix2 (0 : Fin 1) r) * ((50 * (Real.log 2)⁻¹ : ℝ) : EReal)
    + ((((Quantise.exponent (k0_pay29 (F := Ideal) (nblk i) T (ix2 n r))).toInt : ℤ) : ℝ) : EReal) := by
  rw [← pay35_at]
  unfold shiftTab k0_pay36
  generalize k0_pay28 (F := Ideal) (nblk i) T = M
  generalize k0_pay35 _ _ _ = W
  pointwise
  rw [cap_log2e]
  rfl

theorem scale_at : scaleTab (F := Ideal) i T (ix2 n r)
    = Ideal.ofBits .f32 (IntOp.shli .vector (IntOp.addi (Quantise.exponent (k0_pay29 (F := Ideal) (nblk i) T (ix2 n r))) 127#32) 23#32) := by
  rw [← pay35_at]
  unfold scaleTab k0_pay37
  generalize k0_pay35 _ _ _ = W
  pointwise

/-- THE TABLES over the maxima of the scores: some integer `e` is the exponent of block `n` for the row, the shift is the row's
    largest score plus `e`, the scale is `2 ^ e`, and no weight of the block exceeds `448 · 2 ^ e`. -/
theorem tables_at (t : Fin 128 → Fin 128 → ℝ) (hT : ∀ n : Fin 128, n.val < 2 * (i 2).val + 2 → T (ix2 n r) = Softmax.top t (256 * (i 2).val + r.val) n) :
    ∃ e : ℤ, shiftTab (F := Ideal) i T (ix2 n r)
        = (peak t (256 * (i 2).val + r.val) : EReal) * ((50 * (Real.log 2)⁻¹ : ℝ) : EReal) + ((e : ℝ) : EReal)
      ∧ scaleTab (F := Ideal) i T (ix2 n r) = (((2 : ℝ) ^ e : ℝ) : EReal)
      ∧ ∀ c, weight t (256 * (i 2).val + r.val) n c ≤ 448 * (2 : ℝ) ^ e := by
  have hT' : (fun n : Fin 128 => if n.val < 2 * (i 2).val + 2 then T (ix2 n r) else (⊥ : EReal))
      = fun n => if n.val < 2 * (i 2).val + 2 then Softmax.top t (256 * (i 2).val + r.val) n else ⊥ := by
    funext n
    split
    · rename_i h; exact hT n h
    · rfl
  have hk : 256 * (i 2).val + r.val < 128 * (2 * (i 2).val + 2) := by have := r.isLt; omega
  have hM : k0_pay28 (F := Ideal) (nblk i) T (ix2 (0 : Fin 1) r) = (peak t (256 * (i 2).val + r.val) : EReal) := by
    rw [pay28_at, hT', max_top t _ _ hk]
  obtain ⟨a, ha, ha1, hle, hz⟩ := exp_top t (256 * (i 2).val + r.val) _ hk n
  have hZ : k0_pay29 (F := Ideal) (nblk i) T (ix2 n r) = ((a * inv448 : ℝ) : EReal) := by
    rw [pay29_at, hM, congrFun hT' n, hz, EReal.coe_mul]
  have hlt : a * inv448 < 1 := by
    have : inv448 < 1 := by unfold inv448; norm_num
    have h0 : 0 < inv448 := by unfold inv448; norm_num
    nlinarith
  obtain ⟨e, he, hp, hb⟩ := Quantise.exponent_spec hlt
  refine ⟨e, ?_, ?_, fun c => Quantise.in_range (hle c) (weight_nonneg _ _ _ _) hb⟩
  · rw [shift_at, hM, hZ, he]
  · rw [scale_at, hZ, hp]

end Cert.KernelIdeal.Body

end
-- ==== Proof.Value.Block.lean ====
module

public import proofs.«01_k».proof.Proof.Value.Table

/-! # The block of the result that a grid point computes

The running sums over the key blocks, and their quotient. -/

@[expose] public section

set_option maxRecDepth 16384

noncomputable section

namespace Cert.KernelIdeal.Body

open Idealize.ShloMosaic Idealize.ShloMosaic.Pointwise
open Cert.KernelIdeal Cert.KernelIdeal.Gen Cert.Softmax Cert.Consts

/-- A sum over the blocks before `m + 1` is the sum before `m` and block `m`. -/
theorem sum_succ (f : Fin 128 → EReal) (m : ℕ) (h : m < 128) :
    (∑ n : Fin 128, if n.val < m + 1 then f n else 0) = (∑ n : Fin 128, if n.val < m then f n else 0) + f ⟨m, h⟩ := by
  rw [← Finset.sum_filter, ← Finset.sum_filter, show (Finset.univ.filter fun n : Fin 128 => n.val < m + 1)
    = insert ⟨m, h⟩ (Finset.univ.filter fun n : Fin 128 => n.val < m) from ?_, Finset.sum_insert (by simp), add_comm]
  ext n
  simp only [Finset.mem_filter, Finset.mem_univ, true_and, Finset.mem_insert, Fin.ext_iff]
  omega

theorem sum_zero (f : Fin 128 → EReal) : (∑ n : Fin 128, if n.val < 0 then f n else 0) = 0 :=
  Finset.sum_eq_zero fun n _ => if_neg (by omega)

variable (r c : Fin 256)

theorem pay39_at : k0_pay39 (F := Ideal) (ix2 (0 : Fin 1) r) = 0 := by
  pointwise [k0_pay39]

theorem pay38_at : k0_pay38 (F := Ideal) (ix2 c r) = 0 := by
  pointwise [k0_pay38]

theorem pay4_at (T : Vec Ideal S128x256 .f32) (b : Vec Ideal S1x256 .f32) (x : Fin 128) :
    k0_pay4 (F := Ideal) T b (ix2 x r) = Ideal.exp2 (T (ix2 x r) * ((50 * (Real.log 2)⁻¹ : ℝ) : EReal) - b (ix2 0 r)) := by
  pointwise [k0_pay4]
  rw [cap_log2e]
  rfl

theorem pay5_at (a : Vec Ideal S1x256 .f32) (T : Vec Ideal S128x256 .f32) (b l : Vec Ideal S1x256 .f32) :
    k0_pay5 (F := Ideal) a T b l (ix2 (0 : Fin 1) r)
      = l (ix2 0 r) + (∑ x : Fin 128, Ideal.exp2 (T (ix2 x r) * ((50 * (Real.log 2)⁻¹ : ℝ) : EReal) - b (ix2 0 r))) * a (ix2 0 r) := by
  pointwise [k0_pay5]
  simp only [pay4_at]

theorem pay6_at (T : Vec Ideal S128x256 .f32) (b : Vec Ideal S1x256 .f32) (v : Vec Ideal S1x1x1x256x128 .fp8e4m3) :
    k0_pay6 (F := Ideal) T b v (ix2 c r)
      = ∑ x : Fin 128, v (ix5 0 0 0 c x) * min ((448 : ℝ) : EReal) (max ((-448 : ℝ) : EReal)
          (Ideal.exp2 (T (ix2 x r) * ((50 * (Real.log 2)⁻¹ : ℝ) : EReal) - b (ix2 0 r)))) := by
  pointwise [k0_pay6]
  simp only [pay4_at, Consts.top, bottom]

theorem pay1_at (p o : Vec Ideal S256x256 .f32) (a : Vec Ideal S1x256 .f32) :
    k0_pay1 (F := Ideal) p o a (ix2 c r) = o (ix2 c r) + p (ix2 c r) * a (ix2 0 r) := by
  pointwise [k0_pay1]

theorem pay7_at (a : Vec Ideal S1x256 .f32) (w : Elt Ideal .f32) : k0_pay7 (F := Ideal) a w (ix2 (0 : Fin 1) r) = a (ix2 0 r) * w := by
  pointwise [k0_pay7]

theorem pay3_at (o : Vec Ideal S256x256 .f32) (l : Vec Ideal S1x256 .f32) : k0_pay3 (F := Ideal) o l (ix3 (0 : Fin 1) r c)
    = Ideal.div (o (ix2 c r)) (l (ix2 0 r)) := by
  pointwise [k0_pay3]

/-! ## The running sums -/

variable (i : grid0.Coords) (qs ks vs : Vec Ideal S1x1x1x128 .f32) (q : Vec Ideal S1x256x256 .fp8e4m3)
  (k : Vec Ideal S1x16384x256 .fp8e4m3) (vt : Vec Ideal S1x1x128x256x128 .fp8e4m3)

/-- The tables over the kernel's own maxima. -/
theorem tables (h : InRange qs ks) (n : Fin 128) : ∃ e : ℤ,
    row (F := Ideal) (shiftTab i (maxTab i qs ks q k)) n (ix2 (0 : Fin 1) r)
        = (peak (scores i qs ks q k r) (256 * (i 2).val + r.val) : EReal) * ((50 * (Real.log 2)⁻¹ : ℝ) : EReal) + ((e : ℝ) : EReal)
      ∧ row (F := Ideal) (scaleTab i (maxTab i qs ks q k)) n (ix2 (0 : Fin 1) r) = (((2 : ℝ) ^ e : ℝ) : EReal)
      ∧ ∀ c, weight (scores i qs ks q k r) (256 * (i 2).val + r.val) n c ≤ 448 * (2 : ℝ) ^ e := by
  rw [row_at, row_at]
  exact tables_at i _ n r _ fun n hn => bmx_at i qs ks q k r n h hn

/-- One block's share of the denominator. -/
theorem denominator_step (h : InRange qs ks) (n : Fin 128) (hn : n.val < 2 * (i 2).val + 2) (l : Vec Ideal S1x256 .f32) :
    k0_pay5 (F := Ideal) (row (scaleTab i (maxTab i qs ks q k)) n) (tile i qs ks q k n) (row (shiftTab i (maxTab i qs ks q k)) n) l (ix2 (0 : Fin 1) r)
      = l (ix2 0 r) + ∑ c, (weight (scores i qs ks q k r) (256 * (i 2).val + r.val) n c : EReal) := by
  obtain ⟨e, hs, hp, -⟩ := tables r i qs ks q k h n
  rw [pay5_at, hs, hp, ← Quantise.denominator _ e]
  refine congrArg (fun d => l (ix2 0 r) + d * _) (Finset.sum_congr rfl fun c _ => ?_)
  rw [tile_at i qs ks q k r n c h hn, exp2_score]

/-- One block's share of the numerator. -/
theorem numerator_step (h : InRange qs ks) (n : Fin 128) (hn : n.val < 2 * (i 2).val + 2) (o : Vec Ideal S256x256 .f32) :
    k0_pay1 (F := Ideal) (k0_pay6 (tile i qs ks q k n) (row (shiftTab i (maxTab i qs ks q k)) n) (valueBlk vt n)) o
        (k0_pay7 (row (scaleTab i (maxTab i qs ks q k)) n) (word vs n)) (ix2 c r)
      = o (ix2 c r) + (∑ x, vt (ix5 0 0 n c x) * (weight (scores i qs ks q k r) (256 * (i 2).val + r.val) n x : EReal)) * vs (ix4 0 0 0 n) := by
  obtain ⟨e, hs, hp, hb⟩ := tables r i qs ks q k h n
  rw [pay1_at, pay6_at, pay7_at, hs, hp, word_at, ← Quantise.numerator _ _ _ (fun x => weight_nonneg _ _ _ _) hb]
  refine congrArg (fun d => o (ix2 c r) + d * _) (Finset.sum_congr rfl fun x _ => ?_)
  rw [tile_at i qs ks q k r n x h hn, exp2_score, valueBlk_at]

/-- The denominator after `m` blocks. -/
theorem lAcc_at (h : InRange qs ks) : ∀ m : ℕ, m ≤ 2 * (i 2).val + 2 → lAcc (F := Ideal) i qs ks q k m (ix2 (0 : Fin 1) r)
    = ∑ n : Fin 128, if n.val < m then ∑ c, (weight (scores i qs ks q k r) (256 * (i 2).val + r.val) n c : EReal) else 0
  | 0, _ => by rw [sum_zero]; exact pay39_at r
  | m + 1, hm => by
    have hi := coord_lt i
    have hm' : m < 128 := by omega
    rw [sum_succ _ m hm', ← lAcc_at h m (by omega), lAcc, dif_pos hm']
    exact denominator_step r i qs ks q k h ⟨m, hm'⟩ (by show m < _; omega) _

/-- The numerator after `m` blocks. -/
theorem oAcc_at (h : InRange qs ks) : ∀ m : ℕ, m ≤ 2 * (i 2).val + 2 → oAcc (F := Ideal) i qs ks vs q k vt m (ix2 c r)
    = ∑ n : Fin 128, if n.val < m then
        (∑ x, vt (ix5 0 0 n c x) * (weight (scores i qs ks q k r) (256 * (i 2).val + r.val) n x : EReal)) * vs (ix4 0 0 0 n) else 0
  | 0, _ => by rw [sum_zero]; exact pay38_at r c
  | m + 1, hm => by
    have hi := coord_lt i
    have hm' : m < 128 := by omega
    rw [sum_succ _ m hm', ← oAcc_at h m (by omega), oAcc, dif_pos hm']
    exact numerator_step r c i qs ks vs q k vt h ⟨m, hm'⟩ (by show m < _; omega) _

/-- THE BLOCK of the result: each row's attention over all the blocks. -/
theorem outBlk_at (h : InRange qs ks) : outBlk (F := Ideal) i qs ks vs q k vt (ix3 (0 : Fin 1) r c)
    = attention (scores i qs ks q k r) (256 * (i 2).val + r.val) (fun n x => vt (ix5 0 0 n c x)) (fun n => vs (ix4 0 0 0 n)) := by
  unfold outBlk attention
  rw [pay3_at, oAcc_at r c i qs ks vs q k vt h _ le_rfl, lAcc_at r i qs ks q k h _ le_rfl, sum_blocks, sum_blocks]
  · intro n hn
    exact denominator_masked _ _ (by have := r.isLt; omega)
  · intro n hn
    exact numerator_masked _ _ (fun x => vt (ix5 0 0 n c x)) _ (by have := r.isLt; omega)

end Cert.KernelIdeal.Body

end
-- ==== Proof.Value.Result.lean ====
module

public import proofs.«01_k».proof.Proof.Value.Score
public import Idealize.ShloMosaic.Lib.Pointwise

/-! # The result, from the six argument arrays

The common meaning of the two programs: element `(b, p, r)` of the result is the attention of query row `p` in batch `b` and head
`r / 256`, for value column `r % 256`. -/

@[expose] public section

noncomputable section

namespace Cert.Result

open Idealize.ShloMosaic Cert.Softmax

/-- The capped scores over the cap of query row `p` in batch `b` and head `h`. -/
def scores (q : (⟨3, ![2, 16384, 8192]⟩ : Shape).Idx → EReal) (qs : (⟨3, ![2, 128, 32]⟩ : Shape).Idx → EReal)
    (k : (⟨3, ![2, 16384, 8192]⟩ : Shape).Idx → EReal) (ks : (⟨3, ![2, 128, 32]⟩ : Shape).Idx → EReal)
    (b : Fin 2) (p : Fin 16384) (h : Fin 32) (n c : Fin 128) : ℝ :=
  Score.capped (∑ x : Fin 256, q (ix3 b p ⟨256 * h.val + x.val, by omega⟩) * k (ix3 b ⟨128 * n.val + c.val, by omega⟩ ⟨256 * h.val + x.val, by omega⟩))
    (qs (ix3 b ⟨p.val / 128, by omega⟩ h)) (ks (ix3 b n h))

/-- The result. -/
def result (q : (⟨3, ![2, 16384, 8192]⟩ : Shape).Idx → EReal) (qs : (⟨3, ![2, 128, 32]⟩ : Shape).Idx → EReal)
    (k : (⟨3, ![2, 16384, 8192]⟩ : Shape).Idx → EReal) (ks : (⟨3, ![2, 128, 32]⟩ : Shape).Idx → EReal)
    (vt : (⟨5, ![2, 32, 128, 256, 128]⟩ : Shape).Idx → EReal) (vs : (⟨3, ![2, 128, 32]⟩ : Shape).Idx → EReal)
    (b : Fin 2) (p : Fin 16384) (h : Fin 32) (d : Fin 256) : EReal :=
  attention (scores q qs k ks b p h) p.val (fun n c => vt (ix5 b h n d c)) (fun n => vs (ix3 b n h))

/-- The attention of equal scores over equal values. -/
theorem attention_congr {s s' : Fin 128 → Fin 128 → ℝ} (t : ℕ) {v v' : Fin 128 → Fin 128 → EReal} {w w' : Fin 128 → EReal}
    (es : ∀ n c, s n c = s' n c) (ev : ∀ n c, v n c = v' n c) (ew : ∀ n, w n = w' n) : attention s t v w = attention s' t v' w' := by
  rw [funext fun n => funext (es n), funext fun n => funext (ev n), funext ew]

/-- The result at equal places. -/
theorem result_congr (q : (⟨3, ![2, 16384, 8192]⟩ : Shape).Idx → EReal) (qs : (⟨3, ![2, 128, 32]⟩ : Shape).Idx → EReal)
    (k : (⟨3, ![2, 16384, 8192]⟩ : Shape).Idx → EReal) (ks : (⟨3, ![2, 128, 32]⟩ : Shape).Idx → EReal)
    (vt : (⟨5, ![2, 32, 128, 256, 128]⟩ : Shape).Idx → EReal) (vs : (⟨3, ![2, 128, 32]⟩ : Shape).Idx → EReal)
    {b b' : Fin 2} {p p' : Fin 16384} {h h' : Fin 32} {d d' : Fin 256} (eb : b = b') (ep : p = p') (eh : h = h') (ed : d = d') :
    result q qs k ks vt vs b p h d = result q qs k ks vt vs b' p' h' d' := by
  rw [eb, ep, eh, ed]

end Cert.Result

end
-- ==== Proof.Value.KernelArray.lean ====
module

public import proofs.«01_k».proof.Proof.Value.Block
public import proofs.«01_k».proof.Proof.Value.Result
public import proofs.«01_k».proof.Proof.KI.Run
public import Idealize.ShloMosaic.Lib.Pipeline.ValueKit
public import Idealize.ShloMosaic.Lib.Pipeline.Covers

/-! # The array the kernel leaves

The grid runs over batches, heads and tiles of 256 query rows. At every point the block of the result is written whole, and
the blocks cover the array; so the array holds the result at every index. -/

@[expose] public section

set_option maxRecDepth 16384

noncomputable section

namespace Cert.KernelIdeal.Body

open Idealize.ShloMosaic Idealize.ShloMosaic.Pointwise Idealize.ShloMosaic.TcCoe
open Cert.KernelIdeal Cert.KernelIdeal.Gen Cert.Softmax

variable (m : (ℓ : Loc nD τ sig) → Buf (Elt Ideal) ℓ) (c : Dev nD) (t : Fin cfg0.N)

/-! ### Where a grid point's blocks lie -/

/-- A coordinate read as a 32-bit word is the coordinate. -/
theorem word_nat {n k : ℕ} (h : n < k) (hk : k ≤ 128) : (BitVec.ofNat 32 n).toNat = n := by
  rw [BitVec.toNat_ofNat]; exact Nat.mod_eq_of_lt (by norm_num; omega)

/-- The block index of each of the seven arrays, from the point's coordinates. -/
theorem idx :
    win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val]
    ∧ win0_4.index t = ![(grid0.coords t 0).val, 0, (grid0.coords t 1).val]
    ∧ win0_5.index t = ![(grid0.coords t 0).val, (grid0.coords t 1).val, 0, 0, 0]
    ∧ win0_6.index t = ![(grid0.coords t 0).val, (grid0.coords t 2).val, (grid0.coords t 1).val] := by
  have h0 : (BitVec.ofNat 32 (grid0.coords t 0).val).toNat = (grid0.coords t 0).val := word_nat (grid0.coords t 0).isLt (by decide)
  have h1 : (BitVec.ofNat 32 (grid0.coords t 1).val).toNat = (grid0.coords t 1).val := word_nat (grid0.coords t 1).isLt (by decide)
  have h2 : (BitVec.ofNat 32 (grid0.coords t 2).val).toNat = (grid0.coords t 2).val := word_nat (grid0.coords t 2).isLt (by decide)
  refine ⟨?_, ?_, ?_, ?_, ?_, ?_, ?_⟩
  · show cc0_transform_0 (grid0.coords t) = _
    unfold cc0_transform_0; dsimp only; rw [h0, h1]; rfl
  · show cc0_transform_1 (grid0.coords t) = _
    unfold cc0_transform_1; dsimp only; rw [h0, h1]; rfl
  · show cc0_transform_2 (grid0.coords t) = _
    unfold cc0_transform_2; dsimp only; rw [h0, h1]; rfl
  · show cc0_transform_3 (grid0.coords t) = _
    unfold cc0_transform_3; dsimp only; rw [h0, h1, h2]
  · show cc0_transform_4 (grid0.coords t) = _
    unfold cc0_transform_4; dsimp only; rw [h0, h1]; rfl
  · show cc0_transform_5 (grid0.coords t) = _
    unfold cc0_transform_5; dsimp only; rw [h0, h1]; rfl
  · show cc0_transform_6 (grid0.coords t) = _
    unfold cc0_transform_6; dsimp only; rw [h0, h1, h2]

/-! ### The input blocks, read from the argument arrays -/

/-- The scales of the queries. -/
theorem iblk0 (a : Fin 128) : iblk m c 0 t (ix4 0 0 0 a)
    = m ((c : Thread nD τ).loc main_arg1) (ix3 (grid0.coords t 0) a (grid0.coords t 1)) := by
  blk_simp [iblk, idx t]
  entry_read
  pointwise
  blk_ext [idx t]

/-- The scales of the keys. -/
theorem iblk1 (a : Fin 128) : iblk m c 1 t (ix4 0 0 0 a)
    = m ((c : Thread nD τ).loc main_arg3) (ix3 (grid0.coords t 0) a (grid0.coords t 1)) := by
  blk_simp [iblk, idx t]
  entry_read
  pointwise
  blk_ext [idx t]

/-- The scales of the values. -/
theorem iblk2 (a : Fin 128) : iblk m c 2 t (ix4 0 0 0 a)
    = m ((c : Thread nD τ).loc main_arg5) (ix3 (grid0.coords t 0) a (grid0.coords t 1)) := by
  blk_simp [iblk, idx t]
  entry_read
  pointwise
  blk_ext [idx t]

/-- The codes of the tile of queries. -/
theorem iblk3 (r x : Fin 256) : iblk m c 3 t (ix3 0 r x)
    = m ((c : Thread nD τ).loc main_arg0) (ix3 (grid0.coords t 0)
      ⟨256 * (grid0.coords t 2).val + r.val, by have := coord_lt (grid0.coords t); omega⟩
      ⟨256 * (grid0.coords t 1).val + x.val, by have : (grid0.coords t 1).val < 32 := (grid0.coords t 1).isLt; omega⟩) := by
  blk_ext [iblk, V, idx t]

/-- The codes of the keys of a head. -/
theorem iblk4 (y : Fin 16384) (x : Fin 256) : iblk m c 4 t (ix3 0 y x)
    = m ((c : Thread nD τ).loc main_arg2) (ix3 (grid0.coords t 0) y
      ⟨256 * (grid0.coords t 1).val + x.val, by have : (grid0.coords t 1).val < 32 := (grid0.coords t 1).isLt; omega⟩) := by
  blk_ext [iblk, V, idx t]

/-- The codes of the values of a head. -/
theorem iblk5 (n : Fin 128) (d : Fin 256) (x : Fin 128) : iblk m c 5 t (ix5 0 0 n d x)
    = m ((c : Thread nD τ).loc main_arg4) (ix5 (grid0.coords t 0) (grid0.coords t 1) n d x) := by
  blk_ext [iblk, V, idx t]

/-! ### The output blocks cover the result -/

/-- Every batch, head and tile is some grid point's. -/
theorem point_exists (b : Fin 2) (h : Fin 32) (j : Fin 64) : ∃ t : Fin grid0.N,
    (grid0.coords t 0).val = b.val ∧ (grid0.coords t 1).val = h.val ∧ (grid0.coords t 2).val = j.val :=
  (grid0.coords_surjective (fun a => match a with | ⟨0, _⟩ => b | ⟨1, _⟩ => h | ⟨2, _⟩ => j)).elim fun t ht =>
    ⟨t, congrArg Fin.val (congrFun ht 0), congrArg Fin.val (congrFun ht 1), congrArg Fin.val (congrFun ht 2)⟩

/-- Every block of the result is some grid point's. -/
theorem index6_surjective (β : (a : Fin 3) → Fin (win0_6.nblk a)) : ∃ t : Fin grid0.N, ∀ a, win0_6.index t a = β a :=
  (point_exists ⟨(β 0).val, (β 0).isLt⟩ ⟨(β 2).val, (β 2).isLt⟩ ⟨(β 1).val, (β 1).isLt⟩).elim fun t ht =>
    ⟨t, fun a => match a with
      | ⟨0, _⟩ => (congrFun (idx t).2.2.2.2.2.2 0).trans ht.1
      | ⟨1, _⟩ => (congrFun (idx t).2.2.2.2.2.2 1).trans ht.2.2
      | ⟨2, _⟩ => (congrFun (idx t).2.2.2.2.2.2 2).trans ht.2.1⟩

/-- The blocks cover the result. -/
theorem covers6 : (cfg0.win 6).Covers :=
  Pipeline.Window.covers_of_index_surj win0_6 rfl (by decide) index6_surjective

/-! ### The array -/

/-- What a grid point leaves at a row and column of its block is the result there, for scales in range. -/
theorem point (h : InRange (iblk m c 0 t) (iblk m c 1 t)) (r d : Fin 256) : outAt m c t (ix3 0 r d)
    = Result.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (grid0.coords t 0) ⟨256 * (grid0.coords t 2).val + r.val, by have := coord_lt (grid0.coords t); omega⟩ (grid0.coords t 1) d := by
  refine (outBlk_at r d (grid0.coords t) _ _ _ _ _ _ h).trans
    (Result.attention_congr _ (fun n x => ?_) (fun n x => iblk5 m c t n d x) (fun n => iblk2 m c t n))
  have hi := coord_lt (grid0.coords t)
  have e : (⟨2 * (grid0.coords t 2).val + r.val / 128, by omega⟩ : Fin 128)
      = ⟨(256 * (grid0.coords t 2).val + r.val) / 128, by omega⟩ := Fin.ext (by show _ + _ = _ / 128; omega)
  refine Score.capped_congr (Finset.sum_congr rfl fun y _ => congrArg₂ (· * ·) (iblk3 m c t r y) (iblk4 m c t _ y)) ?_ (iblk1 m c t n)
  exact (iblk0 m c t _).trans (by rw [e])

/-- THE ARRAY the kernel leaves is the result at every index, for scales in range. -/
theorem final (h : ∀ t, InRange (iblk m c 0 t) (iblk m c 1 t)) : (dats m 0 c).arrAt 6 cfg0.N
    = fun y => Result.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (y 0) (y 1) ⟨(y 2).val / 256, by have : (y 2).val < 8192 := (y 2).isLt; omega⟩ ⟨(y 2).val % 256, by omega⟩ := by
  refine (dats m 0 c).arrAt_eq_of_covers 6 _ covers6 fun t hf y => ?_
  blk_simp
  rw [after0_6]
  have ey : y = ix3 0 (y 1) (y 2) := by blk_ext []
  refine (congrArg (outAt m c t) ey).trans ((point m c t (h t) (y 1) (y 2)).trans ?_)
  have b1 : (y 1).val < 256 := (y 1).isLt
  have b2 : (y 2).val < 256 := (y 2).isLt
  refine Result.result_congr _ _ _ _ _ _ (Fin.ext ?_) (Fin.ext ?_) (Fin.ext ?_) (Fin.ext ?_)
  · blk_simp [idx t]
  · blk_simp [idx t]
    show 256 * (grid0.coords t 2).val + (y 1).val = _
    omega
  · blk_simp [idx t]
    show (grid0.coords t 1).val = ((grid0.coords t 1).val * 256 + (y 2).val) / 256
    omega
  · blk_simp [idx t]
    show (y 2).val = ((grid0.coords t 1).val * 256 + (y 2).val) % 256
    omega

end Cert.KernelIdeal.Body

end
-- ==== Proof.Value.Precondition.lean ====
module

public import proofs.«01_k».proof.Proof.Value.KernelArray
public import proofs.«01_k».proof.Defs
public import proofs.«01_k».proof.Proof.Gen.Pre_scales_in_range
public import Idealize.ShloMosaic.Lib.ReduceAll

/-! # The precondition, read

`scales_in_range` is one conjunction over every pair of a query block's scale and a key block's scale of one batch and head.
It is true exactly when each product is at most the largest finite value, which is what the kernel's blocks ask. -/

@[expose] public section

set_option maxRecDepth 16384

noncomputable section

namespace Cert.KernelIdeal.Body

open Idealize.ShloMosaic Idealize.ShloMosaic.Pointwise Idealize.ShloMosaic.TcCoe
open Cert.KernelIdeal Cert.KernelIdeal.Gen

/-- A true comparison is an inequality. -/
theorem le_of_cmp {x y : EReal} (e : Ideal.cmp .ole x y = 1#1) : x ≤ y := by
  unfold Ideal.cmp at e
  by_contra hn
  simp only [decide_eq_false hn] at e
  exact absurd e (by decide)

/-- The predicate is 1: every product of two scales is at most the largest finite value. -/
theorem scales_le [hp : Cert.Pre_scales_in_range.Facts] (q : FVec Ideal S2x16384x8192 .fp8e4m3) (qs : FVec Ideal S2x128x32 .f32)
    (k : FVec Ideal S2x16384x8192 .fp8e4m3) (ks : FVec Ideal S2x128x32 .f32) (vt : FVec Ideal S2x32x128x256x128 .fp8e4m3)
    (vs : FVec Ideal S2x128x32 .f32) (e : Cert.Pre_scales_in_range.fn (F := Ideal) q qs k ks vt vs = fun _ => 1#1)
    (b : Fin 2) (a n : Fin 128) (h : Fin 32) :
    qs (ix3 b a h) * Ideal.ofBits .f32 0x3D800000#32 * ks (ix3 b n h) ≤ Ideal.ofBits .f32 0x7F7FFFFF#32 := by
  have e0 := congrFun e (fun a => a.elim0)
  unfold Cert.Pre_scales_in_range.fn at e0
  haveI : Subsingleton (Cert.Pre_scales_in_range.S_).Idx := ⟨fun i j => funext fun a => a.elim0⟩
  have e1 := Host.reduce_andi_all _ _ _ _ _ e0 (ix4 b a n h)
  refine le_of_cmp (Eq.trans ?_ e1)
  pointwise

/-- Under the precondition the scales of every grid point's blocks are in range. -/
theorem inRange [hp : Cert.Pre_scales_in_range.Facts] (m : (ℓ : Loc nD τ sig) → Buf (Elt Ideal) ℓ)
    (e : Cert.Pre_KernelIdeal_scales_in_range m) (c : Dev nD) (t : Fin cfg0.N) : InRange (iblk m c 0 t) (iblk m c 1 t) := fun a n => by
  rw [iblk0, iblk1]
  exact scales_le _ _ _ _ _ _ (e c) _ a n _

/-- THE RUN of the kernel under the precondition: the result array holds the result, the arguments are unchanged. -/
theorem run_result [hp : Cert.Pre_scales_in_range.Facts] (m : (ℓ : Loc nD τ sig) → Buf (Elt Ideal) ℓ) (ρ : Dev nD → PrngReg)
    (e : Cert.Pre_KernelIdeal_scales_in_range m) :
    θ_run defs (onTc (τ := τ) (main (F := Ideal))) ⟨m, fun _ => 0, ρ⟩ (fun r => (∀ c : Dev nD,
      r.2.mem ((c.tc : Thread nD τ).loc main_v6) = fun y => Result.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (y 0) (y 1) ⟨(y 2).val / 256, by have : (y 2).val < 8192 := (y 2).isLt; omega⟩ ⟨(y 2).val % 256, by omega⟩)
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  θ_run_and ((θ_run defs _ _).mono (fun _ h c => ((h c).1 6).trans (final m c (inRange m e c))) (run_main m ρ)) (unchanged m ρ)

end Cert.KernelIdeal.Body

end
-- ==== Proof.Value.Fibers.lean ====
module

public import Idealize.ShloMosaic.Lib.Pointwise

/-! # Reductions of a rank-6 array at an index

The reference reduces arrays of rank 6 along the last axis, the last two, and the last but one. -/

@[expose] public section

noncomputable section

namespace Cert.Fibers

open Idealize.ShloMosaic

variable {n0 n1 n2 n3 n4 n5 : ℕ}

/-! ### The last two axes -/

/-- The indices that drop to `j`. -/
theorem fiber_45 (h : (⟨6, ![n0, n1, n2, n3, n4, n5]⟩ : Shape).Reduces [4, 5] ⟨4, ![n0, n1, n2, n3]⟩) (j : (⟨4, ![n0, n1, n2, n3]⟩ : Shape).Idx)
    (i : (⟨6, ![n0, n1, n2, n3, n4, n5]⟩ : Shape).Idx) : h.drop i = j ↔ ∃ k : Fin n4 × Fin n5, ix6 (j 0) (j 1) (j 2) (j 3) k.1 k.2 = i := by
  constructor
  · intro e
    refine ⟨(i 4, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl

/-- A sum over the indices that drop to `j`. -/
theorem sum_45 (h : (⟨6, ![n0, n1, n2, n3, n4, n5]⟩ : Shape).Reduces [4, 5] ⟨4, ![n0, n1, n2, n3]⟩) (j : (⟨4, ![n0, n1, n2, n3]⟩ : Shape).Idx)
    (v : (⟨6, ![n0, n1, n2, n3, n4, n5]⟩ : Shape).Idx → EReal) : Ideal.reduceAdd h v j = ∑ k0 : Fin n4, ∑ k1 : Fin n5, v (ix6 (j 0) (j 1) (j 2) (j 3) k0 k1) := by
  refine (Finset.sum_filter_eq_sum_of_fiber (fun i : (⟨6, ![n0, n1, n2, n3, n4, n5]⟩ : Shape).Idx => h.drop i = j) (fun k : Fin n4 × Fin n5 => ix6 (j 0) (j 1) (j 2) (j 3) k.1 k.2)
    (fun _ _ e => Prod.ext (congrFun e 4) (congrFun e 5)) (fiber_45 h j) v).trans ?_
  simp only [Fintype.sum_prod_type]

/-- A maximum over the indices that drop to `j`. -/
theorem fold_45 (h : (⟨6, ![n0, n1, n2, n3, n4, n5]⟩ : Shape).Reduces [4, 5] ⟨4, ![n0, n1, n2, n3]⟩) (j : (⟨4, ![n0, n1, n2, n3]⟩ : Shape).Idx)
    (b : EReal) (v : (⟨6, ![n0, n1, n2, n3, n4, n5]⟩ : Shape).Idx → EReal) :
    (Finset.univ.filter (fun i : (⟨6, ![n0, n1, n2, n3, n4, n5]⟩ : Shape).Idx => h.drop i = j)).fold max b v = (Finset.univ : Finset (Fin n4 × Fin n5)).fold max b (fun k => v (ix6 (j 0) (j 1) (j 2) (j 3) k.1 k.2)) :=
  Finset.fold_filter_eq_fold_of_fiber max (fun i : (⟨6, ![n0, n1, n2, n3, n4, n5]⟩ : Shape).Idx => h.drop i = j) (fun k : Fin n4 × Fin n5 => ix6 (j 0) (j 1) (j 2) (j 3) k.1 k.2)
    (fun _ _ e => Prod.ext (congrFun e 4) (congrFun e 5)) (fiber_45 h j) b v

/-! ### The last axis -/

/-- The indices that drop to `j`. -/
theorem fiber_5 (h : (⟨6, ![n0, n1, n2, n3, n4, n5]⟩ : Shape).Reduces [5] ⟨5, ![n0, n1, n2, n3, n4]⟩) (j : (⟨5, ![n0, n1, n2, n3, n4]⟩ : Shape).Idx)
    (i : (⟨6, ![n0, n1, n2, n3, n4, n5]⟩ : Shape).Idx) : h.drop i = j ↔ ∃ k : Fin n5, ix6 (j 0) (j 1) (j 2) (j 3) (j 4) k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A sum over the indices that drop to `j`. -/
theorem sum_5 (h : (⟨6, ![n0, n1, n2, n3, n4, n5]⟩ : Shape).Reduces [5] ⟨5, ![n0, n1, n2, n3, n4]⟩) (j : (⟨5, ![n0, n1, n2, n3, n4]⟩ : Shape).Idx)
    (v : (⟨6, ![n0, n1, n2, n3, n4, n5]⟩ : Shape).Idx → EReal) : Ideal.reduceAdd h v j = ∑ k : Fin n5, v (ix6 (j 0) (j 1) (j 2) (j 3) (j 4) k) := by
  refine (Finset.sum_filter_eq_sum_of_fiber (fun i : (⟨6, ![n0, n1, n2, n3, n4, n5]⟩ : Shape).Idx => h.drop i = j) (fun k : Fin n5 => ix6 (j 0) (j 1) (j 2) (j 3) (j 4) k)
    (fun _ _ e => congrFun e 5) (fiber_5 h j) v).trans ?_
  rfl

/-- A maximum over the indices that drop to `j`. -/
theorem fold_5 (h : (⟨6, ![n0, n1, n2, n3, n4, n5]⟩ : Shape).Reduces [5] ⟨5, ![n0, n1, n2, n3, n4]⟩) (j : (⟨5, ![n0, n1, n2, n3, n4]⟩ : Shape).Idx)
    (b : EReal) (v : (⟨6, ![n0, n1, n2, n3, n4, n5]⟩ : Shape).Idx → EReal) :
    (Finset.univ.filter (fun i : (⟨6, ![n0, n1, n2, n3, n4, n5]⟩ : Shape).Idx => h.drop i = j)).fold max b v = (Finset.univ : Finset (Fin n5)).fold max b (fun k => v (ix6 (j 0) (j 1) (j 2) (j 3) (j 4) k)) :=
  Finset.fold_filter_eq_fold_of_fiber max (fun i : (⟨6, ![n0, n1, n2, n3, n4, n5]⟩ : Shape).Idx => h.drop i = j) (fun k : Fin n5 => ix6 (j 0) (j 1) (j 2) (j 3) (j 4) k)
    (fun _ _ e => congrFun e 5) (fiber_5 h j) b v

/-! ### The last axis but one -/

/-- The indices that drop to `j`. -/
theorem fiber_4 (h : (⟨6, ![n0, n1, n2, n3, n4, n5]⟩ : Shape).Reduces [4] ⟨5, ![n0, n1, n2, n3, n5]⟩) (j : (⟨5, ![n0, n1, n2, n3, n5]⟩ : Shape).Idx)
    (i : (⟨6, ![n0, n1, n2, n3, n4, n5]⟩ : Shape).Idx) : h.drop i = j ↔ ∃ k : Fin n4, ix6 (j 0) (j 1) (j 2) (j 3) k (j 4) = i := by
  constructor
  · intro e
    refine ⟨i 4, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => exact (congrArg Fin.val (congrFun e 4)).symm
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A sum over the indices that drop to `j`. -/
theorem sum_4 (h : (⟨6, ![n0, n1, n2, n3, n4, n5]⟩ : Shape).Reduces [4] ⟨5, ![n0, n1, n2, n3, n5]⟩) (j : (⟨5, ![n0, n1, n2, n3, n5]⟩ : Shape).Idx)
    (v : (⟨6, ![n0, n1, n2, n3, n4, n5]⟩ : Shape).Idx → EReal) : Ideal.reduceAdd h v j = ∑ k : Fin n4, v (ix6 (j 0) (j 1) (j 2) (j 3) k (j 4)) := by
  refine (Finset.sum_filter_eq_sum_of_fiber (fun i : (⟨6, ![n0, n1, n2, n3, n4, n5]⟩ : Shape).Idx => h.drop i = j) (fun k : Fin n4 => ix6 (j 0) (j 1) (j 2) (j 3) k (j 4))
    (fun _ _ e => congrFun e 4) (fiber_4 h j) v).trans ?_
  rfl

/-- A maximum over the indices that drop to `j`. -/
theorem fold_4 (h : (⟨6, ![n0, n1, n2, n3, n4, n5]⟩ : Shape).Reduces [4] ⟨5, ![n0, n1, n2, n3, n5]⟩) (j : (⟨5, ![n0, n1, n2, n3, n5]⟩ : Shape).Idx)
    (b : EReal) (v : (⟨6, ![n0, n1, n2, n3, n4, n5]⟩ : Shape).Idx → EReal) :
    (Finset.univ.filter (fun i : (⟨6, ![n0, n1, n2, n3, n4, n5]⟩ : Shape).Idx => h.drop i = j)).fold max b v = (Finset.univ : Finset (Fin n4)).fold max b (fun k => v (ix6 (j 0) (j 1) (j 2) (j 3) k (j 4))) :=
  Finset.fold_filter_eq_fold_of_fiber max (fun i : (⟨6, ![n0, n1, n2, n3, n4, n5]⟩ : Shape).Idx => h.drop i = j) (fun k : Fin n4 => ix6 (j 0) (j 1) (j 2) (j 3) k (j 4))
    (fun _ _ e => congrFun e 4) (fiber_4 h j) b v

end Cert.Fibers

end
-- ==== Proof.Value.RefBody.lean ====
module

public import proofs.«01_k».proof.Proof.Value.Score
public import proofs.«01_k».proof.Proof.Value.Fibers
public import proofs.«01_k».proof.Proof.Gen.ReferenceIdeal.Value
public import Idealize.ShloMosaic.Lib.Pipeline.ValueKit.Acc

/-! # What the reference's body computes

The reference's vectors at one index: weights, their sum, the exponent of a block's scale, and the result. -/

@[expose] public section

set_option maxRecDepth 16384

noncomputable section

namespace Cert.ReferenceIdeal.Body

open Idealize.ShloMosaic Idealize.ShloMosaic.Pointwise
open Cert.ReferenceIdeal Cert.ReferenceIdeal.Gen Cert.Fibers Cert.Softmax Cert.Consts

/-! ## The exponent of a block's scale -/

/-- The exponent of the scale from the largest weight, as the reference writes it. -/
def expOf (R : FVec Ideal S2x32x128x128x128x1 .f32) : FVec Ideal S2x32x128x128x128x1 .f32 :=
  select (cmpf .oeq R (broadcast S2x32x128x128x128x1 (Scalar.ofBits .f32 0x00000000#32)))
    (broadcast S2x32x128x128x128x1 (Scalar.ofBits .f32 0x00000000#32))
    (addf (floor (divf (log (mulf R (broadcast S2x32x128x128x128x1 (Scalar.ofBits .f32 0x3B124925#32))))
      (broadcast S2x32x128x128x128x1 (Named.named Cert.ReferenceIdeal.κ "ln2" 0x3F317218#32))))
      (broadcast S2x32x128x128x128x1 (Scalar.ofBits .f32 0x3F800000#32)))

/-- The largest absolute weight of a block. -/
def peakOf (P : FVec Ideal S2x32x128x128x128x128 .f32) : FVec Ideal S2x32x128x128x128x1 .f32 :=
  shapeCast S2x32x128x128x128x1 (multiReduction .maximumf [5] S2x32x128x128x128 (absf P) 0xFF800000#32
    reduces_S2x32x128x128x128x128_S2x32x128x128x128 (.inl rfl) rfl) shapeCasts_S2x32x128x128x128_S2x32x128x128x128x1

theorem pay6_eq (X Y z) : k0_pay6 (F := Ideal) X Y z = expOf (peakOf (k0_pay4 X Y z)) := by
  unfold k0_pay6 expOf peakOf
  rfl

theorem pay7_eq (X Y z) : k0_pay7 (F := Ideal) X Y z = exp2 (k0_pay6 (F := Ideal) X Y z) := by
  unfold k0_pay7
  rfl

variable (b : Fin 2) (h : Fin 32) (m q n c : Fin 128) (d : Fin 256)

theorem peakOf_at (P : FVec Ideal S2x32x128x128x128x128 .f32) : peakOf P (ix6 b h m q n (0 : Fin 1))
    = Finset.univ.fold max (Ideal.ofBits .f32 0xFF800000#32) (fun c => FloatOps.absf (P (ix6 b h m q n c))) := by
  unfold peakOf
  pointwise [fold_5]

theorem expOf_at (R) : expOf R (ix6 b h m q n (0 : Fin 1))
    = if R (ix6 b h m q n 0) = 0 then 0 else
      Ideal.liftRound Int.floor (Ideal.div (Ideal.log (R (ix6 b h m q n 0) * Ideal.ofBits .f32 0x3B124925#32))
        (Named.named (F := Ideal) Cert.ReferenceIdeal.κ "ln2" (φ := .f32) 0x3F317218#32)) + 1 := by
  unfold expOf
  pointwise

/-- The exponent from real weights: an integer `e` such that no weight of the block exceeds `448 · 2 ^ e`. -/
theorem exponent_at (P : FVec Ideal S2x32x128x128x128x128 .f32) (t : Fin 128 → Fin 128 → ℝ) (s : ℕ)
    (hP : ∀ c, P (ix6 b h m q n c) = (weight t s n c : EReal)) :
    ∃ e : ℤ, expOf (peakOf P) (ix6 b h m q n (0 : Fin 1)) = ((e : ℝ) : EReal) ∧ ∀ c, weight t s n c ≤ 448 * (2 : ℝ) ^ e := by
  have habs : ∀ c, (FloatOps.absf (P (ix6 b h m q n c)) : EReal) = (weight t s n c : EReal) := fun c => by
    rw [Ideal.absf_def, hP]
    have := weight_nonneg t s n c
    exact max_eq_left (by rw [← EReal.coe_neg]; exact EReal.coe_le_coe_iff.mpr (by linarith))
  obtain ⟨a, ha, hle, hmax⟩ := max_weight t s n
  obtain ⟨e, he, hlt⟩ := Quantise.log_exponent ha
  refine ⟨e, ?_, fun c => Quantise.in_range (hle c) (weight_nonneg t s n c) hlt⟩
  have hR : peakOf P (ix6 b h m q n (0 : Fin 1)) = (a : EReal) := by
    refine (peakOf_at b h m q n P).trans ?_
    rw [negInf, ← hmax]
    exact congrArg (fun f => Finset.univ.fold max (⊥ : EReal) f) (funext habs)
  rw [expOf_at, hR, inv448_bits, ln2]
  exact he

/-! ## The body's vectors at an index -/

variable (X : FVec Ideal S2x32x128x128x128x128 .f32) (Y : IVec S2x32x128x128x128x128 1)
  (t : Fin 128 → Fin 128 → ℝ) (s : ℕ)

/-- The weights, from the masked scores. -/
theorem weight_at (H : ∀ n c, Scalar.select (Y (ix6 b h m q n c)) (X (ix6 b h m q n c)) (Ideal.ofBits .f32 0xFF800000#32)
      = ((50 : ℝ) : EReal) * score t s n c) :
    k0_pay4 (F := Ideal) X Y (Scalar.ofBits .f32 0xFF800000#32) (ix6 b h m q n c) = (weight t s n c : EReal) := by
  unfold k0_pay4
  pointwise [fold_45]
  rw [H, ← exp_score t s n c, ← max_scaled t s, negInf]
  refine congrArg Ideal.exp (congrArg _ (congrArg (fun f => Finset.univ.fold max (⊥ : EReal) f) (funext fun x => ?_)))
  rw [← negInf]
  exact H x.1 x.2

/-- The sum of a row's weights. -/
theorem sum_at (P : FVec Ideal S2x32x128x128x128x128 .f32) (z) (hP : k0_pay4 (F := Ideal) X Y z = P) :
    k0_pay5 (F := Ideal) X Y z (ix4 b h m q) = ∑ n : Fin 128, ∑ c : Fin 128, P (ix6 b h m q n c) := by
  unfold k0_pay5
  rw [hP]
  clear hP
  pointwise [sum_45]

/-- The weights of a block, quantised, times its values. -/
theorem product_at (v : Vec Ideal S2x32x128x128x256 .fp8e4m3) (z) (P E) (hP : k0_pay4 (F := Ideal) X Y z = P)
    (hE : k0_pay6 (F := Ideal) X Y z = E) : k0_pay8 (F := Ideal) X Y z v (ix6 b h m q n d)
      = ∑ c : Fin 128, v (ix5 b h n c d) * min (Ideal.ofBits .f32 0x43E00000#32) (max (Ideal.ofBits .f32 0xC3E00000#32)
          (P (ix6 b h m q n c) * FloatOps.exp2 (0 - E (ix6 b h m q n 0)))) := by
  unfold k0_pay8
  rw [hP, hE]
  clear hP hE
  pointwise

theorem exp2_at (E : FVec Ideal S2x32x128x128x128x1 .f32) : exp2 E (ix6 b h m q n (0 : Fin 1)) = FloatOps.exp2 (E (ix6 b h m q n 0)) := by
  pointwise

/-- The result from the sum of the weights, the scales and the products. -/
theorem result_at (p r) (l : FVec Ideal S2x32x128x128 .f32) (E : FVec Ideal S2x32x128x128x128x1 .f32) (Q : FVec Ideal S2x32x128x128x128x256 .f32)
    (w : Vec Ideal S2x32x1x1x128x1 .f32) : k0_pay1 (F := Ideal) l E Q w (ix3 b p r)
      = Ideal.div (∑ n : Fin 128, Q (ix6 b ⟨r.val / 256, by omega⟩ ⟨p.val / 128, by omega⟩ ⟨p.val % 128, by omega⟩ n ⟨r.val % 256, by omega⟩)
          * (E (ix6 b ⟨r.val / 256, by omega⟩ ⟨p.val / 128, by omega⟩ ⟨p.val % 128, by omega⟩ n 0) * w (ix6 b ⟨r.val / 256, by omega⟩ 0 0 n 0)))
          (l (ix4 b ⟨r.val / 256, by omega⟩ ⟨p.val / 128, by omega⟩ ⟨p.val % 128, by omega⟩)) := by
  unfold k0_pay1
  pointwise [sum_4]

/-! ## The result -/

variable (x0 x1 x2 : Vec Ideal S2x32x128x128x256 .fp8e4m3) (x3 : Vec Ideal S2x32x128x1x1x1 .f32) (x4 x5 : Vec Ideal S2x32x1x1x128x1 .f32)

/-- The capped scores of a query row over the cap. -/
def scores (n c : Fin 128) : ℝ :=
  Score.capped (∑ x : Fin 256, x0 (ix5 b h m q x) * x1 (ix5 b h n c x)) (x3 (ix6 b h m 0 0 0)) (x4 (ix6 b h 0 0 n 0))

/-- The masked scores that the reference's body forms. -/
theorem masked_at : Scalar.select (k0_pay3 (ix6 b h m q n c)) (k0_pay2 (F := Ideal) x0 x1 x3 x4 (ix6 b h m q n c)) (Ideal.ofBits .f32 0xFF800000#32)
    = ((50 : ℝ) : EReal) * score (scores b h m q x0 x1 x3 x4) (128 * m.val + q.val) n c := by
  pointwise [k0_pay3, k0_pay2]
  rw [Score.select_position, Score.capped_eq, cap, negInf]
  unfold score
  split
  · rfl
  · exact (EReal.coe_mul_bot_of_pos (by norm_num)).symm

/-- What the body leaves in the output, over the arrays it reads. -/
theorem out_eq : out0_6 (F := Ideal) x0 x1 x2 x3 x4 x5
    = k0_pay1 (k0_pay5 (k0_pay2 x0 x1 x3 x4) k0_pay3 (Scalar.ofBits .f32 0xFF800000#32))
        (k0_pay7 (k0_pay2 x0 x1 x3 x4) k0_pay3 (Scalar.ofBits .f32 0xFF800000#32))
        (k0_pay8 (k0_pay2 x0 x1 x3 x4) k0_pay3 (Scalar.ofBits .f32 0xFF800000#32) x2) x5 := by
  unfold_out out0_6
  frame_out

/-- A row's result from its masked scores: the attention of the row. -/
theorem attention_at (H : ∀ n c, Scalar.select (Y (ix6 b h m q n c)) (X (ix6 b h m q n c)) (Ideal.ofBits .f32 0xFF800000#32)
      = ((50 : ℝ) : EReal) * score t s n c) (p : Fin 16384) (r : Fin 8192) (hr : r.val = 256 * h.val + d.val)
    (hp : p.val = 128 * m.val + q.val) :
    k0_pay1 (F := Ideal) (k0_pay5 X Y (Scalar.ofBits .f32 0xFF800000#32)) (k0_pay7 X Y (Scalar.ofBits .f32 0xFF800000#32))
        (k0_pay8 X Y (Scalar.ofBits .f32 0xFF800000#32) x2) x5 (ix3 b p r)
      = attention t s (fun n c => x2 (ix5 b h n c d)) (fun n => x5 (ix6 b h 0 0 n 0)) := by
  have hw : ∀ n c, k0_pay4 (F := Ideal) X Y (Scalar.ofBits .f32 0xFF800000#32) (ix6 b h m q n c) = (weight t s n c : EReal) :=
    fun n c => weight_at b h m q n c X Y t s H
  have h6 := pay6_eq X Y (Scalar.ofBits .f32 0xFF800000#32)
  have h7 := pay7_eq X Y (Scalar.ofBits .f32 0xFF800000#32)
  generalize hP : k0_pay4 (F := Ideal) X Y (Scalar.ofBits .f32 0xFF800000#32) = P at hw h6
  generalize hE : k0_pay6 (F := Ideal) X Y (Scalar.ofBits .f32 0xFF800000#32) = E at h6 h7
  have h8 : ∀ n, k0_pay8 (F := Ideal) X Y (Scalar.ofBits .f32 0xFF800000#32) x2 (ix6 b h m q n d) = _ :=
    fun n => product_at b h m q n d X Y x2 _ P E hP hE
  have h5 := sum_at b h m q X Y P _ hP
  generalize k0_pay5 (F := Ideal) X Y (Scalar.ofBits .f32 0xFF800000#32) = L at h5 ⊢
  generalize k0_pay8 (F := Ideal) X Y (Scalar.ofBits .f32 0xFF800000#32) x2 = Q at h8 ⊢
  rw [h7]
  clear hP hE H h7
  refine (result_at b p r L (exp2 E) Q x5).trans ?_
  have e1 : (⟨r.val / 256, by omega⟩ : Fin 32) = h := Fin.ext (by show r.val / 256 = h.val; omega)
  have e2 : (⟨r.val % 256, by omega⟩ : Fin 256) = d := Fin.ext (by show r.val % 256 = d.val; omega)
  have e3 : (⟨p.val / 128, by omega⟩ : Fin 128) = m := Fin.ext (by show p.val / 128 = m.val; omega)
  have e4 : (⟨p.val % 128, by omega⟩ : Fin 128) = q := Fin.ext (by show p.val % 128 = q.val; omega)
  rw [e1, e2, e3, e4, h5]
  unfold attention
  refine congrArg₂ Ideal.div (Finset.sum_congr rfl fun n _ => ?_)
    (Finset.sum_congr rfl fun n _ => Finset.sum_congr rfl fun c _ => hw n c)
  obtain ⟨e, he, hle⟩ := exponent_at b h m q n P t s (hw n)
  rw [h8, exp2_at, h6, he, Consts.top, bottom]
  refine Eq.trans ?_ (Quantise.numerator (fun c => x2 (ix5 b h n c d)) (fun c => weight t s n c) (x5 (ix6 b h 0 0 n 0))
    (fun c => weight_nonneg t s n c) hle)
  have hz : FloatOps.exp2 (F := Ideal) (φ := .f32) ((0 : EReal) - ((e : ℝ) : EReal)) = (((2 : ℝ) ^ (-e) : ℝ) : EReal) := by
    show Ideal.exp2 _ = _
    rw [zero_sub, ← EReal.coe_neg, Ideal.exp2_coe]
    exact congrArg _ (by rw [← Int.cast_neg]; exact Real.rpow_intCast 2 (-e))
  have hy : FloatOps.exp2 (F := Ideal) (φ := .f32) ((e : ℝ) : EReal) = (((2 : ℝ) ^ e : ℝ) : EReal) := by
    show Ideal.exp2 _ = _
    rw [Ideal.exp2_coe]
    exact congrArg _ (Real.rpow_intCast 2 e)
  refine congrArg₂ (· * ·) (Finset.sum_congr rfl fun c _ => ?_) (congrArg (· * _) hy)
  rw [hw, EReal.coe_mul, ← hz]

/-- THE RESULT of the reference's body: the attention of each row over the blocks, from the codes and scales. -/
theorem out_at (p : Fin 16384) (r : Fin 8192) (hr : r.val = 256 * h.val + d.val)
    (hp : p.val = 128 * m.val + q.val) : out0_6 (F := Ideal) x0 x1 x2 x3 x4 x5 (ix3 b p r)
      = attention (scores b h m q x0 x1 x3 x4) (128 * m.val + q.val) (fun n c => x2 (ix5 b h n c d)) (fun n => x5 (ix6 b h 0 0 n 0)) :=
  (congrFun (out_eq x0 x1 x2 x3 x4 x5) _).trans
    (attention_at b h m q d _ _ _ _ x2 x5 (fun n c => masked_at b h m q n c x0 x1 x3 x4) p r hr hp)

end Cert.ReferenceIdeal.Body

end
-- ==== Proof.Value.ReferenceArray.lean ====
module

public import proofs.«01_k».proof.Proof.Value.RefBody
public import proofs.«01_k».proof.Proof.Value.Result
public import proofs.«01_k».proof.Proof.Gen.ReferenceIdeal.Value
public import Idealize.ShloMosaic.Lib.Pipeline.ValueKit
public import Idealize.ShloMosaic.Lib.Claim

/-! # The array the reference leaves

The reference is one call over whole arrays, which the host has cut into batch, head, block and place in the block. Read back at
the argument arrays, its result is `Result.result` at every index. -/

@[expose] public section

set_option maxRecDepth 16384

noncomputable section

namespace Cert.ReferenceIdeal.Body

open Idealize.ShloMosaic Idealize.ShloMosaic.Pointwise Idealize.ShloMosaic.TcCoe
open Cert.ReferenceIdeal Cert.ReferenceIdeal.Gen Cert.Softmax

variable (m : (ℓ : Loc nD τ sig) → Buf (Elt Ideal) ℓ) (c : Dev nD)
/-- The one point of the grid reads and writes whole arrays. -/
theorem idx : win0_0.index t0_0 = ![0, 0, 0, 0, 0] ∧ win0_1.index t0_0 = ![0, 0, 0, 0, 0] ∧ win0_2.index t0_0 = ![0, 0, 0, 0, 0]
    ∧ win0_3.index t0_0 = ![0, 0, 0, 0, 0, 0] ∧ win0_4.index t0_0 = ![0, 0, 0, 0, 0, 0] ∧ win0_5.index t0_0 = ![0, 0, 0, 0, 0, 0]
    ∧ win0_6.index t0_0 = ![0, 0, 0] := by
  decide +kernel

variable (b : Fin 2) (h : Fin 32) (n : Fin 128) (a : Fin 128) (x d : Fin 256)

/-! ### The arrays the call reads -/

/-- The codes of the queries. -/
theorem iblk0 : iblk m c 0 t0_0 (ix5 b h n a x) = m ((c : Thread nD τ).loc main_arg0)
    (ix3 b ⟨128 * n.val + a.val, by omega⟩ ⟨256 * h.val + x.val, by omega⟩) := by
  blk_simp [iblk, idx]
  entry_read
  pointwise
  blk_ext [idx]

/-- The codes of the keys. -/
theorem iblk1 : iblk m c 1 t0_0 (ix5 b h n a x) = m ((c : Thread nD τ).loc main_arg2)
    (ix3 b ⟨128 * n.val + a.val, by omega⟩ ⟨256 * h.val + x.val, by omega⟩) := by
  blk_simp [iblk, idx]
  entry_read
  pointwise
  blk_ext [idx]

/-- The codes of the values. -/
theorem iblk2 : iblk m c 2 t0_0 (ix5 b h n a d) = m ((c : Thread nD τ).loc main_arg4) (ix5 b h n d a) := by
  blk_simp [iblk, idx]
  entry_read
  pointwise
  blk_ext [idx]

/-- The scales of the queries. -/
theorem iblk3 : iblk m c 3 t0_0 (ix6 b h n 0 0 0) = m ((c : Thread nD τ).loc main_arg1) (ix3 b n h) := by
  blk_simp [iblk, idx]
  entry_read
  pointwise
  blk_ext [idx]

/-- The scales of the keys. -/
theorem iblk4 : iblk m c 4 t0_0 (ix6 b h 0 0 n 0) = m ((c : Thread nD τ).loc main_arg3) (ix3 b n h) := by
  blk_simp [iblk, idx]
  entry_read
  pointwise
  blk_ext [idx]

/-- The scales of the values. -/
theorem iblk5 : iblk m c 5 t0_0 (ix6 b h 0 0 n 0) = m ((c : Thread nD τ).loc main_arg5) (ix3 b n h) := by
  blk_simp [iblk, idx]
  entry_read
  pointwise
  blk_ext [idx]

/-! ### The array -/

/-- What the call leaves at an index is the result there. -/
theorem point (p : Fin 16384) (r : Fin 8192) :
    out0_6 (F := Ideal) (iblk m c 0 t0_0) (iblk m c 1 t0_0) (iblk m c 2 t0_0) (iblk m c 3 t0_0) (iblk m c 4 t0_0) (iblk m c 5 t0_0) (ix3 b p r)
    = Result.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        b p ⟨r.val / 256, by omega⟩ ⟨r.val % 256, by omega⟩ := by
  have ep : (128 * (p.val / 128) + p.val % 128 : ℕ) = p.val := by omega
  refine (out_at b ⟨r.val / 256, by omega⟩ ⟨p.val / 128, by omega⟩ ⟨p.val % 128, by omega⟩ ⟨r.val % 256, by omega⟩
    _ _ _ _ _ _ p r (by show _ = 256 * (_ / 256) + _ % 256; omega) (by show _ = 128 * (_ / 128) + _ % 128; omega)).trans ?_
  refine (Result.attention_congr _ (fun n x => ?_) (fun n x => iblk2 m c b _ n x _) (fun n => iblk5 m c b _ n)).trans
    (congrArg (fun q => attention (Result.scores _ _ _ _ b p _) q _ _) ep)
  refine Score.capped_congr (Finset.sum_congr rfl fun y _ => congrArg₂ (· * ·) ((iblk0 m c b _ _ _ y).trans ?_) (iblk1 m c b _ n x y))
    (iblk3 m c b _ _) (iblk4 m c b _ n)
  have e : (⟨128 * (p.val / 128) + p.val % 128, by omega⟩ : Fin 16384) = p := Fin.ext ep
  exact congrArg (fun q => m ((c : Thread nD τ).loc main_arg0) (ix3 b q ⟨256 * (r.val / 256) + y.val, by omega⟩)) e

/-- THE ARRAY the reference leaves is the result at every index. -/
theorem final : (dats m 0 c).arrAt 6 cfg0.N
    = fun y => Result.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (y 0) (y 1) ⟨(y 2).val / 256, by have : (y 2).val < 8192 := (y 2).isLt; omega⟩ ⟨(y 2).val % 256, by omega⟩ := by
  refine (dats m 0 c).arrAt_eq_of_after_last 6 t0_0 (by decide +kernel) _ fun j => ?_
  blk_simp
  rw [after0_6]
  have ej : j = ix3 (j 0) (j 1) (j 2) := by blk_ext []
  exact (congrArg (out0_6 (F := Ideal) _ _ _ _ _ _) ej).trans (point m c (j 0) (j 1) (j 2))

end Cert.ReferenceIdeal.Body

end
-- ==== Proof.Quant.Head.lean ====
module

public import proofs.«01_k».proof.Proof.Gen.QuantiseTIdeal
public import Idealize.ShloMosaic.Lib.Pipeline.ValueKit

/-! # One head of a block

The quantise kernels treat the 32 heads of a block of 128 rows alike. These are the arrays they compute for one head from its
tile of 128 rows and 256 columns: the exponent, the power of two, the codes, the codes transposed, and one step of the row of
scales. -/

@[expose] public section

set_option maxRecDepth 16384

noncomputable section

namespace Cert.Head

open Idealize.ShloMosaic Idealize.ShloMosaic.Pointwise Cert.QuantiseTIdeal Cert.QuantiseTIdeal.Gen

variable {F : FTy → Type} [FloatOps F]

/-- The tile of head `h` in a block of 128 rows. -/
def slice (B : Vec F S1x128x8192 .bf16) (h : Fin 32) : Vec F S1x128x256 .bf16 := fun i =>
  B (ix3 (0 : Fin 1) (⟨(i 1).val, (i 1).isLt⟩ : Fin 128)
    (⟨256 * h.val + (i 2).val, by have : (i 2).val < 256 := (i 2).isLt; omega⟩ : Fin 8192))

/-- The tile as a matrix of `f32`. -/
def tile (v : Vec F S1x128x256 .bf16) : FVec F S128x256 .f32 :=
  extf .f32 (shapeCast S128x256 v shapeCasts_S1x128x256_S128x256 : FVec F S128x256 .bf16) bitsLt_bf16_f32

/-- Its largest absolute value, times the constant for 1/448. -/
def amax (v : Vec F S1x128x256 .bf16) : FVec F S1x1 .f32 :=
  mulf (broadcast S1x1 (extractAt ![0, 0, 0]
      (shapeCast S1x1x1 (multiReduction .maximumf [1, 2] S1 (shapeCast S1x128x256 (absf (tile v)) shapeCasts_S128x256_S1x128x256)
        0xFF800000#32 reduces_S1x128x256_S1 (.inl rfl) rfl) shapeCasts_S1_S1x1x1) inpos_S1x1x1_p0_0_0))
    (broadcast S1x1 (Scalar.ofBits .f32 0x3B124925#32))

/-- One step of the search for the exponent field. -/
def vstep (z : FVec F S1x1 .f32) (b : BitVec 32) (w : IVec S1x1 32) : IVec S1x1 32 :=
  select (cmpf .oge z (bitcastToFloat .f32 (shli (addi w (broadcast S1x1 b)) (broadcast S1x1 23#32)))) (addi w (broadcast S1x1 b)) w

/-- The exponent field. -/
def field (z : FVec F S1x1 .f32) : IVec S1x1 32 :=
  vstep z 1#32 (vstep z 2#32 (vstep z 4#32 (vstep z 8#32 (vstep z 16#32 (vstep z 32#32 (vstep z 64#32 (vstep z 128#32
    (broadcast S1x1 0#32))))))))

/-- The exponent of a field. -/
def expo (w : IVec S1x1 32) : IVec S1x1 32 :=
  select (ori (cmpi .eq w (broadcast S1x1 0#32)) (cmpi .eq w (broadcast S1x1 255#32))) (broadcast S1x1 0#32)
    (subi w (broadcast S1x1 126#32))

/-- Two to the power of an exponent. -/
def pow (e : IVec S1x1 32) : FVec F S1x1 .f32 := bitcastToFloat .f32 (shli (addi e (broadcast S1x1 127#32)) (broadcast S1x1 23#32))

/-- The tile over its scale, clipped. -/
def clipped (v : Vec F S1x128x256 .bf16) : FVec F S128x256 .f32 :=
  minimumf (broadcast S128x256 (Scalar.ofBits .f32 0x43E00000#32)) (maximumf (broadcast S128x256 (Scalar.ofBits .f32 0xC3E00000#32))
    (mulf (tile v) (broadcastTo S128x256 (pow (subi (broadcast S1x1 0#32) (expo (field (amax v))))) broadcasts_S1x1_S128x256)))

/-- The codes. -/
def codes (v : Vec F S1x128x256 .bf16) : FVec F S1x128x256 .fp8e4m3 :=
  shapeCast S1x128x256 (truncf .fp8e4m3 (clipped v) bitsLt_fp8e4m3_f32 : FVec F S128x256 .fp8e4m3) shapeCasts_S128x256_S1x128x256

/-- The codes transposed. -/
def codesT (v : Vec F S1x128x256 .bf16) : FVec F S1x1x1x256x128 .fp8e4m3 :=
  shapeCast S1x1x1x256x128 (truncf .fp8e4m3 (transpose S256x128 [1, 0] (clipped v) transposes_S128x256_p1_0_S256x128)
    bitsLt_fp8e4m3_f32 : FVec F S256x128 .fp8e4m3) shapeCasts_S256x128_S1x1x1x256x128

/-- Head `h`'s scale put in its place of the row of scales. -/
def put (h : BitVec 32) (v : Vec F S1x128x256 .bf16) (s : FVec F S1x32 .f32) : FVec F S1x32 .f32 :=
  select (cmpi .eq (iota .tc S1x32 32 [1] iota_S1x32_d1_w32) (broadcast S1x32 h))
    (broadcastTo S1x32 (shapeCast S1x1 (pow (F := F) (expo (field (amax v)))) shapeCasts_S1x1_S1x1) broadcasts_S1x1_S1x32) s

/-- The codes a block of 128 rows is stored as. -/
def blockCodes (B : Vec F S1x128x8192 .bf16) : Vec F S1x128x8192 .fp8e4m3 := fun y =>
  codes (slice B ⟨(y 2).val / 256, by have : (y 2).val < 8192 := (y 2).isLt; omega⟩)
    (ix3 (0 : Fin 1) (⟨(y 1).val, (y 1).isLt⟩ : Fin 128) (⟨(y 2).val % 256, by omega⟩ : Fin 256))

/-- The transposed codes. -/
def blockCodesT (B : Vec F S1x128x8192 .bf16) : Vec F S1x32x1x256x128 .fp8e4m3 := fun y =>
  codesT (slice B ⟨(y 1).val, (y 1).isLt⟩)
    (ix5 (0 : Fin 1) (0 : Fin 1) (0 : Fin 1) (⟨(y 3).val, (y 3).isLt⟩ : Fin 256) (⟨(y 4).val, (y 4).isLt⟩ : Fin 128))

/-- A load of 256 columns is the tile of the head that starts there. -/
theorem ld_slice (B : Vec F S1x128x8192 .bf16) (h : Fin 32) (o : ℕ) (inb : ∀ a, (![0, 0, o] : Fin 3 → ℕ) a + S1x128x256.size a ≤ S1x128x8192.size a)
    (e : o = 256 * h.val) : View.ld B (Rect.unit (s := S1x128x8192) ![0, 0, o] S1x128x256.size inb) = slice B h := by
  funext i
  have hi0 : (i 0).val < 1 := (i 0).isLt
  refine congrArg B (funext fun a => Fin.ext ((ValueKit.rect_emb_unit_val _ _ _ _ _).trans ?_))
  match a with
  | ⟨0, _⟩ => show 0 + (i 0).val = 0; omega
  | ⟨1, _⟩ => exact Nat.zero_add _
  | ⟨2, _⟩ => show o + (i 2).val = 256 * h.val + (i 2).val; exact congrArg (· + (i 2).val) e

theorem codes_piece (B : Vec F S1x128x8192 .bf16) (h : Fin 32) (i : S1x128x256.Idx) (y : S1x128x8192.Idx)
    (e1 : (y 1).val = (i 1).val) (e2 : (y 2).val = 256 * h.val + (i 2).val) : codes (slice B h) i = blockCodes B y := by
  have hi : (i 2).val < 256 := (i 2).isLt
  have hi0 : (i 0).val < 1 := (i 0).isLt
  unfold blockCodes
  have eh : (⟨(y 2).val / 256, by have : (y 2).val < 8192 := (y 2).isLt; omega⟩ : Fin 32) = h := Fin.ext (by show (y 2).val / 256 = _; omega)
  rw [eh]
  refine congrArg (codes (slice B h)) (funext fun a => Fin.ext ?_)
  match a with
  | ⟨0, _⟩ => show (i 0).val = 0; omega
  | ⟨1, _⟩ => exact e1.symm
  | ⟨2, _⟩ => show (i 2).val = (y 2).val % 256; omega

theorem codesT_piece (B : Vec F S1x128x8192 .bf16) (h : Fin 32) (i : S1x1x1x256x128.Idx) (y : S1x32x1x256x128.Idx)
    (e1 : (y 1).val = h.val + (i 1).val) (e3 : (y 3).val = (i 3).val) (e4 : (y 4).val = (i 4).val) :
    codesT (slice B h) i = blockCodesT B y := by
  have hi0 : (i 0).val < 1 := (i 0).isLt
  have hi1 : (i 1).val < 1 := (i 1).isLt
  have hi2 : (i 2).val < 1 := (i 2).isLt
  unfold blockCodesT
  have eh : (⟨(y 1).val, (y 1).isLt⟩ : Fin 32) = h := Fin.ext (by show (y 1).val = _; omega)
  rw [eh]
  refine congrArg (codesT (slice B h)) (funext fun a => Fin.ext ?_)
  match a with
  | ⟨0, _⟩ => show (i 0).val = 0; omega
  | ⟨1, _⟩ => show (i 1).val = 0; omega
  | ⟨2, _⟩ => show (i 2).val = 0; omega
  | ⟨3, _⟩ => exact e3.symm
  | ⟨4, _⟩ => exact e4.symm

end Cert.Head

end
-- ==== Proof.Quant.QuantiseIdealTiles.lean ====
module

public import proofs.«01_k».proof.Proof.Quant.Head
public import Idealize.ShloMosaic.Lib.Pipeline.ValueKit
public import proofs.«01_k».proof.Proof.Gen.QuantiseIdeal.Frame

/-! # The heads' tiles in `QuantiseIdeal`

The 32 loads of a block read the tiles of its 32 heads. -/

@[expose] public section

set_option maxRecDepth 16384

noncomputable section

namespace Cert.QuantiseIdeal.Heads

open Idealize.ShloMosaic Idealize.ShloMosaic.Pointwise
open Cert.QuantiseIdeal Cert.QuantiseIdeal.Gen

variable {F : FTy → Type} [FloatOps F] (x0 : Vec F S1x128x8192 .bf16)

theorem tile_0 : View.ld x0 r0_0 = Head.slice x0 0 := Head.ld_slice x0 0 0 _ rfl

theorem tile_1 : View.ld x0 r0_1 = Head.slice x0 1 := Head.ld_slice x0 1 256 _ rfl

theorem tile_2 : View.ld x0 r0_2 = Head.slice x0 2 := Head.ld_slice x0 2 512 _ rfl

theorem tile_3 : View.ld x0 r0_3 = Head.slice x0 3 := Head.ld_slice x0 3 768 _ rfl

theorem tile_4 : View.ld x0 r0_4 = Head.slice x0 4 := Head.ld_slice x0 4 1024 _ rfl

theorem tile_5 : View.ld x0 r0_5 = Head.slice x0 5 := Head.ld_slice x0 5 1280 _ rfl

theorem tile_6 : View.ld x0 r0_6 = Head.slice x0 6 := Head.ld_slice x0 6 1536 _ rfl

theorem tile_7 : View.ld x0 r0_7 = Head.slice x0 7 := Head.ld_slice x0 7 1792 _ rfl

theorem tile_8 : View.ld x0 r0_8 = Head.slice x0 8 := Head.ld_slice x0 8 2048 _ rfl

theorem tile_9 : View.ld x0 r0_9 = Head.slice x0 9 := Head.ld_slice x0 9 2304 _ rfl

theorem tile_10 : View.ld x0 r0_10 = Head.slice x0 10 := Head.ld_slice x0 10 2560 _ rfl

theorem tile_11 : View.ld x0 r0_11 = Head.slice x0 11 := Head.ld_slice x0 11 2816 _ rfl

theorem tile_12 : View.ld x0 r0_12 = Head.slice x0 12 := Head.ld_slice x0 12 3072 _ rfl

theorem tile_13 : View.ld x0 r0_13 = Head.slice x0 13 := Head.ld_slice x0 13 3328 _ rfl

theorem tile_14 : View.ld x0 r0_14 = Head.slice x0 14 := Head.ld_slice x0 14 3584 _ rfl

theorem tile_15 : View.ld x0 r0_15 = Head.slice x0 15 := Head.ld_slice x0 15 3840 _ rfl

theorem tile_16 : View.ld x0 r0_16 = Head.slice x0 16 := Head.ld_slice x0 16 4096 _ rfl

theorem tile_17 : View.ld x0 r0_17 = Head.slice x0 17 := Head.ld_slice x0 17 4352 _ rfl

theorem tile_18 : View.ld x0 r0_18 = Head.slice x0 18 := Head.ld_slice x0 18 4608 _ rfl

theorem tile_19 : View.ld x0 r0_19 = Head.slice x0 19 := Head.ld_slice x0 19 4864 _ rfl

theorem tile_20 : View.ld x0 r0_20 = Head.slice x0 20 := Head.ld_slice x0 20 5120 _ rfl

theorem tile_21 : View.ld x0 r0_21 = Head.slice x0 21 := Head.ld_slice x0 21 5376 _ rfl

theorem tile_22 : View.ld x0 r0_22 = Head.slice x0 22 := Head.ld_slice x0 22 5632 _ rfl

theorem tile_23 : View.ld x0 r0_23 = Head.slice x0 23 := Head.ld_slice x0 23 5888 _ rfl

theorem tile_24 : View.ld x0 r0_24 = Head.slice x0 24 := Head.ld_slice x0 24 6144 _ rfl

theorem tile_25 : View.ld x0 r0_25 = Head.slice x0 25 := Head.ld_slice x0 25 6400 _ rfl

theorem tile_26 : View.ld x0 r0_26 = Head.slice x0 26 := Head.ld_slice x0 26 6656 _ rfl

theorem tile_27 : View.ld x0 r0_27 = Head.slice x0 27 := Head.ld_slice x0 27 6912 _ rfl

theorem tile_28 : View.ld x0 r0_28 = Head.slice x0 28 := Head.ld_slice x0 28 7168 _ rfl

theorem tile_29 : View.ld x0 r0_29 = Head.slice x0 29 := Head.ld_slice x0 29 7424 _ rfl

theorem tile_30 : View.ld x0 r0_30 = Head.slice x0 30 := Head.ld_slice x0 30 7680 _ rfl

theorem tile_31 : View.ld x0 r0_31 = Head.slice x0 31 := Head.ld_slice x0 31 7936 _ rfl

end Cert.QuantiseIdeal.Heads

end
-- ==== Proof.Quant.QuantiseIdealCodes.lean ====
module

public import proofs.«01_k».proof.Proof.Quant.Head
public import proofs.«01_k».proof.Proof.Gen.QuantiseIdeal.Frame

/-! # The codes of the 32 heads in `QuantiseIdeal`

Each of the 32 stores of codes holds its head's `Head.codes`: the printed operations are the same for every head. -/

@[expose] public section

set_option maxRecDepth 16384

noncomputable section

namespace Cert.QuantiseIdeal.Heads

open Idealize.ShloMosaic
open Cert.QuantiseIdeal Cert.QuantiseIdeal.Gen

variable {F : FTy → Type} [FloatOps F] (x0 : Vec F S1x128x8192 .bf16)

theorem codes_0 : k0_pay8 (k0_pay7 (k0_pay3 (View.ld x0 r0_0)) (k0_pay297 x0) (k0_pay298 x0) 8#32) = Head.codes (View.ld x0 r0_0) := rfl

theorem codes_1 : k0_pay18 (k0_pay10 (View.ld x0 r0_1)) (k0_pay303 x0) (k0_pay304 x0) = Head.codes (View.ld x0 r0_1) := rfl

theorem codes_2 : k0_pay27 (k0_pay20 (View.ld x0 r0_2)) (k0_pay306 x0) (k0_pay307 x0) (k0_pay308 x0) (k0_pay309 x0) = Head.codes (View.ld x0 r0_2) := rfl

theorem codes_3 : k0_pay36 (k0_pay30 (View.ld x0 r0_3)) (k0_pay35 (k0_pay310 x0) (k0_pay311 x0) (k0_pay312 x0) 23#32) = Head.codes (View.ld x0 r0_3) := rfl

theorem codes_4 : k0_pay45 (k0_pay38 (View.ld x0 r0_4)) (k0_pay313 x0) (k0_pay315 x0) (k0_pay316 x0) (k0_pay317 x0) = Head.codes (View.ld x0 r0_4) := rfl

theorem codes_5 : k0_pay54 (k0_pay53 (k0_pay48 (k0_pay318 x0)) (k0_pay319 x0) (k0_pay320 x0) (k0_pay321 x0)) = Head.codes (View.ld x0 r0_5) := rfl

theorem codes_6 : k0_pay62 (k0_pay56 (View.ld x0 r0_6)) (k0_pay322 x0) = Head.codes (View.ld x0 r0_6) := rfl

theorem codes_7 : k0_pay70 (k0_pay64 (View.ld x0 r0_7)) (k0_pay323 x0) (k0_pay324 x0) = Head.codes (View.ld x0 r0_7) := rfl

theorem codes_8 : k0_pay81 (Scalar.ofBits .f32 0x43E00000#32) (k0_pay80 (k0_pay74 (View.ld x0 r0_8)) (k0_pay325 x0) (k0_pay326 x0) (k0_pay327 x0) (k0_pay328 x0)) = Head.codes (View.ld x0 r0_8) := rfl

theorem codes_9 : k0_pay89 (k0_pay83 (View.ld x0 r0_9)) (k0_pay331 x0) (k0_pay332 x0) = Head.codes (View.ld x0 r0_9) := rfl

theorem codes_10 : k0_pay98 (k0_pay91 (View.ld x0 r0_10)) (k0_pay335 x0) (k0_pay336 x0) (k0_pay337 x0) = Head.codes (View.ld x0 r0_10) := rfl

theorem codes_11 : k0_pay109 (k0_pay102 (View.ld x0 r0_11)) (k0_pay108 (k0_pay338 x0) (k0_pay339 x0) (k0_pay340 x0) (k0_pay341 x0)) = Head.codes (View.ld x0 r0_11) := rfl

theorem codes_12 : k0_pay117 (k0_pay111 (View.ld x0 r0_12)) (k0_pay342 x0) 0#32 = Head.codes (View.ld x0 r0_12) := rfl

theorem codes_13 : k0_pay126 (k0_pay119 (View.ld x0 r0_13)) (k0_pay344 x0) (k0_pay345 x0) (k0_pay346 x0) (k0_pay347 x0) = Head.codes (View.ld x0 r0_13) := rfl

theorem codes_14 : k0_pay134 (k0_pay128 (View.ld x0 r0_14)) (k0_pay133 (k0_pay348 x0) (k0_pay349 x0) (k0_pay350 x0)) 127#32 = Head.codes (View.ld x0 r0_14) := rfl

theorem codes_15 : k0_pay144 (k0_pay136 (View.ld x0 r0_15)) (k0_pay351 x0) (k0_pay355 x0) (k0_pay356 x0) 23#32 = Head.codes (View.ld x0 r0_15) := rfl

theorem codes_16 : k0_pay151 (k0_pay150 (k0_pay146 (View.ld x0 r0_16)) (k0_pay357 x0) (k0_pay358 x0)) = Head.codes (View.ld x0 r0_16) := rfl

theorem codes_17 : k0_pay162 (k0_pay153 (View.ld x0 r0_17)) (k0_pay363 x0) (k0_pay364 x0) 0#32 = Head.codes (View.ld x0 r0_17) := rfl

theorem codes_18 : k0_pay171 (k0_pay164 (View.ld x0 r0_18)) (k0_pay365 x0) (k0_pay367 x0) (k0_pay368 x0) (k0_pay369 x0) = Head.codes (View.ld x0 r0_18) := rfl

theorem codes_19 : k0_pay181 (k0_pay180 (k0_pay175 (View.ld x0 r0_19)) (k0_pay370 x0) (k0_pay371 x0) (k0_pay372 x0)) (Scalar.ofBits .f32 0xC3E00000#32) (Scalar.ofBits .f32 0x43E00000#32) = Head.codes (View.ld x0 r0_19) := rfl

theorem codes_20 : k0_pay192 (k0_pay183 (View.ld x0 r0_20)) (k0_pay377 x0) (k0_pay378 x0) (k0_pay379 x0) = Head.codes (View.ld x0 r0_20) := rfl

theorem codes_21 : k0_pay199 (k0_pay194 (View.ld x0 r0_21)) (k0_pay381 x0) (k0_pay382 x0) 2#32 = Head.codes (View.ld x0 r0_21) := rfl

theorem codes_22 : k0_pay210 (k0_pay202 (View.ld x0 r0_22)) (k0_pay208 (k0_pay383 x0) (k0_pay384 x0) (k0_pay385 x0) (k0_pay386 x0)) k0_pay209 = Head.codes (View.ld x0 r0_22) := rfl

theorem codes_23 : k0_pay220 (k0_pay212 (View.ld x0 r0_23)) (k0_pay390 x0) (k0_pay391 x0) (k0_pay392 x0) = Head.codes (View.ld x0 r0_23) := rfl

theorem codes_24 : k0_pay229 (k0_pay228 (k0_pay222 (View.ld x0 r0_24)) (k0_pay394 x0) (k0_pay395 x0) (k0_pay396 x0) 23#32) = Head.codes (View.ld x0 r0_24) := rfl

theorem codes_25 : k0_pay236 (k0_pay231 (View.ld x0 r0_25)) (k0_pay397 x0) k0_pay235 = Head.codes (View.ld x0 r0_25) := rfl

theorem codes_26 : k0_pay246 (k0_pay238 (View.ld x0 r0_26)) (k0_pay398 x0) (k0_pay399 x0) (k0_pay400 x0) = Head.codes (View.ld x0 r0_26) := rfl

theorem codes_27 : k0_pay255 (k0_pay254 (k0_pay248 (View.ld x0 r0_27)) (k0_pay401 x0) (k0_pay402 x0) (k0_pay403 x0) (k0_pay404 x0)) = Head.codes (View.ld x0 r0_27) := rfl

theorem codes_28 : k0_pay265 (k0_pay257 (View.ld x0 r0_28)) (k0_pay408 x0) (k0_pay409 x0) (k0_pay410 x0) = Head.codes (View.ld x0 r0_28) := rfl

theorem codes_29 : k0_pay273 (k0_pay267 (View.ld x0 r0_29)) (k0_pay411 x0) (k0_pay412 x0) (k0_pay413 x0) (k0_pay414 x0) = Head.codes (View.ld x0 r0_29) := rfl

theorem codes_30 : k0_pay283 (k0_pay282 (k0_pay278 (View.ld x0 r0_30)) (k0_pay415 x0) (k0_pay416 x0) 8#32) = Head.codes (View.ld x0 r0_30) := rfl

theorem codes_31 : k0_pay293 (k0_pay285 (View.ld x0 r0_31)) (k0_pay421 x0) (k0_pay422 x0) = Head.codes (View.ld x0 r0_31) := rfl

theorem out1 : out0_1 x0 = View.canon (s := S1x128x8192) (e := .fp8e4m3) [
    ⟨r0_31, Head.codes (View.ld x0 r0_31)⟩,
    ⟨r0_30, Head.codes (View.ld x0 r0_30)⟩,
    ⟨r0_29, Head.codes (View.ld x0 r0_29)⟩,
    ⟨r0_28, Head.codes (View.ld x0 r0_28)⟩,
    ⟨r0_27, Head.codes (View.ld x0 r0_27)⟩,
    ⟨r0_26, Head.codes (View.ld x0 r0_26)⟩,
    ⟨r0_25, Head.codes (View.ld x0 r0_25)⟩,
    ⟨r0_24, Head.codes (View.ld x0 r0_24)⟩,
    ⟨r0_23, Head.codes (View.ld x0 r0_23)⟩,
    ⟨r0_22, Head.codes (View.ld x0 r0_22)⟩,
    ⟨r0_21, Head.codes (View.ld x0 r0_21)⟩,
    ⟨r0_20, Head.codes (View.ld x0 r0_20)⟩,
    ⟨r0_19, Head.codes (View.ld x0 r0_19)⟩,
    ⟨r0_18, Head.codes (View.ld x0 r0_18)⟩,
    ⟨r0_17, Head.codes (View.ld x0 r0_17)⟩,
    ⟨r0_16, Head.codes (View.ld x0 r0_16)⟩,
    ⟨r0_15, Head.codes (View.ld x0 r0_15)⟩,
    ⟨r0_14, Head.codes (View.ld x0 r0_14)⟩,
    ⟨r0_13, Head.codes (View.ld x0 r0_13)⟩,
    ⟨r0_12, Head.codes (View.ld x0 r0_12)⟩,
    ⟨r0_11, Head.codes (View.ld x0 r0_11)⟩,
    ⟨r0_10, Head.codes (View.ld x0 r0_10)⟩,
    ⟨r0_9, Head.codes (View.ld x0 r0_9)⟩,
    ⟨r0_8, Head.codes (View.ld x0 r0_8)⟩,
    ⟨r0_7, Head.codes (View.ld x0 r0_7)⟩,
    ⟨r0_6, Head.codes (View.ld x0 r0_6)⟩,
    ⟨r0_5, Head.codes (View.ld x0 r0_5)⟩,
    ⟨r0_4, Head.codes (View.ld x0 r0_4)⟩,
    ⟨r0_3, Head.codes (View.ld x0 r0_3)⟩,
    ⟨r0_2, Head.codes (View.ld x0 r0_2)⟩,
    ⟨r0_1, Head.codes (View.ld x0 r0_1)⟩,
    ⟨r0_0, Head.codes (View.ld x0 r0_0)⟩] := by
  unfold out0_1
  rw [codes_0, codes_1, codes_2, codes_3, codes_4, codes_5, codes_6, codes_7, codes_8, codes_9, codes_10, codes_11, codes_12, codes_13, codes_14, codes_15, codes_16, codes_17, codes_18, codes_19, codes_20, codes_21, codes_22, codes_23, codes_24, codes_25, codes_26, codes_27, codes_28, codes_29, codes_30, codes_31]

end Cert.QuantiseIdeal.Heads

end
-- ==== Proof.Quant.QuantiseIdealScales.lean ====
module

public import proofs.«01_k».proof.Proof.Quant.Head
public import proofs.«01_k».proof.Proof.Gen.QuantiseIdeal.Frame

/-! # The row of scales in `QuantiseIdeal`

The one store of scales holds the row in which the 32 heads' scales were put one after the other. -/

@[expose] public section

set_option maxRecDepth 16384

noncomputable section

namespace Cert.QuantiseIdeal.Heads

open Idealize.ShloMosaic
open Cert.QuantiseIdeal Cert.QuantiseIdeal.Gen

variable {F : FTy → Type} [FloatOps F] (x0 : Vec F S1x128x8192 .bf16)

theorem out2 : out0_2 x0 = View.canon (s := S1x1x1x32) (e := .f32) [⟨r0_32, shapeCast S1x1x1x32
    (Head.put 31#32 (View.ld x0 r0_31)
      (Head.put 30#32 (View.ld x0 r0_30)
      (Head.put 29#32 (View.ld x0 r0_29)
      (Head.put 28#32 (View.ld x0 r0_28)
      (Head.put 27#32 (View.ld x0 r0_27)
      (Head.put 26#32 (View.ld x0 r0_26)
      (Head.put 25#32 (View.ld x0 r0_25)
      (Head.put 24#32 (View.ld x0 r0_24)
      (Head.put 23#32 (View.ld x0 r0_23)
      (Head.put 22#32 (View.ld x0 r0_22)
      (Head.put 21#32 (View.ld x0 r0_21)
      (Head.put 20#32 (View.ld x0 r0_20)
      (Head.put 19#32 (View.ld x0 r0_19)
      (Head.put 18#32 (View.ld x0 r0_18)
      (Head.put 17#32 (View.ld x0 r0_17)
      (Head.put 16#32 (View.ld x0 r0_16)
      (Head.put 15#32 (View.ld x0 r0_15)
      (Head.put 14#32 (View.ld x0 r0_14)
      (Head.put 13#32 (View.ld x0 r0_13)
      (Head.put 12#32 (View.ld x0 r0_12)
      (Head.put 11#32 (View.ld x0 r0_11)
      (Head.put 10#32 (View.ld x0 r0_10)
      (Head.put 9#32 (View.ld x0 r0_9)
      (Head.put 8#32 (View.ld x0 r0_8)
      (Head.put 7#32 (View.ld x0 r0_7)
      (Head.put 6#32 (View.ld x0 r0_6)
      (Head.put 5#32 (View.ld x0 r0_5)
      (Head.put 4#32 (View.ld x0 r0_4)
      (Head.put 3#32 (View.ld x0 r0_3)
      (Head.put 2#32 (View.ld x0 r0_2)
      (Head.put 1#32 (View.ld x0 r0_1)
      (Head.put 0#32 (View.ld x0 r0_0)
      (broadcast S1x32 (Scalar.ofBits .f32 0x00000000#32)))))))))))))))))))))))))))))))))) shapeCasts_S1x32_S1x1x1x32⟩] := rfl

end Cert.QuantiseIdeal.Heads

end
-- ==== Proof.Quant.Exponent.lean ====
module

public import proofs.«01_k».proof.Proof.Value.Quantise

/-! # The exponent of a block, exactly

For a block whose largest value over 448 is zero, or normal and less than `2 ^ 126`, the search and the logarithm find the same
exponent `e`, and the two powers of two that the kernel builds from its word are `2 ^ e` and `2 ^ (-e)`. -/

@[expose] public section

set_option maxRecDepth 16384

noncomputable section

namespace Cert.Quantise

open Idealize.ShloMosaic Cert.Consts

/-- The scale the kernel builds from a block's largest value over 448. -/
def up (z : EReal) : EReal := Ideal.ofBits .f32 (IntOp.shli .vector (IntOp.addi (exponent z) 127#32) 23#32)

/-- The inverse of the scale. -/
def down (z : EReal) : EReal := Ideal.ofBits .f32 (IntOp.shli .vector (IntOp.addi (IntOp.subi 0#32 (exponent z)) 127#32) 23#32)

/-- The exponent the reference finds from a block's largest value. -/
def logExp (a : EReal) : EReal :=
  if a = 0 then 0 else Ideal.liftRound Int.floor (Ideal.div (Ideal.log (a * (inv448 : ℝ))) ((Real.log 2 : ℝ) : EReal)) + 1

/-- The words built from a field. -/
theorem words : ∀ n : Fin 253,
    IntOp.addi (Scalar.select (IntOp.ori (IntOp.cmpi .eq (BitVec.ofNat 32 n.val) 0#32) (IntOp.cmpi .eq (BitVec.ofNat 32 n.val) 255#32)) 0#32
      (IntOp.subi (BitVec.ofNat 32 n.val) 126#32)) 127#32 = BitVec.ofNat 32 (if n.val = 0 then 127 else n.val + 1)
    ∧ IntOp.addi (IntOp.subi 0#32 (Scalar.select (IntOp.ori (IntOp.cmpi .eq (BitVec.ofNat 32 n.val) 0#32)
      (IntOp.cmpi .eq (BitVec.ofNat 32 n.val) 255#32)) 0#32 (IntOp.subi (BitVec.ofNat 32 n.val) 126#32))) 127#32
      = BitVec.ofNat 32 (if n.val = 0 then 127 else 253 - n.val) := by
  decide +kernel

/-- The search on a value in range. -/
theorem powers {z : ℝ} (h : z < (2 : ℝ) ^ (126 : ℤ)) : ∃ n : ℕ, n < 253 ∧ (n = 0 ∨ (2 : ℝ) ^ ((n : ℤ) - 127) ≤ z) ∧ z < (2 : ℝ) ^ ((n : ℤ) - 126)
    ∧ up z = (((2 : ℝ) ^ (if n = 0 then 0 else (n : ℤ) - 126) : ℝ) : EReal)
    ∧ down z = (((2 : ℝ) ^ (-(if n = 0 then 0 else (n : ℤ) - 126)) : ℝ) : EReal) := by
  obtain ⟨n, hw, hn, lo, hi⟩ := search_found h
  have hn' : n < 253 := by
    by_contra hc
    rcases lo with lo | lo
    · omega
    · exact absurd (h.trans_le (zpow_le_zpow_right₀ (a := (2 : ℝ)) (n := (n : ℤ) - 127) (by norm_num) (by omega))) (not_lt.mpr lo)
  obtain ⟨h1, h2⟩ := words ⟨n, hn'⟩
  simp only at h1 h2
  have e1 : ((n + 1 : ℕ) : ℤ) - 127 = (n : ℤ) - 126 := by push_cast; ring
  refine ⟨n, hn', lo, by rwa [e1] at hi, ?_, ?_⟩
  · unfold up exponent
    rw [hw, h1, shli23]
    by_cases h0 : n = 0
    · rw [if_pos h0, if_pos h0, pow_bits _ (by norm_num) (by norm_num)]; norm_num
    · rw [if_neg h0, if_neg h0, pow_bits _ (by omega) (by omega), e1]
  · unfold down exponent
    rw [hw, h2, shli23]
    by_cases h0 : n = 0
    · rw [if_pos h0, if_pos h0, pow_bits _ (by norm_num) (by norm_num)]; norm_num
    · have e2 : ((253 - n : ℕ) : ℤ) - 127 = -((n : ℤ) - 126) := by omega
      rw [if_neg h0, if_neg h0, pow_bits _ (by omega) (by omega), e2]

/-- A block's largest value `a` over 448 is zero, or normal and less than `2 ^ 126`. -/
def BlockOk (a : EReal) : Prop :=
  a * (inv448 : ℝ) = 0 ∨ (((2 : ℝ) ^ (-126 : ℤ) : ℝ) : EReal) ≤ a * (inv448 : ℝ) ∧ a * (inv448 : ℝ) < (((2 : ℝ) ^ (126 : ℤ) : ℝ) : EReal)

theorem inv448_pos : 0 < inv448 := by norm_num [inv448]

/-- THE EXPONENT of a block in range: one integer, from the search and from the logarithm. -/
theorem exact_exponent {a : EReal} (h : BlockOk a) : ∃ e : ℤ, up (a * (inv448 : ℝ)) = (((2 : ℝ) ^ e : ℝ) : EReal)
    ∧ down (a * (inv448 : ℝ)) = (((2 : ℝ) ^ (-e) : ℝ) : EReal) ∧ logExp a = ((e : ℝ) : EReal) := by
  have hi := inv448_pos
  induction a with
  | bot =>
    rcases h with h | h
    · rw [EReal.bot_mul_coe_of_pos hi] at h; exact absurd h (EReal.bot_ne_zero)
    · rw [EReal.bot_mul_coe_of_pos hi] at h; exact absurd (le_bot_iff.mp h.1) (EReal.coe_ne_bot _)
  | top =>
    rcases h with h | h
    · rw [EReal.top_mul_coe_of_pos hi] at h; exact absurd h (EReal.top_ne_zero)
    · rw [EReal.top_mul_coe_of_pos hi] at h; exact absurd h.2 not_top_lt
  | coe a =>
    unfold BlockOk at h
    rw [← EReal.coe_mul] at h ⊢
    by_cases h0 : a = 0
    · subst h0
      obtain ⟨n, -, lo, -, u, d⟩ := powers (z := 0 * inv448) (by rw [zero_mul]; positivity)
      have hn : n = 0 := lo.resolve_right (by rw [zero_mul, not_le]; positivity)
      rw [if_pos hn] at u d
      exact ⟨0, u, d, by simp [logExp]⟩
    · have hz : a * inv448 ≠ 0 := mul_ne_zero h0 hi.ne'
      obtain ⟨h1, h2⟩ := h.resolve_left (by exact_mod_cast hz)
      have h1 : (2 : ℝ) ^ (-126 : ℤ) ≤ a * inv448 := by exact_mod_cast h1
      have h2 : a * inv448 < (2 : ℝ) ^ (126 : ℤ) := by exact_mod_cast h2
      have hp : 0 < a * inv448 := lt_of_lt_of_le (by positivity) h1
      obtain ⟨n, hn, lo, hlt, u, d⟩ := powers h2
      have hn0 : n ≠ 0 := by
        rintro rfl
        exact absurd (h1.trans_lt hlt) (lt_irrefl _)
      rw [if_neg hn0] at u d
      have lo := lo.resolve_left hn0
      have hl : 0 < Real.log 2 := Real.log_pos (by norm_num)
      have hf : ⌊Real.log (a * inv448) / Real.log 2⌋ = (n : ℤ) - 127 := by
        rw [Int.floor_eq_iff, le_div_iff₀ hl, div_lt_iff₀ hl]
        constructor
        · have := Real.log_le_log (by positivity) lo
          rw [Real.log_zpow] at this
          exact_mod_cast this
        · have := Real.log_lt_log hp hlt
          rw [Real.log_zpow] at this
          have e : (((n : ℤ) - 127 : ℤ) : ℝ) + 1 = (((n : ℤ) - 126 : ℤ) : ℝ) := by push_cast; ring
          rw [e]; exact this
      refine ⟨(n : ℤ) - 126, u, d, ?_⟩
      unfold logExp
      rw [if_neg (by exact_mod_cast h0), ← EReal.coe_mul, Ideal.log_coe, if_neg (not_le.mpr hp), Ideal.div_coe hl.ne',
        ← EReal.coe_mul, Ideal.liftRound_coe, mul_one_div, hf, ← EReal.coe_one, ← EReal.coe_add]
      exact congrArg Real.toEReal (by push_cast; ring)

/-- Two to an integer power, written with the exponential. -/
theorem exp_log2 (e : ℤ) : Ideal.exp (((Real.log 2 : ℝ) : EReal) * ((e : ℝ) : EReal)) = (((2 : ℝ) ^ e : ℝ) : EReal) := by
  rw [← EReal.coe_mul, Ideal.exp_coe, mul_comm, ← Real.log_zpow, Real.exp_log (by positivity)]

/-- The reference's scale is the kernel's. -/
theorem scale_eq {a : EReal} (h : BlockOk a) : Ideal.exp (((Real.log 2 : ℝ) : EReal) * logExp a) = up (a * (inv448 : ℝ)) := by
  obtain ⟨e, u, -, l⟩ := exact_exponent h
  rw [l, u, exp_log2]

/-- The reference's inverse scale is the kernel's. -/
theorem inverse_eq {a : EReal} (h : BlockOk a) : Ideal.exp (((Real.log 2 : ℝ) : EReal) * -logExp a) = down (a * (inv448 : ℝ)) := by
  obtain ⟨e, -, d, l⟩ := exact_exponent h
  rw [l, d, ← exp_log2]
  push_cast
  rfl

end Cert.Quantise

end
-- ==== Proof.Quant.HeadAt.lean ====
module

public import proofs.«01_k».proof.Proof.Quant.Head
public import proofs.«01_k».proof.Proof.Quant.Exponent
public import Idealize.ShloMosaic.Lib.Pipeline.ValueKit

/-! # One head of a block, element by element -/

@[expose] public section

set_option maxRecDepth 16384

noncomputable section

namespace Cert.Head

open Idealize.ShloMosaic Idealize.ShloMosaic.Pointwise Cert.QuantiseTIdeal Cert.QuantiseTIdeal.Gen Cert.Consts

variable (v : Vec Ideal S1x128x256 .bf16) (r : Fin 128) (c : Fin 256)

/-- The largest absolute value of a tile. -/
def peak : EReal := Finset.univ.fold max (⊥ : EReal) (fun x : Fin 128 × Fin 256 => FloatOps.absf (F := Ideal) (φ := .f32) (v (ix3 (0 : Fin 1) x.1 x.2)))

theorem amax_at : amax v (ix2 (0 : Fin 1) (0 : Fin 1)) = peak v * (inv448 : ℝ) := by
  pointwise [amax, tile]
  rw [negInf, inv448_bits]
  rfl

theorem vstep_at (z : FVec Ideal S1x1 .f32) (b : BitVec 32) (w : IVec S1x1 32) : vstep z b w (ix2 (0 : Fin 1) (0 : Fin 1))
    = Quantise.step (z (ix2 (0 : Fin 1) (0 : Fin 1))) (w (ix2 (0 : Fin 1) (0 : Fin 1))) b := by
  unfold Quantise.step
  pointwise [vstep]

theorem field_at (z : FVec Ideal S1x1 .f32) : field z (ix2 (0 : Fin 1) (0 : Fin 1)) = Quantise.search (z (ix2 (0 : Fin 1) (0 : Fin 1))) := by
  unfold field Quantise.search
  rw [vstep_at, vstep_at, vstep_at, vstep_at, vstep_at, vstep_at, vstep_at, vstep_at]
  rfl

theorem expo_at (z : FVec Ideal S1x1 .f32) : expo (field z) (ix2 (0 : Fin 1) (0 : Fin 1)) = Quantise.exponent (z (ix2 (0 : Fin 1) (0 : Fin 1))) := by
  have h := field_at z
  unfold Quantise.exponent
  generalize field z = w at h ⊢
  rw [← h]
  pointwise [expo]

theorem clipped_at : clipped v (ix2 r c) = min (Ideal.ofBits .f32 0x43E00000#32) (max (Ideal.ofBits .f32 0xC3E00000#32)
    (v (ix3 (0 : Fin 1) r c) * Quantise.down (amax v (ix2 (0 : Fin 1) (0 : Fin 1))))) := by
  have h := expo_at (amax v)
  unfold Quantise.down clipped
  rw [← h]
  generalize expo (field (amax v)) = w
  pointwise [tile, pow]

theorem codes_at : codes v (ix3 (0 : Fin 1) r c) = clipped v (ix2 r c) := by
  unfold codes
  generalize clipped v = w
  pointwise

theorem codesT_at : codesT v (ix5 (0 : Fin 1) (0 : Fin 1) (0 : Fin 1) c r) = clipped v (ix2 r c) := by
  unfold codesT
  generalize clipped v = w
  pointwise

theorem put_at (h : ℕ) (hh : h < 32) (s : FVec Ideal S1x32 .f32) (k : Fin 32) : put (BitVec.ofNat 32 h) v s (ix2 (0 : Fin 1) k)
    = if k.val = h then Quantise.up (amax v (ix2 (0 : Fin 1) (0 : Fin 1))) else s (ix2 (0 : Fin 1) k) := by
  have e := expo_at (amax v)
  unfold Quantise.up put
  rw [← e]
  generalize expo (field (amax v)) = w
  pointwise [pow]
  rw [WordCmp.cmpi_eq_ofNat (by have := k.isLt; omega) (by omega)]
  unfold Scalar.select
  by_cases hk : k.val = h
  · simp [hk]
  · simp [hk]

/-! ## The row of scales -/

/-- The row of scales after the first `n` heads. -/
def row (B : Vec Ideal S1x128x8192 .bf16) : ℕ → FVec Ideal S1x32 .f32
  | 0 => broadcast S1x32 (Scalar.ofBits .f32 0x00000000#32)
  | n + 1 => put (BitVec.ofNat 32 n) (slice B (Fin.ofNat 32 n)) (row B n)

/-- The scales a block of 128 rows is stored with. -/
def blockScales (B : Vec Ideal S1x128x8192 .bf16) : Vec Ideal S1x1x1x32 .f32 := fun y =>
  Quantise.up (peak (slice B ⟨(y 3).val, (y 3).isLt⟩) * (inv448 : ℝ))

theorem row_at (B : Vec Ideal S1x128x8192 .bf16) (n : ℕ) (hn : n ≤ 32) (k : Fin 32) (hk : k.val < n) :
    row B n (ix2 (0 : Fin 1) k) = Quantise.up (peak (slice B k) * (inv448 : ℝ)) := by
  induction n with
  | zero => omega
  | succ n ih =>
    show put (BitVec.ofNat 32 n) (slice B (Fin.ofNat 32 n)) (row B n) (ix2 (0 : Fin 1) k) = _
    rw [put_at _ n (by omega)]
    by_cases e : k.val = n
    · have ek : Fin.ofNat 32 n = k := Fin.ext (by show n % 32 = k.val; omega)
      rw [if_pos e, amax_at, ek]
    · rw [if_neg e]
      exact ih (by omega) (by omega)

theorem row_cast_at (w : FVec Ideal S1x32 .f32) (h : S1x32.ShapeCasts S1x1x1x32) (k : Fin 32) :
    (shapeCast S1x1x1x32 w h : FVec Ideal S1x1x1x32 .f32) (ix4 (0 : Fin 1) (0 : Fin 1) (0 : Fin 1) k) = w (ix2 (0 : Fin 1) k) := by
  pointwise

theorem scales_piece (B : Vec Ideal S1x128x8192 .bf16) (h : S1x32.ShapeCasts S1x1x1x32) (i y : S1x1x1x32.Idx)
    (e : (y 3).val = (i 3).val) : (shapeCast S1x1x1x32 (row B 32) h : FVec Ideal S1x1x1x32 .f32) i = blockScales B y := by
  have hi0 : (i 0).val < 1 := (i 0).isLt
  have hi1 : (i 1).val < 1 := (i 1).isLt
  have hi2 : (i 2).val < 1 := (i 2).isLt
  have ei : i = ix4 (0 : Fin 1) (0 : Fin 1) (0 : Fin 1) (⟨(y 3).val, (y 3).isLt⟩ : Fin 32) := funext fun a => Fin.ext <|
    match a with
    | ⟨0, _⟩ => (by show (i 0).val = 0; omega)
    | ⟨1, _⟩ => (by show (i 1).val = 0; omega)
    | ⟨2, _⟩ => (by show (i 2).val = 0; omega)
    | ⟨3, _⟩ => e.symm
  rw [ei, row_cast_at]
  exact row_at B 32 le_rfl ⟨(y 3).val, (y 3).isLt⟩ (y 3).isLt

/-! ## The codes of a block -/

/-- The code of an element of head `h` of a block. -/
theorem blockCodes_at (B : Vec Ideal S1x128x8192 .bf16) (y : S1x128x8192.Idx) (h : Fin 32) (c : Fin 256)
    (e : (y 2).val = 256 * h.val + c.val) : blockCodes B y = min (Ideal.ofBits .f32 0x43E00000#32) (max (Ideal.ofBits .f32 0xC3E00000#32)
      (B y * Quantise.down (peak (slice B h) * (inv448 : ℝ)))) := by
  have hy0 : (y 0).val < 1 := (y 0).isLt
  rw [← codes_piece B h (ix3 (0 : Fin 1) (⟨(y 1).val, (y 1).isLt⟩ : Fin 128) c) y rfl e, codes_at, clipped_at, amax_at]
  have ey : slice B h (ix3 (0 : Fin 1) (⟨(y 1).val, (y 1).isLt⟩ : Fin 128) c) = B y := congrArg B (funext fun a => Fin.ext <|
    match a with
    | ⟨0, _⟩ => (by show 0 = (y 0).val; omega)
    | ⟨1, _⟩ => rfl
    | ⟨2, _⟩ => e.symm)
  rw [ey]

/-- The transposed code of an element of a block. -/
theorem blockCodesT_at (B : Vec Ideal S1x128x8192 .bf16) (y : S1x32x1x256x128.Idx) (h : Fin 32) (c : Fin 256) (r : Fin 128)
    (e1 : (y 1).val = h.val) (e3 : (y 3).val = c.val) (e4 : (y 4).val = r.val) :
    blockCodesT B y = min (Ideal.ofBits .f32 0x43E00000#32) (max (Ideal.ofBits .f32 0xC3E00000#32)
      (slice B h (ix3 (0 : Fin 1) r c) * Quantise.down (peak (slice B h) * (inv448 : ℝ)))) := by
  rw [← codesT_piece B h (ix5 (0 : Fin 1) (0 : Fin 1) (0 : Fin 1) c r) y e1 e3 e4, codesT_at, clipped_at, amax_at]

end Cert.Head

end
-- ==== Proof.Quant.QuantiseIdealBlock.lean ====
module

public import proofs.«01_k».proof.Proof.Quant.QuantiseIdealTiles
public import proofs.«01_k».proof.Proof.Quant.QuantiseIdealCodes
public import proofs.«01_k».proof.Proof.Quant.QuantiseIdealScales
public import proofs.«01_k».proof.Proof.Quant.HeadAt
public import proofs.«01_k».proof.Proof.Gen.QuantiseIdeal.Frame

/-! # The block of codes in `QuantiseIdeal`

What the body leaves in its blocks of codes, for every row and column. -/

@[expose] public section

set_option maxRecDepth 16384

noncomputable section

namespace Cert.QuantiseIdeal.Heads

open Idealize.ShloMosaic Idealize.ShloMosaic.Pointwise
open Cert.QuantiseIdeal Cert.QuantiseIdeal.Gen

variable {F : FTy → Type} [FloatOps F] (x0 : Vec F S1x128x8192 .bf16)

theorem codes_at (y : S1x128x8192.Idx) : out0_1 x0 y = Head.blockCodes x0 y := by
  rw [out1, tile_0, tile_1, tile_2, tile_3, tile_4, tile_5, tile_6, tile_7, tile_8, tile_9, tile_10, tile_11, tile_12, tile_13, tile_14, tile_15, tile_16, tile_17, tile_18, tile_19, tile_20, tile_21, tile_22, tile_23, tile_24, tile_25, tile_26, tile_27, tile_28, tile_29, tile_30, tile_31]
  canon_tiles x h
  · exact Head.codes_piece x0 31 x y (by omega) (h2.trans (by omega))
  · exact Head.codes_piece x0 30 x y (by omega) (h2.trans (by omega))
  · exact Head.codes_piece x0 29 x y (by omega) (h2.trans (by omega))
  · exact Head.codes_piece x0 28 x y (by omega) (h2.trans (by omega))
  · exact Head.codes_piece x0 27 x y (by omega) (h2.trans (by omega))
  · exact Head.codes_piece x0 26 x y (by omega) (h2.trans (by omega))
  · exact Head.codes_piece x0 25 x y (by omega) (h2.trans (by omega))
  · exact Head.codes_piece x0 24 x y (by omega) (h2.trans (by omega))
  · exact Head.codes_piece x0 23 x y (by omega) (h2.trans (by omega))
  · exact Head.codes_piece x0 22 x y (by omega) (h2.trans (by omega))
  · exact Head.codes_piece x0 21 x y (by omega) (h2.trans (by omega))
  · exact Head.codes_piece x0 20 x y (by omega) (h2.trans (by omega))
  · exact Head.codes_piece x0 19 x y (by omega) (h2.trans (by omega))
  · exact Head.codes_piece x0 18 x y (by omega) (h2.trans (by omega))
  · exact Head.codes_piece x0 17 x y (by omega) (h2.trans (by omega))
  · exact Head.codes_piece x0 16 x y (by omega) (h2.trans (by omega))
  · exact Head.codes_piece x0 15 x y (by omega) (h2.trans (by omega))
  · exact Head.codes_piece x0 14 x y (by omega) (h2.trans (by omega))
  · exact Head.codes_piece x0 13 x y (by omega) (h2.trans (by omega))
  · exact Head.codes_piece x0 12 x y (by omega) (h2.trans (by omega))
  · exact Head.codes_piece x0 11 x y (by omega) (h2.trans (by omega))
  · exact Head.codes_piece x0 10 x y (by omega) (h2.trans (by omega))
  · exact Head.codes_piece x0 9 x y (by omega) (h2.trans (by omega))
  · exact Head.codes_piece x0 8 x y (by omega) (h2.trans (by omega))
  · exact Head.codes_piece x0 7 x y (by omega) (h2.trans (by omega))
  · exact Head.codes_piece x0 6 x y (by omega) (h2.trans (by omega))
  · exact Head.codes_piece x0 5 x y (by omega) (h2.trans (by omega))
  · exact Head.codes_piece x0 4 x y (by omega) (h2.trans (by omega))
  · exact Head.codes_piece x0 3 x y (by omega) (h2.trans (by omega))
  · exact Head.codes_piece x0 2 x y (by omega) (h2.trans (by omega))
  · exact Head.codes_piece x0 1 x y (by omega) (h2.trans (by omega))
  · exact Head.codes_piece x0 0 x y (by omega) (h2.trans (by omega))

theorem scales_at (x0 : Vec Ideal S1x128x8192 .bf16) (y : S1x1x1x32.Idx) : out0_2 x0 y = Head.blockScales x0 y := by
  rw [out2, tile_0, tile_1, tile_2, tile_3, tile_4, tile_5, tile_6, tile_7, tile_8, tile_9, tile_10, tile_11, tile_12, tile_13, tile_14, tile_15, tile_16, tile_17, tile_18, tile_19, tile_20, tile_21, tile_22, tile_23, tile_24, tile_25, tile_26, tile_27, tile_28, tile_29, tile_30, tile_31]
  canon_tiles x h
  exact Head.scales_piece x0 _ x y (by omega)

end Cert.QuantiseIdeal.Heads

end
-- ==== Proof.Quant.Result.lean ====
module

public import proofs.«01_k».proof.Proof.Quant.HeadAt

/-! # What the quantise calls return

From an array of 2 batches, 16384 rows and 32 heads of 256 columns: the block maxima, the codes, the scales, and the codes
transposed within each block and head. -/

@[expose] public section

set_option maxRecDepth 16384

noncomputable section

namespace Cert.Blocks

open Idealize.ShloMosaic Idealize.ShloMosaic.Pointwise Cert.QuantiseTIdeal Cert.Consts

variable (X : Vec Ideal S2x16384x8192 .bf16)

/-- The largest absolute value of block `n` of head `h` of batch `b`. -/
def peak (b : Fin 2) (n : Fin 128) (h : Fin 32) : EReal :=
  Finset.univ.fold max (⊥ : EReal) (fun x : Fin 128 × Fin 256 => FloatOps.absf (F := Ideal) (φ := .f32)
    (X (ix3 b (⟨128 * n.val + x.1.val, by omega⟩ : Fin 16384) (⟨256 * h.val + x.2.val, by omega⟩ : Fin 8192))))

/-- The code of an element of value `x` in a block whose largest value is `a`. -/
def code (x a : EReal) : EReal := min (Ideal.ofBits .f32 0x43E00000#32) (max (Ideal.ofBits .f32 0xC3E00000#32)
  (x * Quantise.down (a * (inv448 : ℝ))))

/-- The codes. -/
def codes : Vec Ideal S2x16384x8192 .fp8e4m3 := fun y => code (X y)
  (peak X ⟨(y 0).val, (y 0).isLt⟩ ⟨(y 1).val / 128, by have : (y 1).val < 16384 := (y 1).isLt; omega⟩
    ⟨(y 2).val / 256, by have : (y 2).val < 8192 := (y 2).isLt; omega⟩)

/-- The scales. -/
def scales : Vec Ideal S2x128x1x32 .f32 := fun y =>
  Quantise.up (peak X ⟨(y 0).val, (y 0).isLt⟩ ⟨(y 1).val, (y 1).isLt⟩ ⟨(y 3).val, (y 3).isLt⟩ * (inv448 : ℝ))

/-- The transposed codes. -/
def codesT : Vec Ideal S2x32x128x256x128 .fp8e4m3 := fun y => code
  (X (ix3 (⟨(y 0).val, (y 0).isLt⟩ : Fin 2)
    (⟨128 * (y 2).val + (y 4).val, by have : (y 2).val < 128 := (y 2).isLt; have : (y 4).val < 128 := (y 4).isLt; omega⟩ : Fin 16384)
    (⟨256 * (y 1).val + (y 3).val, by have : (y 1).val < 32 := (y 1).isLt; have : (y 3).val < 256 := (y 3).isLt; omega⟩ : Fin 8192)))
  (peak X ⟨(y 0).val, (y 0).isLt⟩ ⟨(y 2).val, (y 2).isLt⟩ ⟨(y 1).val, (y 1).isLt⟩)

/-- Every block is in range. -/
def Ok : Prop := ∀ b n h, Quantise.BlockOk (peak X b n h)

/-! ## From one block of 128 rows -/

variable {X} {B : Vec Ideal S1x128x8192 .bf16} {b : Fin 2} {n : Fin 128}

/-- The maxima of a block of the array. -/
theorem peak_slice (hB : ∀ (r : Fin 128) (x : Fin 8192), B (ix3 (0 : Fin 1) r x) = X (ix3 b (⟨128 * n.val + r.val, by omega⟩ : Fin 16384) x))
    (h : Fin 32) : Head.peak (Head.slice B h) = peak X b n h :=
  congrArg (fun f => Finset.univ.fold max (⊥ : EReal) f) (funext fun x => congrArg (FloatOps.absf (F := Ideal) (φ := .f32)) (hB x.1 _))

theorem codes_of (hB : ∀ (r : Fin 128) (x : Fin 8192), B (ix3 (0 : Fin 1) r x) = X (ix3 b (⟨128 * n.val + r.val, by omega⟩ : Fin 16384) x))
    (y : S1x128x8192.Idx) (j : S2x16384x8192.Idx) (e0 : (j 0).val = b.val) (e1 : (j 1).val = 128 * n.val + (y 1).val)
    (e2 : (j 2).val = (y 2).val) : Head.blockCodes B y = codes X j := by
  have h0 : (y 0).val < 1 := (y 0).isLt
  have h1 : (y 1).val < 128 := (y 1).isLt
  have h2 : (y 2).val < 8192 := (y 2).isLt
  rw [Head.blockCodes_at B y ⟨(y 2).val / 256, by omega⟩ ⟨(y 2).val % 256, by omega⟩ (by show _ = 256 * (_ / 256) + _ % 256; omega), peak_slice hB]
  have ey : B y = X j := by
    have e : y = ix3 (0 : Fin 1) (⟨(y 1).val, h1⟩ : Fin 128) (⟨(y 2).val, h2⟩ : Fin 8192) := funext fun a => Fin.ext <|
      match a with
      | ⟨0, _⟩ => (by show (y 0).val = 0; omega)
      | ⟨1, _⟩ => rfl
      | ⟨2, _⟩ => rfl
    refine ((congrArg B e).trans (hB _ _)).trans (congrArg X (funext fun a => Fin.ext ?_))
    match a with
    | ⟨0, _⟩ => exact e0.symm
    | ⟨1, _⟩ => exact e1.symm
    | ⟨2, _⟩ => exact e2.symm
  have p0 : b = (⟨(j 0).val, (j 0).isLt⟩ : Fin 2) := Fin.ext e0.symm
  have p1 : n = (⟨(j 1).val / 128, by have : (j 1).val < 16384 := (j 1).isLt; omega⟩ : Fin 128) := Fin.ext (by show _ = (j 1).val / 128; omega)
  have p2 : (⟨(y 2).val / 256, by omega⟩ : Fin 32) = ⟨(j 2).val / 256, by have : (j 2).val < 8192 := (j 2).isLt; omega⟩ :=
    Fin.ext (by show (y 2).val / 256 = (j 2).val / 256; omega)
  rw [p2, ey]
  unfold codes code
  rw [← p0, ← p1]

theorem scales_of (hB : ∀ (r : Fin 128) (x : Fin 8192), B (ix3 (0 : Fin 1) r x) = X (ix3 b (⟨128 * n.val + r.val, by omega⟩ : Fin 16384) x))
    (y : S1x1x1x32.Idx) (j : S2x128x1x32.Idx) (e0 : (j 0).val = b.val) (e1 : (j 1).val = n.val) (e3 : (j 3).val = (y 3).val) :
    Head.blockScales B y = scales X j := by
  have p0 : (⟨(j 0).val, (j 0).isLt⟩ : Fin 2) = b := Fin.ext e0
  have p1 : (⟨(j 1).val, (j 1).isLt⟩ : Fin 128) = n := Fin.ext e1
  have p3 : (⟨(j 3).val, (j 3).isLt⟩ : Fin 32) = ⟨(y 3).val, (y 3).isLt⟩ := Fin.ext e3
  unfold Head.blockScales scales
  rw [peak_slice hB, p0, p1, p3]

theorem codesT_of (hB : ∀ (r : Fin 128) (x : Fin 8192), B (ix3 (0 : Fin 1) r x) = X (ix3 b (⟨128 * n.val + r.val, by omega⟩ : Fin 16384) x))
    (y : S1x32x1x256x128.Idx) (j : S2x32x128x256x128.Idx) (e0 : (j 0).val = b.val) (e1 : (j 1).val = (y 1).val) (e2 : (j 2).val = n.val)
    (e3 : (j 3).val = (y 3).val) (e4 : (j 4).val = (y 4).val) : Head.blockCodesT B y = codesT X j := by
  have p0 : (⟨(j 0).val, (j 0).isLt⟩ : Fin 2) = b := Fin.ext e0
  have p1 : (⟨(j 1).val, (j 1).isLt⟩ : Fin 32) = ⟨(y 1).val, (y 1).isLt⟩ := Fin.ext e1
  have p2 : (⟨(j 2).val, (j 2).isLt⟩ : Fin 128) = n := Fin.ext e2
  have hx : Head.slice B ⟨(y 1).val, (y 1).isLt⟩ (ix3 (0 : Fin 1) (⟨(y 4).val, (y 4).isLt⟩ : Fin 128) (⟨(y 3).val, (y 3).isLt⟩ : Fin 256))
      = X (ix3 (⟨(j 0).val, (j 0).isLt⟩ : Fin 2)
        (⟨128 * (j 2).val + (j 4).val, by have : (j 2).val < 128 := (j 2).isLt; have : (j 4).val < 128 := (j 4).isLt; omega⟩ : Fin 16384)
        (⟨256 * (j 1).val + (j 3).val, by have : (j 1).val < 32 := (j 1).isLt; have : (j 3).val < 256 := (j 3).isLt; omega⟩ : Fin 8192)) := by
    refine (hB _ _).trans (congrArg X (funext fun a => Fin.ext ?_))
    match a with
    | ⟨0, _⟩ => exact e0.symm
    | ⟨1, _⟩ => show 128 * n.val + (y 4).val = 128 * (j 2).val + (j 4).val; omega
    | ⟨2, _⟩ => show 256 * (y 1).val + (y 3).val = 256 * (j 1).val + (j 3).val; omega
  rw [Head.blockCodesT_at B y ⟨(y 1).val, (y 1).isLt⟩ ⟨(y 3).val, (y 3).isLt⟩ ⟨(y 4).val, (y 4).isLt⟩ rfl rfl rfl, peak_slice hB, hx]
  unfold codesT code
  rw [p0, p1, p2]

end Cert.Blocks

end
-- ==== Proof.Quant.QuantiseIdealArray.lean ====
module

public import proofs.«01_k».proof.Proof.Quant.QuantiseIdealBlock
public import proofs.«01_k».proof.Proof.Quant.Result
public import Idealize.ShloMosaic.Lib.Pipeline.Covers

/-! # The arrays `QuantiseIdeal` leaves

The grid runs over batches and blocks of 128 rows. At every point the blocks of the results are written whole, and they cover the
arrays. -/

@[expose] public section

set_option maxRecDepth 16384

noncomputable section

namespace Cert.QuantiseIdeal.Heads

open Idealize.ShloMosaic Idealize.ShloMosaic.Pointwise Idealize.ShloMosaic.TcCoe
open Cert.QuantiseIdeal Cert.QuantiseIdeal.Gen

variable (m : (ℓ : Loc nD τ sig) → Buf (Elt Ideal) ℓ) (c : Dev nD) (t : Fin cfg0.N)

/-- A coordinate read as a 32-bit word is the coordinate. -/
theorem word_nat {n k : ℕ} (h : n < k) (hk : k ≤ 128) : (BitVec.ofNat 32 n).toNat = n := by
  rw [BitVec.toNat_ofNat]; exact Nat.mod_eq_of_lt (by norm_num; omega)

/-- The block index of each array, from the point's coordinates. -/
theorem idx : win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0, 0] := by
  have h0 : (BitVec.ofNat 32 (grid0.coords t 0).val).toNat = (grid0.coords t 0).val := word_nat (grid0.coords t 0).isLt (by decide)
  have h1 : (BitVec.ofNat 32 (grid0.coords t 1).val).toNat = (grid0.coords t 1).val := word_nat (grid0.coords t 1).isLt (by decide)
  refine ⟨?_, ?_, ?_⟩
  · show cc0_transform_0 (grid0.coords t) = _
    unfold cc0_transform_0; dsimp only; rw [h0, h1]; rfl
  · show cc0_transform_1 (grid0.coords t) = _
    unfold cc0_transform_1; dsimp only; rw [h0, h1]; rfl
  · show cc0_transform_2 (grid0.coords t) = _
    unfold cc0_transform_2; dsimp only; rw [h0, h1]; rfl

/-- The block of rows a grid point reads. -/
theorem iblk0 (r : Fin 128) (x : Fin 8192) : iblk m c 0 t (ix3 0 r x)
    = m ((c : Thread nD τ).loc main_arg0) (ix3 (grid0.coords t 0)
      ⟨128 * (grid0.coords t 1).val + r.val, by have : (grid0.coords t 1).val < 128 := (grid0.coords t 1).isLt; omega⟩ x) := by
  blk_ext [iblk, V, idx t]

/-- Every batch and block is some grid point's. -/
theorem point_exists (b : Fin 2) (n : Fin 128) : ∃ t : Fin grid0.N, (grid0.coords t 0).val = b.val ∧ (grid0.coords t 1).val = n.val :=
  (grid0.coords_surjective (fun a => match a with | ⟨0, _⟩ => b | ⟨1, _⟩ => n)).elim fun t ht =>
    ⟨t, congrArg Fin.val (congrFun ht 0), congrArg Fin.val (congrFun ht 1)⟩

theorem index1_surjective (β : (a : Fin 3) → Fin (win0_1.nblk a)) : ∃ t : Fin grid0.N, ∀ a, win0_1.index t a = β a :=
  (point_exists ⟨(β 0).val, (β 0).isLt⟩ ⟨(β 1).val, (β 1).isLt⟩).elim fun t ht =>
    ⟨t, fun a => match a with
      | ⟨0, _⟩ => (congrFun (idx t).2.1 0).trans ht.1
      | ⟨1, _⟩ => (congrFun (idx t).2.1 1).trans ht.2
      | ⟨2, _⟩ => (congrFun (idx t).2.1 2).trans (Nat.lt_one_iff.mp (β 2).isLt).symm⟩

theorem covers1 : (cfg0.win 1).Covers :=
  Pipeline.Window.covers_of_index_surj win0_1 rfl (by decide) index1_surjective

theorem index2_surjective (β : (a : Fin 4) → Fin (win0_2.nblk a)) : ∃ t : Fin grid0.N, ∀ a, win0_2.index t a = β a :=
  (point_exists ⟨(β 0).val, (β 0).isLt⟩ ⟨(β 1).val, (β 1).isLt⟩).elim fun t ht =>
    ⟨t, fun a => match a with
      | ⟨0, _⟩ => (congrFun (idx t).2.2 0).trans ht.1
      | ⟨1, _⟩ => (congrFun (idx t).2.2 1).trans ht.2
      | ⟨2, _⟩ => (congrFun (idx t).2.2 2).trans (Nat.lt_one_iff.mp (β 2).isLt).symm
      | ⟨3, _⟩ => (congrFun (idx t).2.2 3).trans (Nat.lt_one_iff.mp (β 3).isLt).symm⟩

theorem covers2 : (cfg0.win 2).Covers :=
  Pipeline.Window.covers_of_index_surj win0_2 rfl (by decide) index2_surjective

/-- THE ARRAY of codes. -/
theorem final1 : (dats m 0 c).arrAt 1 cfg0.N = Blocks.codes (m ((c : Thread nD τ).loc main_arg0)) := by
  refine (dats m 0 c).arrAt_eq_of_covers 1 _ covers1 fun t hf y => ?_
  blk_simp
  rw [after0_1]
  refine (codes_at _ y).trans (Blocks.codes_of (b := grid0.coords t 0) (n := grid0.coords t 1) (iblk0 m c t) y _ ?_ ?_ ?_)
  all_goals (blk_simp [idx t] <;> try omega)

/-- THE ARRAY of scales. -/
theorem final2 : (dats m 0 c).arrAt 2 cfg0.N = Blocks.scales (m ((c : Thread nD τ).loc main_arg0)) := by
  refine (dats m 0 c).arrAt_eq_of_covers 2 _ covers2 fun t hf y => ?_
  blk_simp
  rw [after0_2]
  refine (scales_at _ y).trans (Blocks.scales_of (b := grid0.coords t 0) (n := grid0.coords t 1) (iblk0 m c t) y _ ?_ ?_ ?_)
  all_goals (blk_simp [idx t] <;> try omega)

end Cert.QuantiseIdeal.Heads

end
-- ==== Proof.Quant.Peaks.lean ====
module

public import proofs.«01_k».proof.Proof.Quant.Result

/-! # The maxima of the blocks, as the reference takes them

The reference splits rows into blocks and columns into heads, and takes each block's largest absolute value by one reduction
over the rows of a block and the columns of a head. -/

@[expose] public section

set_option maxRecDepth 16384

noncomputable section

namespace Cert.Blocks

open Idealize.ShloMosaic Idealize.ShloMosaic.Pointwise Cert.Consts Cert.QuantiseTIdeal

abbrev SSplit : Shape := ⟨5, ![2, 128, 128, 32, 256]⟩
abbrev SBlocks : Shape := ⟨3, ![2, 128, 32]⟩
abbrev SOne : Shape := ⟨0, ![]⟩

/-- The elements by block, row, head and column. -/
def split (X : FVec Ideal S2x16384x8192 .bf16) (h16 : FTy.bits .bf16 < FTy.bits .f32) (e : S2x16384x8192.ShapeCasts SSplit) : FVec Ideal SSplit .f32 :=
  shapeCast SSplit (extf .f32 X h16) e

theorem split_at (X : FVec Ideal S2x16384x8192 .bf16) (h16 : FTy.bits .bf16 < FTy.bits .f32) (e : S2x16384x8192.ShapeCasts SSplit)
    (b : Fin 2) (n r : Fin 128) (h : Fin 32) (c : Fin 256) : split X h16 e (ix5 b n r h c)
      = X (ix3 b (⟨128 * n.val + r.val, by omega⟩ : Fin 16384) (⟨256 * h.val + c.val, by omega⟩ : Fin 8192)) := by
  pointwise [split]
  exact congrArg X (congrArg₂ (ix3 b) (Fin.ext (by show n.val * 128 + _ = 128 * n.val + _; omega))
    (Fin.ext (by show h.val * 256 + _ = 256 * h.val + _; omega)))

/-- The source indices of one block and head. -/
theorem fiber (e : SSplit.ReducesTo [2, 4] SBlocks) (b : Fin 2) (n : Fin 128) (h : Fin 32) (i : SSplit.Idx) :
    e.drop i = ix3 b n h ↔ ∃ x : Fin 128 × Fin 256, ix5 b n x.1 h x.2 = i := by
  constructor
  · intro d
    refine ⟨(i 2, i 4), ?_⟩
    funext a; apply Fin.ext
    match a with
    | ⟨0, _⟩ => exact (congrArg Fin.val (congrFun d ⟨0, by decide⟩)).symm
    | ⟨1, _⟩ => exact (congrArg Fin.val (congrFun d ⟨1, by decide⟩)).symm
    | ⟨2, _⟩ => rfl
    | ⟨3, _⟩ => exact (congrArg Fin.val (congrFun d ⟨2, by decide⟩)).symm
    | ⟨4, _⟩ => rfl
  · rintro ⟨x, rfl⟩
    funext a; apply Fin.ext
    match a with
    | ⟨0, _⟩ => rfl
    | ⟨1, _⟩ => rfl
    | ⟨2, _⟩ => rfl

/-- The maxima of the blocks. -/
def peaks (T : FVec Ideal SSplit .f32) (e : SSplit.ReducesTo [2, 4] SBlocks) (h0 : 0 < SOne.numel) : FVec Ideal SBlocks .f32 :=
  Host.reduce FloatOps.maximumf (Host.absf T) (constant SOne .f32 0xFF800000#32) e h0

theorem peaks_at (T : FVec Ideal SSplit .f32) (e : SSplit.ReducesTo [2, 4] SBlocks) (h0 : 0 < SOne.numel) (b : Fin 2) (n : Fin 128) (h : Fin 32) :
    peaks T e h0 (ix3 b n h) = Finset.univ.fold max (⊥ : EReal)
      (fun x : Fin 128 × Fin 256 => FloatOps.absf (F := Ideal) (φ := .f32) (T (ix5 b n x.1 h x.2))) := by
  pointwise [peaks]
  rw [negInf]
  exact Finset.fold_filter_eq_fold_of_fiber max _ (fun x : Fin 128 × Fin 256 => ix5 b n x.1 h x.2)
    (fun x y d => Prod.ext (congrFun d 2) (congrFun d 4)) (fiber e b n h) ⊥ _

/-- The maxima of the blocks of an array. -/
theorem peaks_split (X : FVec Ideal S2x16384x8192 .bf16) (h16 : FTy.bits .bf16 < FTy.bits .f32) (e : S2x16384x8192.ShapeCasts SSplit)
    (e' : SSplit.ReducesTo [2, 4] SBlocks) (h0 : 0 < SOne.numel) (b : Fin 2) (n : Fin 128) (h : Fin 32) :
    peaks (split X h16 e) e' h0 (ix3 b n h) = peak X b n h := by
  rw [peaks_at]
  exact congrArg (fun f => Finset.univ.fold max (⊥ : EReal) f) (funext fun x =>
    congrArg (FloatOps.absf (F := Ideal) (φ := .f32)) (split_at X h16 e b n x.1 h x.2))

end Cert.Blocks

end
-- ==== Proof.Quant.Reference.lean ====
module

public import proofs.«01_k».proof.Proof.Quant.Peaks

/-! # The reference's results, named and read

The exponent of each block, the powers of two, and the codes, in the reference's own operations on whole arrays. -/

@[expose] public section

set_option maxRecDepth 16384

noncomputable section

namespace Cert.Blocks

open Idealize.ShloMosaic Idealize.ShloMosaic.Pointwise Cert.Consts Cert.QuantiseTIdeal

abbrev SCol : Shape := ⟨5, ![2, 128, 1, 32, 1]⟩

/-- The natural logarithm of two, as the reference computes it. -/
def logTwo : FVec Ideal SOne .f32 := Host.log (constant SOne .f32 0x40000000#32)

theorem two_bits : Ideal.ofBits .f32 0x40000000#32 = ((2 : ℝ) : EReal) := by
  have h := pow_bits 128 (by norm_num) (by norm_num)
  refine Eq.trans h ?_
  norm_num

theorem log_two : Ideal.log (Ideal.ofBits .f32 0x40000000#32) = ((Real.log 2 : ℝ) : EReal) := by
  rw [two_bits, Ideal.log_coe, if_neg (by norm_num)]

/-- The exponents of the blocks. -/
def expos (A : FVec Ideal SBlocks .f32) (e : SBlocks.BroadcastsInDim SCol ![0, 1, 3]) (e0 : SOne.BroadcastsInDim SCol ![]) : FVec Ideal SCol .f32 :=
  select (cmpf .oeq (broadcastInDim SCol ![0, 1, 3] e A) (broadcastInDim SCol ![] e0 (constant SOne .f32 0#32)))
    (broadcastInDim SCol ![] e0 (constant SOne .f32 0#32))
    (addf (Host.floor (Host.divf (Host.log (mulf (broadcastInDim SCol ![0, 1, 3] e A) (broadcastInDim SCol ![] e0 (constant SOne .f32 0x3B124925#32))))
      (broadcastInDim SCol ![] e0 logTwo))) (broadcastInDim SCol ![] e0 (constant SOne .f32 0x3F800000#32)))

theorem expos_at (A : FVec Ideal SBlocks .f32) (e : SBlocks.BroadcastsInDim SCol ![0, 1, 3]) (e0 : SOne.BroadcastsInDim SCol ![])
    (b : Fin 2) (n : Fin 128) (h : Fin 32) : expos A e e0 (ix5 b n (0 : Fin 1) h (0 : Fin 1)) = Quantise.logExp (A (ix3 b n h)) := by
  pointwise [expos, logTwo]
  rw [log_two, inv448_bits]
  rfl

/-- A power of two for each block. -/
def pows (E : FVec Ideal SCol .f32) (e0 : SOne.BroadcastsInDim SCol ![]) : FVec Ideal SCol .f32 :=
  Host.exp (mulf (broadcastInDim SCol ![] e0 logTwo) E)

theorem pows_at (E : FVec Ideal SCol .f32) (e0 : SOne.BroadcastsInDim SCol ![]) (i : SCol.Idx) :
    pows E e0 i = Ideal.exp (((Real.log 2 : ℝ) : EReal) * E i) := by
  pointwise [pows, logTwo]
  rw [log_two]

/-- The codes by block, row, head and column. -/
def codes5 (T : FVec Ideal SSplit .f32) (E : FVec Ideal SCol .f32) (e0 : SOne.BroadcastsInDim SCol ![])
    (e : SCol.BroadcastsInDim SSplit ![0, 1, 2, 3, 4]) (e1 : SOne.BroadcastsInDim SSplit ![]) : FVec Ideal SSplit .fp8e4m3 :=
  Host.convertf .fp8e4m3 (minimumf (broadcastInDim SSplit ![] e1 (constant SOne .f32 0x43E00000#32))
    (maximumf (broadcastInDim SSplit ![] e1 (constant SOne .f32 0xC3E00000#32))
      (mulf T (broadcastInDim SSplit ![0, 1, 2, 3, 4] e (pows (Host.negf E) e0)))))

theorem codes5_at (T : FVec Ideal SSplit .f32) (E : FVec Ideal SCol .f32) (e0 : SOne.BroadcastsInDim SCol ![])
    (e : SCol.BroadcastsInDim SSplit ![0, 1, 2, 3, 4]) (e1 : SOne.BroadcastsInDim SSplit ![])
    (b : Fin 2) (n r : Fin 128) (h : Fin 32) (c : Fin 256) : codes5 T E e0 e e1 (ix5 b n r h c)
      = min (Ideal.ofBits .f32 0x43E00000#32) (max (Ideal.ofBits .f32 0xC3E00000#32)
        (T (ix5 b n r h c) * Ideal.exp (((Real.log 2 : ℝ) : EReal) * -E (ix5 b n (0 : Fin 1) h (0 : Fin 1))))) := by
  have hp := pows_at (Host.negf E) e0 (ix5 b n (0 : Fin 1) h (0 : Fin 1))
  unfold codes5
  generalize pows (Host.negf E) e0 = P at hp ⊢
  pointwise
  rw [hp]
  rfl

variable (X : FVec Ideal S2x16384x8192 .bf16) (h16 : FTy.bits .bf16 < FTy.bits .f32) (eS : S2x16384x8192.ShapeCasts SSplit)
  (eR : SSplit.ReducesTo [2, 4] SBlocks) (hO : 0 < SOne.numel) (eC : SBlocks.BroadcastsInDim SCol ![0, 1, 3])
  (e0 : SOne.BroadcastsInDim SCol ![]) (eB : SCol.BroadcastsInDim SSplit ![0, 1, 2, 3, 4]) (e1 : SOne.BroadcastsInDim SSplit ![])

/-- The exponents of an array's blocks. -/
def exponents : FVec Ideal SCol .f32 := expos (peaks (split X h16 eS) eR hO) eC e0

theorem exponents_at (b : Fin 2) (n : Fin 128) (h : Fin 32) :
    exponents X h16 eS eR hO eC e0 (ix5 b n (0 : Fin 1) h (0 : Fin 1)) = Quantise.logExp (peak X b n h) :=
  (expos_at _ eC e0 b n h).trans (congrArg Quantise.logExp (peaks_split X h16 eS eR hO b n h))

/-- The reference's codes by block, row, head and column. -/
def coded : FVec Ideal SSplit .fp8e4m3 := codes5 (split X h16 eS) (exponents X h16 eS eR hO eC e0) e0 eB e1

variable {X}

theorem coded_at (ok : Ok X) (b : Fin 2) (n r : Fin 128) (h : Fin 32) (c : Fin 256) : coded X h16 eS eR hO eC e0 eB e1 (ix5 b n r h c)
    = code (X (ix3 b (⟨128 * n.val + r.val, by omega⟩ : Fin 16384) (⟨256 * h.val + c.val, by omega⟩ : Fin 8192))) (peak X b n h) := by
  unfold coded code
  rw [codes5_at, split_at, exponents_at, Quantise.inverse_eq (ok b n h)]

theorem codes_eq (ok : Ok X) (e : SSplit.ShapeCasts S2x16384x8192) :
    shapeCast S2x16384x8192 (coded X h16 eS eR hO eC e0 eB e1) e = codes X := by
  have k := coded_at h16 eS eR hO eC e0 eB e1 ok
  generalize coded X h16 eS eR hO eC e0 eB e1 = Y at k ⊢
  funext y
  obtain ⟨b, p, q, rfl⟩ : ∃ (b : Fin 2) (p : Fin 16384) (q : Fin 8192), y = ix3 b p q :=
    ⟨y 0, y 1, y 2, funext fun a => match a with | ⟨0, _⟩ => rfl | ⟨1, _⟩ => rfl | ⟨2, _⟩ => rfl⟩
  pointwise
  rw [k]
  exact congrArg₂ code (congrArg X (congrArg₂ (ix3 b) (Fin.ext (by show 128 * (p.val / 128) + p.val % 128 = p.val; omega))
    (Fin.ext (by show 256 * (q.val / 256) + q.val % 256 = q.val; omega)))) rfl

theorem scales_eq (ok : Ok X) (e : SCol.ShapeCasts S2x128x1x32) :
    shapeCast S2x128x1x32 (pows (exponents X h16 eS eR hO eC e0) e0) e = scales X := by
  have k := fun b n h => (pows_at (exponents X h16 eS eR hO eC e0) e0 (ix5 b n (0 : Fin 1) h (0 : Fin 1))).trans
    ((congrArg (fun z => Ideal.exp (((Real.log 2 : ℝ) : EReal) * z)) (exponents_at X h16 eS eR hO eC e0 b n h)).trans (Quantise.scale_eq (ok b n h)))
  generalize pows (exponents X h16 eS eR hO eC e0) e0 = Y at k ⊢
  funext y
  obtain ⟨b, n, o, h, rfl⟩ : ∃ (b : Fin 2) (n : Fin 128) (o : Fin 1) (h : Fin 32), y = ix4 b n o h :=
    ⟨y 0, y 1, y 2, y 3, funext fun a => match a with | ⟨0, _⟩ => rfl | ⟨1, _⟩ => rfl | ⟨2, _⟩ => rfl | ⟨3, _⟩ => rfl⟩
  pointwise
  exact k b n h

theorem codesT_eq (ok : Ok X) (e : SSplit.Transposes [0, 3, 1, 4, 2] S2x32x128x256x128) :
    transpose S2x32x128x256x128 [0, 3, 1, 4, 2] (coded X h16 eS eR hO eC e0 eB e1) e = codesT X := by
  have k := coded_at h16 eS eR hO eC e0 eB e1 ok
  generalize coded X h16 eS eR hO eC e0 eB e1 = Y at k ⊢
  funext y
  obtain ⟨b, h, n, c, r, rfl⟩ : ∃ (b : Fin 2) (h : Fin 32) (n : Fin 128) (c : Fin 256) (r : Fin 128), y = ix5 b h n c r :=
    ⟨y 0, y 1, y 2, y 3, y 4, funext fun a => match a with | ⟨0, _⟩ => rfl | ⟨1, _⟩ => rfl | ⟨2, _⟩ => rfl | ⟨3, _⟩ => rfl | ⟨4, _⟩ => rfl⟩
  pointwise
  exact k b n r h c

end Cert.Blocks

end
-- ==== Proof.Quant.Precondition.lean ====
module

public import proofs.«01_k».proof.Proof.Quant.Peaks
public import proofs.«01_k».proof.Proof.Gen.Pre_blocks_in_range
public import Idealize.ShloMosaic.Lib.ReduceAll

/-! # The precondition of the quantise calls, read

`blocks_in_range` is one conjunction over the blocks of all heads and batches: the largest absolute value of each over 448 is zero,
or at least `2 ^ (-126)` and less than `2 ^ 126`. -/

@[expose] public section

set_option maxRecDepth 16384

noncomputable section

namespace Cert.Blocks

open Idealize.ShloMosaic Idealize.ShloMosaic.Pointwise Cert.Consts

/-- The comparisons of one block, read. -/
theorem block_ok {a : EReal} (e : IntOp.ori (Ideal.cmp .oeq (a * (inv448 : ℝ)) 0) (IntOp.andi (Ideal.cmp .oge (a * (inv448 : ℝ)) (((2 : ℝ) ^ (-126 : ℤ) : ℝ) : EReal))
    (Ideal.cmp .olt (a * (inv448 : ℝ)) (((2 : ℝ) ^ (126 : ℤ) : ℝ) : EReal))) = 1#1) : Quantise.BlockOk a := by
  unfold Quantise.BlockOk
  unfold Ideal.cmp at e
  generalize a * (inv448 : ℝ) = z at e ⊢
  by_cases h0 : z = 0
  · exact .inl h0
  by_cases h1 : (((2 : ℝ) ^ (-126 : ℤ) : ℝ) : EReal) ≤ z
  · by_cases h2 : z < (((2 : ℝ) ^ (126 : ℤ) : ℝ) : EReal)
    · exact .inr ⟨h1, h2⟩
    · simp only [decide_eq_false h0, decide_eq_false h2, decide_eq_true h1] at e
      exact absurd e (by decide)
  · simp only [decide_eq_false h0, decide_eq_false h1] at e
    exact absurd e (by cases (decide (z < (((2 : ℝ) ^ (126 : ℤ) : ℝ) : EReal))) <;> decide)

theorem small : Ideal.ofBits .f32 0x00800000#32 = (((2 : ℝ) ^ (-126 : ℤ) : ℝ) : EReal) := by
  have h := pow_bits 1 (by norm_num) (by norm_num)
  exact h

theorem large : Ideal.ofBits .f32 0x7E800000#32 = (((2 : ℝ) ^ (126 : ℤ) : ℝ) : EReal) := by
  have h := pow_bits 253 (by norm_num) (by norm_num)
  exact h

/-- The comparisons of all blocks. -/
def inRange (A : FVec Ideal SBlocks .f32) (e0 : SOne.BroadcastsInDim SBlocks ![]) : IVec SBlocks 1 :=
  ori (cmpf .oeq (mulf A (broadcastInDim SBlocks ![] e0 (constant SOne .f32 0x3B124925#32))) (broadcastInDim SBlocks ![] e0 (constant SOne .f32 0#32)))
    (andi (cmpf .oge (mulf A (broadcastInDim SBlocks ![] e0 (constant SOne .f32 0x3B124925#32))) (broadcastInDim SBlocks ![] e0 (constant SOne .f32 0x00800000#32)))
      (cmpf .olt (mulf A (broadcastInDim SBlocks ![] e0 (constant SOne .f32 0x3B124925#32))) (broadcastInDim SBlocks ![] e0 (constant SOne .f32 0x7E800000#32))))

theorem inRange_at (A : FVec Ideal SBlocks .f32) (e0 : SOne.BroadcastsInDim SBlocks ![]) (i : SBlocks.Idx) (e : inRange A e0 i = 1#1) :
    Quantise.BlockOk (A i) := by
  refine block_ok (Eq.trans ?_ e)
  rw [← inv448_bits, ← small, ← large, ← show Ideal.ofBits .f32 0#32 = 0 from Ideal.ofBits_zero _]
  rfl

/-- The predicate is 1: every block is in range. -/
theorem ok [hp : Cert.Pre_blocks_in_range.Facts] (X : FVec Ideal Cert.QuantiseTIdeal.S2x16384x8192 .bf16)
    (e : Cert.Pre_blocks_in_range.fn (F := Ideal) X = fun _ => 1#1) : Ok X := fun b n h => by
  have e0 := congrFun e (fun a => a.elim0)
  haveI : Subsingleton (Cert.Pre_blocks_in_range.S_).Idx := ⟨fun i j => funext fun a => a.elim0⟩
  have e1 : inRange (peaks (split X hp.bitsLt_bf16_f32 hp.shapeCasts_S2x16384x8192_S2x128x128x32x256)
      hp.reducesTo_S2x128x128x32x256_S2x128x32_d2_4 hp.h_S_) hp.bcast_S_S2x128x32 (ix3 b n h) = 1#1 :=
    Host.reduce_andi_all _ _ _ _ _ e0 (ix3 b n h)
  exact peaks_split X _ _ _ _ b n h ▸ inRange_at _ _ _ e1

end Cert.Blocks

end
-- ==== Proof.Quant.QuantiseClaim.lean ====
module

public import proofs.«01_k».proof.Defs
public import proofs.«01_k».proof.Proof.Quant.QuantiseIdealArray
public import proofs.«01_k».proof.Proof.Quant.Reference
public import proofs.«01_k».proof.Proof.Quant.Precondition
public import proofs.«01_k».proof.Proof.Gen.QuantiseReferenceIdeal
public import Idealize.ShloMosaic.Lib.Claim
public import Idealize.ShloMosaic.Lib.Quiescent
public import Idealize.ShloMosaic.Lib.Tactic.CleanTypes

/-! # The quantise call returns what its reference returns -/

@[expose] public section

set_option maxRecDepth 16384

noncomputable section

namespace Cert.QuantiseIdealValue

open Idealize.ShloMosaic Idealize.SL.Sem

set_option maxHeartbeats 3200000 in
/-- A run of the reference leaves the argument in place. -/
theorem frame : Cert.quiescent_QuantiseReferenceIdeal (hQuantiseReferenceIdeal := Cert.QuantiseReferenceIdeal.Gen.facts) := by
  intro m g _
  hlo_run
  · exact fun _ => trivial
  · exact sem_eq_zero_of_no_sems (sig := Cert.QuantiseReferenceIdeal.sig) (by rfl) _

set_option maxHeartbeats 3200000 in
/-- The same, with the precondition. -/
theorem frame_pre : Cert.quiescent_QuantiseReferenceIdeal_pre_blocks_in_range (hQuantiseReferenceIdeal := Cert.QuantiseReferenceIdeal.Gen.facts)
    (hPre_blocks_in_range := Cert.Pre_blocks_in_range.Gen.facts) := by
  intro m g _
  hlo_run
  · exact fun _ => trivial
  · exact sem_eq_zero_of_no_sems (sig := Cert.QuantiseReferenceIdeal.sig) (by rfl) _

set_option maxHeartbeats 3200000 in
/-- With every block in range, the results agree. -/
theorem algebraic : Cert.algebraic_QuantiseIdeal_QuantiseReferenceIdeal_pre_blocks_in_range (hQuantiseIdeal := Cert.QuantiseIdeal.Gen.facts)
    (hQuantiseReferenceIdeal := Cert.QuantiseReferenceIdeal.Gen.facts) (hPre_blocks_in_range := Cert.Pre_blocks_in_range.Gen.facts) := by
  pair_intro
  · run_from Cert.QuantiseIdeal.Gen.run_main m g
  · hlo_run
    all_goals simp -implicitDefEqProofs only [StableHlo.TRef.toBuf, StableHlo.TRef.ofBuf, cast_cast, cast_eq]
    all_goals clean_types
    · have hok : Blocks.Ok (m ((c.tc : Thread _ _).loc QuantiseIdeal.main_arg0)) := Blocks.ok _ (hpre c)
      refine Eq.trans ?_ (QuantiseIdeal.Heads.final1 m c).symm
      generalize m ((c.tc : Thread _ _).loc QuantiseIdeal.main_arg0) = X at hok ⊢
      have k := Blocks.codes_eq QuantiseReferenceIdeal.Gen.bitsLt_bf16_f32 QuantiseReferenceIdeal.Gen.shapeCasts_S2x16384x8192_S2x128x128x32x256 QuantiseReferenceIdeal.Gen.reducesTo_S2x128x128x32x256_S2x128x32_d2_4 QuantiseReferenceIdeal.Gen.h_S_
        QuantiseReferenceIdeal.Gen.bcast_S2x128x32_S2x128x1x32x1_0_1_3 QuantiseReferenceIdeal.Gen.bcast_S_S2x128x1x32x1 QuantiseReferenceIdeal.Gen.bcast_S2x128x1x32x1_S2x128x128x32x256_0_1_2_3_4 QuantiseReferenceIdeal.Gen.bcast_S_S2x128x128x32x256 hok QuantiseReferenceIdeal.Gen.shapeCasts_S2x128x128x32x256_S2x16384x8192
      unfold Blocks.coded Blocks.codes5 Blocks.pows Blocks.exponents Blocks.expos Blocks.peaks Blocks.split Blocks.logTwo at k
      exact k
    · have hok : Blocks.Ok (m ((c.tc : Thread _ _).loc QuantiseIdeal.main_arg0)) := Blocks.ok _ (hpre c)
      refine Eq.trans ?_ (QuantiseIdeal.Heads.final2 m c).symm
      generalize m ((c.tc : Thread _ _).loc QuantiseIdeal.main_arg0) = X at hok ⊢
      have k := Blocks.scales_eq QuantiseReferenceIdeal.Gen.bitsLt_bf16_f32 QuantiseReferenceIdeal.Gen.shapeCasts_S2x16384x8192_S2x128x128x32x256 QuantiseReferenceIdeal.Gen.reducesTo_S2x128x128x32x256_S2x128x32_d2_4 QuantiseReferenceIdeal.Gen.h_S_
        QuantiseReferenceIdeal.Gen.bcast_S2x128x32_S2x128x1x32x1_0_1_3 QuantiseReferenceIdeal.Gen.bcast_S_S2x128x1x32x1 hok QuantiseReferenceIdeal.Gen.shapeCasts_S2x128x1x32x1_S2x128x1x32
      unfold Blocks.pows Blocks.exponents Blocks.expos Blocks.peaks Blocks.split Blocks.logTwo at k
      exact k

end Cert.QuantiseIdealValue

end
-- ==== Proof.Quant.QuantiseTIdealTiles.lean ====
module

public import proofs.«01_k».proof.Proof.Quant.Head
public import Idealize.ShloMosaic.Lib.Pipeline.ValueKit
public import proofs.«01_k».proof.Proof.Gen.QuantiseTIdeal.Frame

/-! # The heads' tiles in `QuantiseTIdeal`

The 32 loads of a block read the tiles of its 32 heads. -/

@[expose] public section

set_option maxRecDepth 16384

noncomputable section

namespace Cert.QuantiseTIdeal.Heads

open Idealize.ShloMosaic Idealize.ShloMosaic.Pointwise
open Cert.QuantiseTIdeal Cert.QuantiseTIdeal.Gen

variable {F : FTy → Type} [FloatOps F] (x0 : Vec F S1x128x8192 .bf16)

theorem tile_0 : View.ld x0 r0_0 = Head.slice x0 0 := Head.ld_slice x0 0 0 _ rfl

theorem tile_1 : View.ld x0 r0_2 = Head.slice x0 1 := Head.ld_slice x0 1 256 _ rfl

theorem tile_2 : View.ld x0 r0_4 = Head.slice x0 2 := Head.ld_slice x0 2 512 _ rfl

theorem tile_3 : View.ld x0 r0_6 = Head.slice x0 3 := Head.ld_slice x0 3 768 _ rfl

theorem tile_4 : View.ld x0 r0_8 = Head.slice x0 4 := Head.ld_slice x0 4 1024 _ rfl

theorem tile_5 : View.ld x0 r0_10 = Head.slice x0 5 := Head.ld_slice x0 5 1280 _ rfl

theorem tile_6 : View.ld x0 r0_12 = Head.slice x0 6 := Head.ld_slice x0 6 1536 _ rfl

theorem tile_7 : View.ld x0 r0_14 = Head.slice x0 7 := Head.ld_slice x0 7 1792 _ rfl

theorem tile_8 : View.ld x0 r0_16 = Head.slice x0 8 := Head.ld_slice x0 8 2048 _ rfl

theorem tile_9 : View.ld x0 r0_18 = Head.slice x0 9 := Head.ld_slice x0 9 2304 _ rfl

theorem tile_10 : View.ld x0 r0_20 = Head.slice x0 10 := Head.ld_slice x0 10 2560 _ rfl

theorem tile_11 : View.ld x0 r0_22 = Head.slice x0 11 := Head.ld_slice x0 11 2816 _ rfl

theorem tile_12 : View.ld x0 r0_24 = Head.slice x0 12 := Head.ld_slice x0 12 3072 _ rfl

theorem tile_13 : View.ld x0 r0_26 = Head.slice x0 13 := Head.ld_slice x0 13 3328 _ rfl

theorem tile_14 : View.ld x0 r0_28 = Head.slice x0 14 := Head.ld_slice x0 14 3584 _ rfl

theorem tile_15 : View.ld x0 r0_30 = Head.slice x0 15 := Head.ld_slice x0 15 3840 _ rfl

theorem tile_16 : View.ld x0 r0_32 = Head.slice x0 16 := Head.ld_slice x0 16 4096 _ rfl

theorem tile_17 : View.ld x0 r0_34 = Head.slice x0 17 := Head.ld_slice x0 17 4352 _ rfl

theorem tile_18 : View.ld x0 r0_36 = Head.slice x0 18 := Head.ld_slice x0 18 4608 _ rfl

theorem tile_19 : View.ld x0 r0_38 = Head.slice x0 19 := Head.ld_slice x0 19 4864 _ rfl

theorem tile_20 : View.ld x0 r0_40 = Head.slice x0 20 := Head.ld_slice x0 20 5120 _ rfl

theorem tile_21 : View.ld x0 r0_42 = Head.slice x0 21 := Head.ld_slice x0 21 5376 _ rfl

theorem tile_22 : View.ld x0 r0_44 = Head.slice x0 22 := Head.ld_slice x0 22 5632 _ rfl

theorem tile_23 : View.ld x0 r0_46 = Head.slice x0 23 := Head.ld_slice x0 23 5888 _ rfl

theorem tile_24 : View.ld x0 r0_48 = Head.slice x0 24 := Head.ld_slice x0 24 6144 _ rfl

theorem tile_25 : View.ld x0 r0_50 = Head.slice x0 25 := Head.ld_slice x0 25 6400 _ rfl

theorem tile_26 : View.ld x0 r0_52 = Head.slice x0 26 := Head.ld_slice x0 26 6656 _ rfl

theorem tile_27 : View.ld x0 r0_54 = Head.slice x0 27 := Head.ld_slice x0 27 6912 _ rfl

theorem tile_28 : View.ld x0 r0_56 = Head.slice x0 28 := Head.ld_slice x0 28 7168 _ rfl

theorem tile_29 : View.ld x0 r0_58 = Head.slice x0 29 := Head.ld_slice x0 29 7424 _ rfl

theorem tile_30 : View.ld x0 r0_60 = Head.slice x0 30 := Head.ld_slice x0 30 7680 _ rfl

theorem tile_31 : View.ld x0 r0_62 = Head.slice x0 31 := Head.ld_slice x0 31 7936 _ rfl

end Cert.QuantiseTIdeal.Heads

end
-- ==== Proof.Quant.QuantiseTIdealCodes.lean ====
module

public import proofs.«01_k».proof.Proof.Quant.Head
public import proofs.«01_k».proof.Proof.Gen.QuantiseTIdeal.Frame

/-! # The codes of the 32 heads in `QuantiseTIdeal`

Each of the 32 stores of codes holds its head's `Head.codes`: the printed operations are the same for every head. -/

@[expose] public section

set_option maxRecDepth 16384

noncomputable section

namespace Cert.QuantiseTIdeal.Heads

open Idealize.ShloMosaic
open Cert.QuantiseTIdeal Cert.QuantiseTIdeal.Gen

variable {F : FTy → Type} [FloatOps F] (x0 : Vec F S1x128x8192 .bf16)

theorem codes_0 : k0_pay9 (k0_pay354 x0) = Head.codes (View.ld x0 r0_0) := rfl

theorem codes_1 : k0_pay19 (k0_pay355 x0) (k0_pay356 x0) (k0_pay357 x0) 1#32 = Head.codes (View.ld x0 r0_2) := rfl

theorem codes_2 : k0_pay30 (k0_pay358 x0) (k0_pay362 x0) = Head.codes (View.ld x0 r0_4) := rfl

theorem codes_3 : k0_pay39 (k0_pay363 x0) (k0_pay364 x0) (k0_pay365 x0) (k0_pay366 x0) 23#32 = Head.codes (View.ld x0 r0_6) := rfl

theorem codes_4 : k0_pay50 (k0_pay367 x0) (k0_pay368 x0) = Head.codes (View.ld x0 r0_8) := rfl

theorem codes_5 : k0_pay61 (k0_pay369 x0) (k0_pay371 x0) (k0_pay372 x0) (k0_pay373 x0) (k0_pay374 x0) = Head.codes (View.ld x0 r0_10) := rfl

theorem codes_6 : k0_pay72 (k0_pay375 x0) (k0_pay378 x0) (k0_pay379 x0) = Head.codes (View.ld x0 r0_12) := rfl

theorem codes_7 : k0_pay81 (k0_pay80 (k0_pay380 x0) (k0_pay381 x0) (k0_pay382 x0) 4#32) = Head.codes (View.ld x0 r0_14) := rfl

theorem codes_8 : k0_pay91 (k0_pay383 x0) (k0_pay384 x0) 0#32 = Head.codes (View.ld x0 r0_16) := rfl

theorem codes_9 : k0_pay104 (k0_pay388 x0) (Scalar.ofBits .f32 0x43E00000#32) (k0_pay389 x0) = Head.codes (View.ld x0 r0_18) := rfl

theorem codes_10 : k0_pay116 (k0_pay390 x0) (k0_pay391 x0) (k0_pay395 x0) (k0_pay396 x0) 23#32 = Head.codes (View.ld x0 r0_20) := rfl

theorem codes_11 : k0_pay129 (k0_pay397 x0) (k0_pay402 x0) = Head.codes (View.ld x0 r0_22) := rfl

theorem codes_12 : k0_pay140 (k0_pay403 x0) (k0_pay404 x0) (k0_pay406 x0) (k0_pay407 x0) (k0_pay408 x0) = Head.codes (View.ld x0 r0_24) := rfl

theorem codes_13 : k0_pay149 (k0_pay409 x0) (k0_pay412 x0) = Head.codes (View.ld x0 r0_26) := rfl

theorem codes_14 : k0_pay158 (k0_pay413 x0) (k0_pay415 x0) (k0_pay416 x0) 2#32 = Head.codes (View.ld x0 r0_28) := rfl

theorem codes_15 : k0_pay171 (k0_pay417 x0) (k0_pay421 x0) (k0_pay422 x0) = Head.codes (View.ld x0 r0_30) := rfl

theorem codes_16 : k0_pay182 (k0_pay181 (k0_pay423 x0) (k0_pay425 x0) (k0_pay426 x0) (k0_pay427 x0) 23#32) = Head.codes (View.ld x0 r0_32) := rfl

theorem codes_17 : k0_pay194 (k0_pay428 x0) (k0_pay433 x0) (k0_pay434 x0) 255#32 = Head.codes (View.ld x0 r0_34) := rfl

theorem codes_18 : k0_pay204 (k0_pay439 x0) = Head.codes (View.ld x0 r0_36) := rfl

theorem codes_19 : k0_pay215 (k0_pay440 x0) (k0_pay441 x0) (k0_pay443 x0) (k0_pay444 x0) (k0_pay445 x0) = Head.codes (View.ld x0 r0_38) := rfl

theorem codes_20 : k0_pay227 (k0_pay448 x0) = Head.codes (View.ld x0 r0_40) := rfl

theorem codes_21 : k0_pay237 (k0_pay449 x0) (k0_pay450 x0) (k0_pay451 x0) 1#32 = Head.codes (View.ld x0 r0_42) := rfl

theorem codes_22 : k0_pay248 (k0_pay452 x0) (k0_pay456 x0) = Head.codes (View.ld x0 r0_44) := rfl

theorem codes_23 : k0_pay257 (k0_pay457 x0) (k0_pay458 x0) (k0_pay459 x0) (k0_pay460 x0) 23#32 = Head.codes (View.ld x0 r0_46) := rfl

theorem codes_24 : k0_pay268 (k0_pay461 x0) (k0_pay462 x0) = Head.codes (View.ld x0 r0_48) := rfl

theorem codes_25 : k0_pay279 (k0_pay463 x0) (k0_pay465 x0) (k0_pay466 x0) (k0_pay467 x0) (k0_pay468 x0) = Head.codes (View.ld x0 r0_50) := rfl

theorem codes_26 : k0_pay290 (k0_pay469 x0) (k0_pay472 x0) (k0_pay473 x0) = Head.codes (View.ld x0 r0_52) := rfl

theorem codes_27 : k0_pay299 (k0_pay298 (k0_pay474 x0) (k0_pay475 x0) (k0_pay476 x0) 4#32) = Head.codes (View.ld x0 r0_54) := rfl

theorem codes_28 : k0_pay309 (k0_pay477 x0) (k0_pay478 x0) 0#32 = Head.codes (View.ld x0 r0_56) := rfl

theorem codes_29 : k0_pay322 (k0_pay482 x0) (Scalar.ofBits .f32 0x43E00000#32) (k0_pay483 x0) = Head.codes (View.ld x0 r0_58) := rfl

theorem codes_30 : k0_pay334 (k0_pay484 x0) (k0_pay485 x0) (k0_pay489 x0) (k0_pay490 x0) 23#32 = Head.codes (View.ld x0 r0_60) := rfl

theorem codes_31 : k0_pay347 (k0_pay491 x0) (k0_pay496 x0) = Head.codes (View.ld x0 r0_62) := rfl

theorem out1 : out0_1 x0 = View.canon (s := S1x128x8192) (e := .fp8e4m3) [
    ⟨r0_62, Head.codes (View.ld x0 r0_62)⟩,
    ⟨r0_60, Head.codes (View.ld x0 r0_60)⟩,
    ⟨r0_58, Head.codes (View.ld x0 r0_58)⟩,
    ⟨r0_56, Head.codes (View.ld x0 r0_56)⟩,
    ⟨r0_54, Head.codes (View.ld x0 r0_54)⟩,
    ⟨r0_52, Head.codes (View.ld x0 r0_52)⟩,
    ⟨r0_50, Head.codes (View.ld x0 r0_50)⟩,
    ⟨r0_48, Head.codes (View.ld x0 r0_48)⟩,
    ⟨r0_46, Head.codes (View.ld x0 r0_46)⟩,
    ⟨r0_44, Head.codes (View.ld x0 r0_44)⟩,
    ⟨r0_42, Head.codes (View.ld x0 r0_42)⟩,
    ⟨r0_40, Head.codes (View.ld x0 r0_40)⟩,
    ⟨r0_38, Head.codes (View.ld x0 r0_38)⟩,
    ⟨r0_36, Head.codes (View.ld x0 r0_36)⟩,
    ⟨r0_34, Head.codes (View.ld x0 r0_34)⟩,
    ⟨r0_32, Head.codes (View.ld x0 r0_32)⟩,
    ⟨r0_30, Head.codes (View.ld x0 r0_30)⟩,
    ⟨r0_28, Head.codes (View.ld x0 r0_28)⟩,
    ⟨r0_26, Head.codes (View.ld x0 r0_26)⟩,
    ⟨r0_24, Head.codes (View.ld x0 r0_24)⟩,
    ⟨r0_22, Head.codes (View.ld x0 r0_22)⟩,
    ⟨r0_20, Head.codes (View.ld x0 r0_20)⟩,
    ⟨r0_18, Head.codes (View.ld x0 r0_18)⟩,
    ⟨r0_16, Head.codes (View.ld x0 r0_16)⟩,
    ⟨r0_14, Head.codes (View.ld x0 r0_14)⟩,
    ⟨r0_12, Head.codes (View.ld x0 r0_12)⟩,
    ⟨r0_10, Head.codes (View.ld x0 r0_10)⟩,
    ⟨r0_8, Head.codes (View.ld x0 r0_8)⟩,
    ⟨r0_6, Head.codes (View.ld x0 r0_6)⟩,
    ⟨r0_4, Head.codes (View.ld x0 r0_4)⟩,
    ⟨r0_2, Head.codes (View.ld x0 r0_2)⟩,
    ⟨r0_0, Head.codes (View.ld x0 r0_0)⟩] := by
  unfold out0_1
  rw [codes_0, codes_1, codes_2, codes_3, codes_4, codes_5, codes_6, codes_7, codes_8, codes_9, codes_10, codes_11, codes_12, codes_13, codes_14, codes_15, codes_16, codes_17, codes_18, codes_19, codes_20, codes_21, codes_22, codes_23, codes_24, codes_25, codes_26, codes_27, codes_28, codes_29, codes_30, codes_31]

end Cert.QuantiseTIdeal.Heads

end
-- ==== Proof.Quant.QuantiseTIdealCodesT.lean ====
module

public import proofs.«01_k».proof.Proof.Quant.Head
public import proofs.«01_k».proof.Proof.Gen.QuantiseTIdeal.Frame

/-! # The transposed codes of the 32 heads in `QuantiseTIdeal`

Each of the 32 stores of transposed codes holds its head's `Head.codesT`. -/

@[expose] public section

set_option maxRecDepth 16384

noncomputable section

namespace Cert.QuantiseTIdeal.Heads

open Idealize.ShloMosaic
open Cert.QuantiseTIdeal Cert.QuantiseTIdeal.Gen

variable {F : FTy → Type} [FloatOps F] (x0 : Vec F S1x128x8192 .bf16)

theorem codesT_0 : k0_pay10 (k0_pay354 x0) = Head.codesT (View.ld x0 r0_0) := rfl

theorem codesT_1 : k0_pay20 (k0_pay355 x0) (k0_pay356 x0) (k0_pay357 x0) 1#32 = Head.codesT (View.ld x0 r0_2) := rfl

theorem codesT_2 : k0_pay31 (k0_pay358 x0) (k0_pay362 x0) = Head.codesT (View.ld x0 r0_4) := rfl

theorem codesT_3 : k0_pay41 (k0_pay40 (k0_pay363 x0) (k0_pay364 x0) (k0_pay365 x0) (k0_pay366 x0) 23#32) = Head.codesT (View.ld x0 r0_6) := rfl

theorem codesT_4 : k0_pay51 (k0_pay367 x0) (k0_pay368 x0) = Head.codesT (View.ld x0 r0_8) := rfl

theorem codesT_5 : k0_pay63 (k0_pay62 (k0_pay369 x0) (k0_pay371 x0) (k0_pay372 x0) (k0_pay373 x0) (k0_pay374 x0)) = Head.codesT (View.ld x0 r0_10) := rfl

theorem codesT_6 : k0_pay73 (k0_pay375 x0) (k0_pay378 x0) (k0_pay379 x0) = Head.codesT (View.ld x0 r0_12) := rfl

theorem codesT_7 : k0_pay82 (k0_pay79 (k0_pay380 x0) (k0_pay381 x0) (k0_pay382 x0) 4#32) = Head.codesT (View.ld x0 r0_14) := rfl

theorem codesT_8 : k0_pay92 (k0_pay383 x0) (k0_pay384 x0) 0#32 = Head.codesT (View.ld x0 r0_16) := rfl

theorem codesT_9 : k0_pay105 (k0_pay388 x0) (Scalar.ofBits .f32 0x43E00000#32) (k0_pay389 x0) = Head.codesT (View.ld x0 r0_18) := rfl

theorem codesT_10 : k0_pay117 (k0_pay390 x0) (k0_pay391 x0) (k0_pay395 x0) (k0_pay396 x0) 23#32 = Head.codesT (View.ld x0 r0_20) := rfl

theorem codesT_11 : k0_pay130 (k0_pay397 x0) (k0_pay402 x0) = Head.codesT (View.ld x0 r0_22) := rfl

theorem codesT_12 : k0_pay141 (k0_pay403 x0) (k0_pay404 x0) (k0_pay406 x0) (k0_pay407 x0) (k0_pay408 x0) = Head.codesT (View.ld x0 r0_24) := rfl

theorem codesT_13 : k0_pay150 (k0_pay409 x0) (k0_pay412 x0) = Head.codesT (View.ld x0 r0_26) := rfl

theorem codesT_14 : k0_pay160 (k0_pay159 (k0_pay413 x0) (k0_pay415 x0) (k0_pay416 x0) 2#32) = Head.codesT (View.ld x0 r0_28) := rfl

theorem codesT_15 : k0_pay172 (k0_pay417 x0) (k0_pay421 x0) (k0_pay422 x0) = Head.codesT (View.ld x0 r0_30) := rfl

theorem codesT_16 : k0_pay183 (k0_pay180 (k0_pay423 x0) (k0_pay425 x0) (k0_pay426 x0) (k0_pay427 x0) 23#32) = Head.codesT (View.ld x0 r0_32) := rfl

theorem codesT_17 : k0_pay195 (k0_pay428 x0) (k0_pay433 x0) (k0_pay434 x0) 255#32 = Head.codesT (View.ld x0 r0_34) := rfl

theorem codesT_18 : k0_pay205 (k0_pay439 x0) = Head.codesT (View.ld x0 r0_36) := rfl

theorem codesT_19 : k0_pay216 (k0_pay440 x0) (k0_pay441 x0) (k0_pay443 x0) (k0_pay444 x0) (k0_pay445 x0) = Head.codesT (View.ld x0 r0_38) := rfl

theorem codesT_20 : k0_pay228 (k0_pay448 x0) = Head.codesT (View.ld x0 r0_40) := rfl

theorem codesT_21 : k0_pay238 (k0_pay449 x0) (k0_pay450 x0) (k0_pay451 x0) 1#32 = Head.codesT (View.ld x0 r0_42) := rfl

theorem codesT_22 : k0_pay249 (k0_pay452 x0) (k0_pay456 x0) = Head.codesT (View.ld x0 r0_44) := rfl

theorem codesT_23 : k0_pay259 (k0_pay258 (k0_pay457 x0) (k0_pay458 x0) (k0_pay459 x0) (k0_pay460 x0) 23#32) = Head.codesT (View.ld x0 r0_46) := rfl

theorem codesT_24 : k0_pay269 (k0_pay461 x0) (k0_pay462 x0) = Head.codesT (View.ld x0 r0_48) := rfl

theorem codesT_25 : k0_pay281 (k0_pay280 (k0_pay463 x0) (k0_pay465 x0) (k0_pay466 x0) (k0_pay467 x0) (k0_pay468 x0)) = Head.codesT (View.ld x0 r0_50) := rfl

theorem codesT_26 : k0_pay291 (k0_pay469 x0) (k0_pay472 x0) (k0_pay473 x0) = Head.codesT (View.ld x0 r0_52) := rfl

theorem codesT_27 : k0_pay300 (k0_pay297 (k0_pay474 x0) (k0_pay475 x0) (k0_pay476 x0) 4#32) = Head.codesT (View.ld x0 r0_54) := rfl

theorem codesT_28 : k0_pay310 (k0_pay477 x0) (k0_pay478 x0) 0#32 = Head.codesT (View.ld x0 r0_56) := rfl

theorem codesT_29 : k0_pay323 (k0_pay482 x0) (Scalar.ofBits .f32 0x43E00000#32) (k0_pay483 x0) = Head.codesT (View.ld x0 r0_58) := rfl

theorem codesT_30 : k0_pay335 (k0_pay484 x0) (k0_pay485 x0) (k0_pay489 x0) (k0_pay490 x0) 23#32 = Head.codesT (View.ld x0 r0_60) := rfl

theorem codesT_31 : k0_pay348 (k0_pay491 x0) (k0_pay496 x0) = Head.codesT (View.ld x0 r0_62) := rfl

theorem out3 : out0_3 x0 = View.canon (s := S1x32x1x256x128) (e := .fp8e4m3) [
    ⟨r0_63, Head.codesT (View.ld x0 r0_62)⟩,
    ⟨r0_61, Head.codesT (View.ld x0 r0_60)⟩,
    ⟨r0_59, Head.codesT (View.ld x0 r0_58)⟩,
    ⟨r0_57, Head.codesT (View.ld x0 r0_56)⟩,
    ⟨r0_55, Head.codesT (View.ld x0 r0_54)⟩,
    ⟨r0_53, Head.codesT (View.ld x0 r0_52)⟩,
    ⟨r0_51, Head.codesT (View.ld x0 r0_50)⟩,
    ⟨r0_49, Head.codesT (View.ld x0 r0_48)⟩,
    ⟨r0_47, Head.codesT (View.ld x0 r0_46)⟩,
    ⟨r0_45, Head.codesT (View.ld x0 r0_44)⟩,
    ⟨r0_43, Head.codesT (View.ld x0 r0_42)⟩,
    ⟨r0_41, Head.codesT (View.ld x0 r0_40)⟩,
    ⟨r0_39, Head.codesT (View.ld x0 r0_38)⟩,
    ⟨r0_37, Head.codesT (View.ld x0 r0_36)⟩,
    ⟨r0_35, Head.codesT (View.ld x0 r0_34)⟩,
    ⟨r0_33, Head.codesT (View.ld x0 r0_32)⟩,
    ⟨r0_31, Head.codesT (View.ld x0 r0_30)⟩,
    ⟨r0_29, Head.codesT (View.ld x0 r0_28)⟩,
    ⟨r0_27, Head.codesT (View.ld x0 r0_26)⟩,
    ⟨r0_25, Head.codesT (View.ld x0 r0_24)⟩,
    ⟨r0_23, Head.codesT (View.ld x0 r0_22)⟩,
    ⟨r0_21, Head.codesT (View.ld x0 r0_20)⟩,
    ⟨r0_19, Head.codesT (View.ld x0 r0_18)⟩,
    ⟨r0_17, Head.codesT (View.ld x0 r0_16)⟩,
    ⟨r0_15, Head.codesT (View.ld x0 r0_14)⟩,
    ⟨r0_13, Head.codesT (View.ld x0 r0_12)⟩,
    ⟨r0_11, Head.codesT (View.ld x0 r0_10)⟩,
    ⟨r0_9, Head.codesT (View.ld x0 r0_8)⟩,
    ⟨r0_7, Head.codesT (View.ld x0 r0_6)⟩,
    ⟨r0_5, Head.codesT (View.ld x0 r0_4)⟩,
    ⟨r0_3, Head.codesT (View.ld x0 r0_2)⟩,
    ⟨r0_1, Head.codesT (View.ld x0 r0_0)⟩] := by
  unfold out0_3
  rw [codesT_0, codesT_1, codesT_2, codesT_3, codesT_4, codesT_5, codesT_6, codesT_7, codesT_8, codesT_9, codesT_10, codesT_11, codesT_12, codesT_13, codesT_14, codesT_15, codesT_16, codesT_17, codesT_18, codesT_19, codesT_20, codesT_21, codesT_22, codesT_23, codesT_24, codesT_25, codesT_26, codesT_27, codesT_28, codesT_29, codesT_30, codesT_31]

end Cert.QuantiseTIdeal.Heads

end
-- ==== Proof.Quant.QuantiseTIdealScales.lean ====
module

public import proofs.«01_k».proof.Proof.Quant.Head
public import proofs.«01_k».proof.Proof.Gen.QuantiseTIdeal.Frame

/-! # The row of scales in `QuantiseTIdeal`

The one store of scales holds the row in which the 32 heads' scales were put one after the other. -/

@[expose] public section

set_option maxRecDepth 16384

noncomputable section

namespace Cert.QuantiseTIdeal.Heads

open Idealize.ShloMosaic
open Cert.QuantiseTIdeal Cert.QuantiseTIdeal.Gen

variable {F : FTy → Type} [FloatOps F] (x0 : Vec F S1x128x8192 .bf16)

theorem out2 : out0_2 x0 = View.canon (s := S1x1x1x32) (e := .f32) [⟨r0_64, shapeCast S1x1x1x32
    (Head.put 31#32 (View.ld x0 r0_62)
      (Head.put 30#32 (View.ld x0 r0_60)
      (Head.put 29#32 (View.ld x0 r0_58)
      (Head.put 28#32 (View.ld x0 r0_56)
      (Head.put 27#32 (View.ld x0 r0_54)
      (Head.put 26#32 (View.ld x0 r0_52)
      (Head.put 25#32 (View.ld x0 r0_50)
      (Head.put 24#32 (View.ld x0 r0_48)
      (Head.put 23#32 (View.ld x0 r0_46)
      (Head.put 22#32 (View.ld x0 r0_44)
      (Head.put 21#32 (View.ld x0 r0_42)
      (Head.put 20#32 (View.ld x0 r0_40)
      (Head.put 19#32 (View.ld x0 r0_38)
      (Head.put 18#32 (View.ld x0 r0_36)
      (Head.put 17#32 (View.ld x0 r0_34)
      (Head.put 16#32 (View.ld x0 r0_32)
      (Head.put 15#32 (View.ld x0 r0_30)
      (Head.put 14#32 (View.ld x0 r0_28)
      (Head.put 13#32 (View.ld x0 r0_26)
      (Head.put 12#32 (View.ld x0 r0_24)
      (Head.put 11#32 (View.ld x0 r0_22)
      (Head.put 10#32 (View.ld x0 r0_20)
      (Head.put 9#32 (View.ld x0 r0_18)
      (Head.put 8#32 (View.ld x0 r0_16)
      (Head.put 7#32 (View.ld x0 r0_14)
      (Head.put 6#32 (View.ld x0 r0_12)
      (Head.put 5#32 (View.ld x0 r0_10)
      (Head.put 4#32 (View.ld x0 r0_8)
      (Head.put 3#32 (View.ld x0 r0_6)
      (Head.put 2#32 (View.ld x0 r0_4)
      (Head.put 1#32 (View.ld x0 r0_2)
      (Head.put 0#32 (View.ld x0 r0_0)
      (broadcast S1x32 (Scalar.ofBits .f32 0x00000000#32)))))))))))))))))))))))))))))))))) shapeCasts_S1x32_S1x1x1x32⟩] := rfl

end Cert.QuantiseTIdeal.Heads

end
-- ==== Proof.Quant.QuantiseTIdealBlock.lean ====
module

public import proofs.«01_k».proof.Proof.Quant.QuantiseTIdealTiles
public import proofs.«01_k».proof.Proof.Quant.QuantiseTIdealCodes
public import proofs.«01_k».proof.Proof.Quant.QuantiseTIdealCodesT
public import proofs.«01_k».proof.Proof.Quant.QuantiseTIdealScales
public import proofs.«01_k».proof.Proof.Quant.HeadAt
public import proofs.«01_k».proof.Proof.Gen.QuantiseTIdeal.Frame

/-! # The block of codes in `QuantiseTIdeal`

What the body leaves in its blocks of codes, for every row and column. -/

@[expose] public section

set_option maxRecDepth 16384

noncomputable section

namespace Cert.QuantiseTIdeal.Heads

open Idealize.ShloMosaic Idealize.ShloMosaic.Pointwise
open Cert.QuantiseTIdeal Cert.QuantiseTIdeal.Gen

variable {F : FTy → Type} [FloatOps F] (x0 : Vec F S1x128x8192 .bf16)

theorem codes_at (y : S1x128x8192.Idx) : out0_1 x0 y = Head.blockCodes x0 y := by
  rw [out1, tile_0, tile_1, tile_2, tile_3, tile_4, tile_5, tile_6, tile_7, tile_8, tile_9, tile_10, tile_11, tile_12, tile_13, tile_14, tile_15, tile_16, tile_17, tile_18, tile_19, tile_20, tile_21, tile_22, tile_23, tile_24, tile_25, tile_26, tile_27, tile_28, tile_29, tile_30, tile_31]
  canon_tiles x h
  · exact Head.codes_piece x0 31 x y (by omega) (h2.trans (by omega))
  · exact Head.codes_piece x0 30 x y (by omega) (h2.trans (by omega))
  · exact Head.codes_piece x0 29 x y (by omega) (h2.trans (by omega))
  · exact Head.codes_piece x0 28 x y (by omega) (h2.trans (by omega))
  · exact Head.codes_piece x0 27 x y (by omega) (h2.trans (by omega))
  · exact Head.codes_piece x0 26 x y (by omega) (h2.trans (by omega))
  · exact Head.codes_piece x0 25 x y (by omega) (h2.trans (by omega))
  · exact Head.codes_piece x0 24 x y (by omega) (h2.trans (by omega))
  · exact Head.codes_piece x0 23 x y (by omega) (h2.trans (by omega))
  · exact Head.codes_piece x0 22 x y (by omega) (h2.trans (by omega))
  · exact Head.codes_piece x0 21 x y (by omega) (h2.trans (by omega))
  · exact Head.codes_piece x0 20 x y (by omega) (h2.trans (by omega))
  · exact Head.codes_piece x0 19 x y (by omega) (h2.trans (by omega))
  · exact Head.codes_piece x0 18 x y (by omega) (h2.trans (by omega))
  · exact Head.codes_piece x0 17 x y (by omega) (h2.trans (by omega))
  · exact Head.codes_piece x0 16 x y (by omega) (h2.trans (by omega))
  · exact Head.codes_piece x0 15 x y (by omega) (h2.trans (by omega))
  · exact Head.codes_piece x0 14 x y (by omega) (h2.trans (by omega))
  · exact Head.codes_piece x0 13 x y (by omega) (h2.trans (by omega))
  · exact Head.codes_piece x0 12 x y (by omega) (h2.trans (by omega))
  · exact Head.codes_piece x0 11 x y (by omega) (h2.trans (by omega))
  · exact Head.codes_piece x0 10 x y (by omega) (h2.trans (by omega))
  · exact Head.codes_piece x0 9 x y (by omega) (h2.trans (by omega))
  · exact Head.codes_piece x0 8 x y (by omega) (h2.trans (by omega))
  · exact Head.codes_piece x0 7 x y (by omega) (h2.trans (by omega))
  · exact Head.codes_piece x0 6 x y (by omega) (h2.trans (by omega))
  · exact Head.codes_piece x0 5 x y (by omega) (h2.trans (by omega))
  · exact Head.codes_piece x0 4 x y (by omega) (h2.trans (by omega))
  · exact Head.codes_piece x0 3 x y (by omega) (h2.trans (by omega))
  · exact Head.codes_piece x0 2 x y (by omega) (h2.trans (by omega))
  · exact Head.codes_piece x0 1 x y (by omega) (h2.trans (by omega))
  · exact Head.codes_piece x0 0 x y (by omega) (h2.trans (by omega))

theorem codesT_at (y : S1x32x1x256x128.Idx) : out0_3 x0 y = Head.blockCodesT x0 y := by
  rw [out3, tile_0, tile_1, tile_2, tile_3, tile_4, tile_5, tile_6, tile_7, tile_8, tile_9, tile_10, tile_11, tile_12, tile_13, tile_14, tile_15, tile_16, tile_17, tile_18, tile_19, tile_20, tile_21, tile_22, tile_23, tile_24, tile_25, tile_26, tile_27, tile_28, tile_29, tile_30, tile_31]
  canon_tiles x h
  · exact Head.codesT_piece x0 31 x y (by omega) (by omega) (by omega)
  · exact Head.codesT_piece x0 30 x y (by omega) (by omega) (by omega)
  · exact Head.codesT_piece x0 29 x y (by omega) (by omega) (by omega)
  · exact Head.codesT_piece x0 28 x y (by omega) (by omega) (by omega)
  · exact Head.codesT_piece x0 27 x y (by omega) (by omega) (by omega)
  · exact Head.codesT_piece x0 26 x y (by omega) (by omega) (by omega)
  · exact Head.codesT_piece x0 25 x y (by omega) (by omega) (by omega)
  · exact Head.codesT_piece x0 24 x y (by omega) (by omega) (by omega)
  · exact Head.codesT_piece x0 23 x y (by omega) (by omega) (by omega)
  · exact Head.codesT_piece x0 22 x y (by omega) (by omega) (by omega)
  · exact Head.codesT_piece x0 21 x y (by omega) (by omega) (by omega)
  · exact Head.codesT_piece x0 20 x y (by omega) (by omega) (by omega)
  · exact Head.codesT_piece x0 19 x y (by omega) (by omega) (by omega)
  · exact Head.codesT_piece x0 18 x y (by omega) (by omega) (by omega)
  · exact Head.codesT_piece x0 17 x y (by omega) (by omega) (by omega)
  · exact Head.codesT_piece x0 16 x y (by omega) (by omega) (by omega)
  · exact Head.codesT_piece x0 15 x y (by omega) (by omega) (by omega)
  · exact Head.codesT_piece x0 14 x y (by omega) (by omega) (by omega)
  · exact Head.codesT_piece x0 13 x y (by omega) (by omega) (by omega)
  · exact Head.codesT_piece x0 12 x y (by omega) (by omega) (by omega)
  · exact Head.codesT_piece x0 11 x y (by omega) (by omega) (by omega)
  · exact Head.codesT_piece x0 10 x y (by omega) (by omega) (by omega)
  · exact Head.codesT_piece x0 9 x y (by omega) (by omega) (by omega)
  · exact Head.codesT_piece x0 8 x y (by omega) (by omega) (by omega)
  · exact Head.codesT_piece x0 7 x y (by omega) (by omega) (by omega)
  · exact Head.codesT_piece x0 6 x y (by omega) (by omega) (by omega)
  · exact Head.codesT_piece x0 5 x y (by omega) (by omega) (by omega)
  · exact Head.codesT_piece x0 4 x y (by omega) (by omega) (by omega)
  · exact Head.codesT_piece x0 3 x y (by omega) (by omega) (by omega)
  · exact Head.codesT_piece x0 2 x y (by omega) (by omega) (by omega)
  · exact Head.codesT_piece x0 1 x y (by omega) (by omega) (by omega)
  · exact Head.codesT_piece x0 0 x y (by omega) (by omega) (by omega)

theorem scales_at (x0 : Vec Ideal S1x128x8192 .bf16) (y : S1x1x1x32.Idx) : out0_2 x0 y = Head.blockScales x0 y := by
  rw [out2, tile_0, tile_1, tile_2, tile_3, tile_4, tile_5, tile_6, tile_7, tile_8, tile_9, tile_10, tile_11, tile_12, tile_13, tile_14, tile_15, tile_16, tile_17, tile_18, tile_19, tile_20, tile_21, tile_22, tile_23, tile_24, tile_25, tile_26, tile_27, tile_28, tile_29, tile_30, tile_31]
  canon_tiles x h
  exact Head.scales_piece x0 _ x y (by omega)

end Cert.QuantiseTIdeal.Heads

end
-- ==== Proof.Quant.QuantiseTIdealArray.lean ====
module

public import proofs.«01_k».proof.Proof.Quant.QuantiseTIdealBlock
public import proofs.«01_k».proof.Proof.Quant.Result
public import Idealize.ShloMosaic.Lib.Pipeline.Covers

/-! # The arrays `QuantiseTIdeal` leaves

The grid runs over batches and blocks of 128 rows. At every point the blocks of the results are written whole, and they cover the
arrays. -/

@[expose] public section

set_option maxRecDepth 16384

noncomputable section

namespace Cert.QuantiseTIdeal.Heads

open Idealize.ShloMosaic Idealize.ShloMosaic.Pointwise Idealize.ShloMosaic.TcCoe
open Cert.QuantiseTIdeal Cert.QuantiseTIdeal.Gen

variable (m : (ℓ : Loc nD τ sig) → Buf (Elt Ideal) ℓ) (c : Dev nD) (t : Fin cfg0.N)

/-- A coordinate read as a 32-bit word is the coordinate. -/
theorem word_nat {n k : ℕ} (h : n < k) (hk : k ≤ 128) : (BitVec.ofNat 32 n).toNat = n := by
  rw [BitVec.toNat_ofNat]; exact Nat.mod_eq_of_lt (by norm_num; omega)

/-- The block index of each array, from the point's coordinates. -/
theorem idx : win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0, 0]
    ∧ win0_3.index t = ![(grid0.coords t 0).val, 0, (grid0.coords t 1).val, 0, 0] := by
  have h0 : (BitVec.ofNat 32 (grid0.coords t 0).val).toNat = (grid0.coords t 0).val := word_nat (grid0.coords t 0).isLt (by decide)
  have h1 : (BitVec.ofNat 32 (grid0.coords t 1).val).toNat = (grid0.coords t 1).val := word_nat (grid0.coords t 1).isLt (by decide)
  refine ⟨?_, ?_, ?_, ?_⟩
  · show cc0_transform_0 (grid0.coords t) = _
    unfold cc0_transform_0; dsimp only; rw [h0, h1]; rfl
  · show cc0_transform_1 (grid0.coords t) = _
    unfold cc0_transform_1; dsimp only; rw [h0, h1]; rfl
  · show cc0_transform_2 (grid0.coords t) = _
    unfold cc0_transform_2; dsimp only; rw [h0, h1]; rfl
  · show cc0_transform_3 (grid0.coords t) = _
    unfold cc0_transform_3; dsimp only; rw [h0, h1]; rfl

/-- The block of rows a grid point reads. -/
theorem iblk0 (r : Fin 128) (x : Fin 8192) : iblk m c 0 t (ix3 0 r x)
    = m ((c : Thread nD τ).loc main_arg0) (ix3 (grid0.coords t 0)
      ⟨128 * (grid0.coords t 1).val + r.val, by have : (grid0.coords t 1).val < 128 := (grid0.coords t 1).isLt; omega⟩ x) := by
  blk_ext [iblk, V, idx t]

/-- Every batch and block is some grid point's. -/
theorem point_exists (b : Fin 2) (n : Fin 128) : ∃ t : Fin grid0.N, (grid0.coords t 0).val = b.val ∧ (grid0.coords t 1).val = n.val :=
  (grid0.coords_surjective (fun a => match a with | ⟨0, _⟩ => b | ⟨1, _⟩ => n)).elim fun t ht =>
    ⟨t, congrArg Fin.val (congrFun ht 0), congrArg Fin.val (congrFun ht 1)⟩

theorem index1_surjective (β : (a : Fin 3) → Fin (win0_1.nblk a)) : ∃ t : Fin grid0.N, ∀ a, win0_1.index t a = β a :=
  (point_exists ⟨(β 0).val, (β 0).isLt⟩ ⟨(β 1).val, (β 1).isLt⟩).elim fun t ht =>
    ⟨t, fun a => match a with
      | ⟨0, _⟩ => (congrFun (idx t).2.1 0).trans ht.1
      | ⟨1, _⟩ => (congrFun (idx t).2.1 1).trans ht.2
      | ⟨2, _⟩ => (congrFun (idx t).2.1 2).trans (Nat.lt_one_iff.mp (β 2).isLt).symm⟩

theorem covers1 : (cfg0.win 1).Covers :=
  Pipeline.Window.covers_of_index_surj win0_1 rfl (by decide) index1_surjective

theorem index2_surjective (β : (a : Fin 4) → Fin (win0_2.nblk a)) : ∃ t : Fin grid0.N, ∀ a, win0_2.index t a = β a :=
  (point_exists ⟨(β 0).val, (β 0).isLt⟩ ⟨(β 1).val, (β 1).isLt⟩).elim fun t ht =>
    ⟨t, fun a => match a with
      | ⟨0, _⟩ => (congrFun (idx t).2.2.1 0).trans ht.1
      | ⟨1, _⟩ => (congrFun (idx t).2.2.1 1).trans ht.2
      | ⟨2, _⟩ => (congrFun (idx t).2.2.1 2).trans (Nat.lt_one_iff.mp (β 2).isLt).symm
      | ⟨3, _⟩ => (congrFun (idx t).2.2.1 3).trans (Nat.lt_one_iff.mp (β 3).isLt).symm⟩

theorem covers2 : (cfg0.win 2).Covers :=
  Pipeline.Window.covers_of_index_surj win0_2 rfl (by decide) index2_surjective

theorem index3_surjective (β : (a : Fin 5) → Fin (win0_3.nblk a)) : ∃ t : Fin grid0.N, ∀ a, win0_3.index t a = β a :=
  (point_exists ⟨(β 0).val, (β 0).isLt⟩ ⟨(β 2).val, (β 2).isLt⟩).elim fun t ht =>
    ⟨t, fun a => match a with
      | ⟨0, _⟩ => (congrFun (idx t).2.2.2 0).trans ht.1
      | ⟨1, _⟩ => (congrFun (idx t).2.2.2 1).trans (Nat.lt_one_iff.mp (β 1).isLt).symm
      | ⟨2, _⟩ => (congrFun (idx t).2.2.2 2).trans ht.2
      | ⟨3, _⟩ => (congrFun (idx t).2.2.2 3).trans (Nat.lt_one_iff.mp (β 3).isLt).symm
      | ⟨4, _⟩ => (congrFun (idx t).2.2.2 4).trans (Nat.lt_one_iff.mp (β 4).isLt).symm⟩

theorem covers3 : (cfg0.win 3).Covers :=
  Pipeline.Window.covers_of_index_surj win0_3 rfl (by decide) index3_surjective

/-- THE ARRAY of codes. -/
theorem final1 : (dats m 0 c).arrAt 1 cfg0.N = Blocks.codes (m ((c : Thread nD τ).loc main_arg0)) := by
  refine (dats m 0 c).arrAt_eq_of_covers 1 _ covers1 fun t hf y => ?_
  blk_simp
  rw [after0_1]
  refine (codes_at _ y).trans (Blocks.codes_of (b := grid0.coords t 0) (n := grid0.coords t 1) (iblk0 m c t) y _ ?_ ?_ ?_)
  all_goals (blk_simp [idx t] <;> try omega)

/-- THE ARRAY of scales. -/
theorem final2 : (dats m 0 c).arrAt 2 cfg0.N = Blocks.scales (m ((c : Thread nD τ).loc main_arg0)) := by
  refine (dats m 0 c).arrAt_eq_of_covers 2 _ covers2 fun t hf y => ?_
  blk_simp
  rw [after0_2]
  refine (scales_at _ y).trans (Blocks.scales_of (b := grid0.coords t 0) (n := grid0.coords t 1) (iblk0 m c t) y _ ?_ ?_ ?_)
  all_goals (blk_simp [idx t] <;> try omega)

/-- THE ARRAY of transposed codes. -/
theorem final3 : (dats m 0 c).arrAt 3 cfg0.N = Blocks.codesT (m ((c : Thread nD τ).loc main_arg0)) := by
  refine (dats m 0 c).arrAt_eq_of_covers 3 _ covers3 fun t hf y => ?_
  blk_simp
  rw [after0_3]
  refine (codesT_at _ y).trans (Blocks.codesT_of (b := grid0.coords t 0) (n := grid0.coords t 1) (iblk0 m c t) y _ ?_ ?_ ?_ ?_ ?_)
  all_goals (blk_simp [idx t] <;> try omega)

end Cert.QuantiseTIdeal.Heads

end
-- ==== Proof.Quant.QuantiseTClaim.lean ====
module

public import proofs.«01_k».proof.Defs
public import proofs.«01_k».proof.Proof.Quant.QuantiseTIdealArray
public import proofs.«01_k».proof.Proof.Quant.Reference
public import proofs.«01_k».proof.Proof.Quant.Precondition
public import proofs.«01_k».proof.Proof.Gen.QuantiseTReferenceIdeal
public import Idealize.ShloMosaic.Lib.Claim
public import Idealize.ShloMosaic.Lib.Quiescent
public import Idealize.ShloMosaic.Lib.Tactic.CleanTypes

/-! # The transposing quantise call returns what its reference returns -/

@[expose] public section

set_option maxRecDepth 16384

noncomputable section

namespace Cert.QuantiseTIdealValue

open Idealize.ShloMosaic Idealize.SL.Sem

set_option maxHeartbeats 3200000 in
/-- A run of the reference leaves the argument in place. -/
theorem frame : Cert.quiescent_QuantiseTReferenceIdeal (hQuantiseTReferenceIdeal := Cert.QuantiseTReferenceIdeal.Gen.facts) := by
  intro m g _
  hlo_run
  · exact fun _ => trivial
  · exact sem_eq_zero_of_no_sems (sig := Cert.QuantiseTReferenceIdeal.sig) (by rfl) _

set_option maxHeartbeats 3200000 in
/-- The same, with the precondition. -/
theorem frame_pre : Cert.quiescent_QuantiseTReferenceIdeal_pre_blocks_in_range (hQuantiseTReferenceIdeal := Cert.QuantiseTReferenceIdeal.Gen.facts)
    (hPre_blocks_in_range := Cert.Pre_blocks_in_range.Gen.facts) := by
  intro m g _
  hlo_run
  · exact fun _ => trivial
  · exact sem_eq_zero_of_no_sems (sig := Cert.QuantiseTReferenceIdeal.sig) (by rfl) _

set_option maxHeartbeats 3200000 in
/-- With every block in range, the results agree. -/
theorem algebraic : Cert.algebraic_QuantiseTIdeal_QuantiseTReferenceIdeal_pre_blocks_in_range (hQuantiseTIdeal := Cert.QuantiseTIdeal.Gen.facts)
    (hQuantiseTReferenceIdeal := Cert.QuantiseTReferenceIdeal.Gen.facts) (hPre_blocks_in_range := Cert.Pre_blocks_in_range.Gen.facts) := by
  pair_intro
  · run_from Cert.QuantiseTIdeal.Gen.run_main m g
  · hlo_run
    all_goals simp -implicitDefEqProofs only [StableHlo.TRef.toBuf, StableHlo.TRef.ofBuf, cast_cast, cast_eq]
    all_goals clean_types
    · have hok : Blocks.Ok (m ((c.tc : Thread _ _).loc QuantiseTIdeal.main_arg0)) := Blocks.ok _ (hpre c)
      refine Eq.trans ?_ (QuantiseTIdeal.Heads.final1 m c).symm
      generalize m ((c.tc : Thread _ _).loc QuantiseTIdeal.main_arg0) = X at hok ⊢
      have k := Blocks.codes_eq QuantiseTReferenceIdeal.Gen.bitsLt_bf16_f32 QuantiseTReferenceIdeal.Gen.shapeCasts_S2x16384x8192_S2x128x128x32x256 QuantiseTReferenceIdeal.Gen.reducesTo_S2x128x128x32x256_S2x128x32_d2_4 QuantiseTReferenceIdeal.Gen.h_S_
        QuantiseTReferenceIdeal.Gen.bcast_S2x128x32_S2x128x1x32x1_0_1_3 QuantiseTReferenceIdeal.Gen.bcast_S_S2x128x1x32x1 QuantiseTReferenceIdeal.Gen.bcast_S2x128x1x32x1_S2x128x128x32x256_0_1_2_3_4 QuantiseTReferenceIdeal.Gen.bcast_S_S2x128x128x32x256 hok QuantiseTReferenceIdeal.Gen.shapeCasts_S2x128x128x32x256_S2x16384x8192
      unfold Blocks.coded Blocks.codes5 Blocks.pows Blocks.exponents Blocks.expos Blocks.peaks Blocks.split Blocks.logTwo at k
      exact k
    · have hok : Blocks.Ok (m ((c.tc : Thread _ _).loc QuantiseTIdeal.main_arg0)) := Blocks.ok _ (hpre c)
      refine Eq.trans ?_ (QuantiseTIdeal.Heads.final2 m c).symm
      generalize m ((c.tc : Thread _ _).loc QuantiseTIdeal.main_arg0) = X at hok ⊢
      have k := Blocks.scales_eq QuantiseTReferenceIdeal.Gen.bitsLt_bf16_f32 QuantiseTReferenceIdeal.Gen.shapeCasts_S2x16384x8192_S2x128x128x32x256 QuantiseTReferenceIdeal.Gen.reducesTo_S2x128x128x32x256_S2x128x32_d2_4 QuantiseTReferenceIdeal.Gen.h_S_
        QuantiseTReferenceIdeal.Gen.bcast_S2x128x32_S2x128x1x32x1_0_1_3 QuantiseTReferenceIdeal.Gen.bcast_S_S2x128x1x32x1 hok QuantiseTReferenceIdeal.Gen.shapeCasts_S2x128x1x32x1_S2x128x1x32
      unfold Blocks.pows Blocks.exponents Blocks.expos Blocks.peaks Blocks.split Blocks.logTwo at k
      exact k
    · have hok : Blocks.Ok (m ((c.tc : Thread _ _).loc QuantiseTIdeal.main_arg0)) := Blocks.ok _ (hpre c)
      refine Eq.trans ?_ (QuantiseTIdeal.Heads.final3 m c).symm
      generalize m ((c.tc : Thread _ _).loc QuantiseTIdeal.main_arg0) = X at hok ⊢
      have k := Blocks.codesT_eq QuantiseTReferenceIdeal.Gen.bitsLt_bf16_f32 QuantiseTReferenceIdeal.Gen.shapeCasts_S2x16384x8192_S2x128x128x32x256 QuantiseTReferenceIdeal.Gen.reducesTo_S2x128x128x32x256_S2x128x32_d2_4 QuantiseTReferenceIdeal.Gen.h_S_
        QuantiseTReferenceIdeal.Gen.bcast_S2x128x32_S2x128x1x32x1_0_1_3 QuantiseTReferenceIdeal.Gen.bcast_S_S2x128x1x32x1 QuantiseTReferenceIdeal.Gen.bcast_S2x128x1x32x1_S2x128x128x32x256_0_1_2_3_4 QuantiseTReferenceIdeal.Gen.bcast_S_S2x128x128x32x256 hok QuantiseTReferenceIdeal.Gen.transposes_S2x128x128x32x256_S2x32x128x256x128_0_3_1_4_2
      unfold Blocks.coded Blocks.codes5 Blocks.pows Blocks.exponents Blocks.expos Blocks.peaks Blocks.split Blocks.logTwo at k
      exact k

end Cert.QuantiseTIdealValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Value
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_in_range
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseT
public import proofs.«01_k».proof.Proof.Gen.QuantiseT.Skeleton
public import proofs.«01_k».proof.Proof.Gen.QuantiseT.Launch
public import proofs.«01_k».proof.Proof.Gen.QuantiseT.Points
public import proofs.«01_k».proof.Proof.Gen.QuantiseT.Frame
public import proofs.«01_k».proof.Proof.Gen.QuantiseTIdeal
public import proofs.«01_k».proof.Proof.Gen.QuantiseTIdeal.Skeleton
public import proofs.«01_k».proof.Proof.Gen.QuantiseTIdeal.Launch
public import proofs.«01_k».proof.Proof.Gen.QuantiseTIdeal.Points
public import proofs.«01_k».proof.Proof.Gen.QuantiseTIdeal.Frame
public import proofs.«01_k».proof.Proof.Gen.QuantiseReferenceIdeal
public import proofs.«01_k».proof.Proof.Gen.QuantiseTReferenceIdeal
public import proofs.«01_k».proof.Proof.Gen.Pre_blocks_in_range
public import proofs.«01_k».proof.Proof.K.Run
public import proofs.«01_k».proof.Proof.KI.Run
public import proofs.«01_k».proof.Proof.Value.Precondition
public import proofs.«01_k».proof.Proof.Value.ReferenceArray
public import proofs.«01_k».proof.Proof.Quant.QuantiseClaim
public import proofs.«01_k».proof.Proof.Quant.QuantiseTClaim
public import Idealize.ShloMosaic.Adequacy
public import Idealize.ShloMosaic.Init

@[expose] public section

noncomputable section

namespace Cert.Proof

open Idealize.ShloMosaic Idealize.SL.Sem Cert.Kernel

/-- The two programs leave equal results at the exact instance, from equal arguments whose scales are in range. -/
theorem algebraic : Cert.algebraic_KernelIdeal_ReferenceIdeal_pre_scales_in_range (hKernelIdeal := Cert.KernelIdeal.Gen.facts)
    (hReferenceIdeal := Cert.ReferenceIdeal.Gen.facts) (hPre_scales_in_range := Cert.Pre_scales_in_range.Gen.facts) := by
  intro m g m' g' hpre hagree
  refine ⟨_, (θ_run _ _ _).mono (fun r h c => ⟨h.1 c, h.2 c⟩)
    (Cert.KernelIdeal.Body.run_result (hp := Cert.Pre_scales_in_range.Gen.facts) m g hpre), ?_⟩
  refine (θ_run _ _ _).mono (fun r h c => ⟨(h c).1.trans ?_, (h c).2⟩) (Cert.ReferenceIdeal.Value.run_blocks (F := Ideal) m' g')
  obtain ⟨e0, e1, e2, e3, e4, e5⟩ := hagree c
  refine (Cert.ReferenceIdeal.Body.final m' c).trans ?_
  rw [e0, e1, e2, e3, e4, e5]
  rfl

/-- All the claims. -/
theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts,
  Cert.QuantiseT.Gen.facts, Cert.QuantiseTIdeal.Gen.facts, Cert.QuantiseTReferenceIdeal.Gen.facts,
  Cert.Pre_scales_in_range.Gen.facts, Cert.Pre_blocks_in_range.Gen.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Gen.frame m ρ,
  fun m ρ _ => Cert.ReferenceIdeal.Gen.frame m ρ,
  fun m ρ _ => Cert.Quantise.Gen.frame m ρ,
  fun m ρ _ => Cert.QuantiseIdeal.Gen.frame m ρ,
  fun m ρ _ => Cert.QuantiseIdeal.Gen.frame m ρ,
  Cert.QuantiseIdealValue.frame,
  Cert.QuantiseIdealValue.frame_pre,
  fun m ρ _ => Cert.QuantiseT.Gen.frame m ρ,
  fun m ρ _ => Cert.QuantiseTIdeal.Gen.frame m ρ,
  fun m ρ _ => Cert.QuantiseTIdeal.Gen.frame m ρ,
  Cert.QuantiseTIdealValue.frame,
  Cert.QuantiseTIdealValue.frame_pre,
  IdealRules.named_const.statement Cert.KernelIdeal.κ "cap_log2e" .f32 0x429044FE#32 _ rfl,
  algebraic,
  trivial,
  Cert.QuantiseIdealValue.algebraic,
  trivial,
  Cert.QuantiseTIdealValue.algebraic⟩

end Cert.Proof

end
